-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValueRefIdeal (m : (ℓ : Loc Cert.KeyValueRefIdeal.nD Cert.KeyValueRefIdeal.τ Cert.KeyValueRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenIdeal_largest_finite [hPre_largest_finite : Cert.Pre_largest_finite.Facts] (m : (ℓ : Loc Cert.OutEvenIdeal.nD Cert.OutEvenIdeal.τ Cert.OutEvenIdeal.sig) → Buf (Elt Ideal) ℓ) : Prop :=
  ∀ c : Dev Cert.OutEvenIdeal.nD,
    (Cert.Pre_largest_finite.fn (F := Ideal) (m ((c.tc : Thread Cert.OutEvenIdeal.nD Cert.OutEvenIdeal.τ).loc Cert.OutEvenIdeal.main_arg0)) (m ((c.tc : Thread Cert.OutEvenIdeal.nD Cert.OutEvenIdeal.τ).loc Cert.OutEvenIdeal.main_arg1)) (m ((c.tc : Thread Cert.OutEvenIdeal.nD Cert.OutEvenIdeal.τ).loc Cert.OutEvenIdeal.main_arg2)) (m ((c.tc : Thread Cert.OutEvenIdeal.nD Cert.OutEvenIdeal.τ).loc Cert.OutEvenIdeal.main_arg3)) (m ((c.tc : Thread Cert.OutEvenIdeal.nD Cert.OutEvenIdeal.τ).loc Cert.OutEvenIdeal.main_arg4)) (m ((c.tc : Thread Cert.OutEvenIdeal.nD Cert.OutEvenIdeal.τ).loc Cert.OutEvenIdeal.main_arg5)) (m ((c.tc : Thread Cert.OutEvenIdeal.nD Cert.OutEvenIdeal.τ).loc Cert.OutEvenIdeal.main_arg6)) (m ((c.tc : Thread Cert.OutEvenIdeal.nD Cert.OutEvenIdeal.τ).loc Cert.OutEvenIdeal.main_arg7)) (m ((c.tc : Thread Cert.OutEvenIdeal.nD Cert.OutEvenIdeal.τ).loc Cert.OutEvenIdeal.main_arg8)) (m ((c.tc : Thread Cert.OutEvenIdeal.nD Cert.OutEvenIdeal.τ).loc Cert.OutEvenIdeal.main_arg9))) = (fun _ => 1#1)

def Pre_OutEvenRefIdeal (m : (ℓ : Loc Cert.OutEvenRefIdeal.nD Cert.OutEvenRefIdeal.τ Cert.OutEvenRefIdeal.sig) → Buf (Elt Ideal) ℓ) : Prop :=
  True

def Pre_OutEvenRefIdeal_largest_finite [hPre_largest_finite : Cert.Pre_largest_finite.Facts] (m : (ℓ : Loc Cert.OutEvenRefIdeal.nD Cert.OutEvenRefIdeal.τ Cert.OutEvenRefIdeal.sig) → Buf (Elt Ideal) ℓ) : Prop :=
  ∀ c : Dev Cert.OutEvenRefIdeal.nD,
    (Cert.Pre_largest_finite.fn (F := Ideal) (m ((c.tc : Thread Cert.OutEvenRefIdeal.nD Cert.OutEvenRefIdeal.τ).loc Cert.OutEvenRefIdeal.main_arg0)) (m ((c.tc : Thread Cert.OutEvenRefIdeal.nD Cert.OutEvenRefIdeal.τ).loc Cert.OutEvenRefIdeal.main_arg1)) (m ((c.tc : Thread Cert.OutEvenRefIdeal.nD Cert.OutEvenRefIdeal.τ).loc Cert.OutEvenRefIdeal.main_arg2)) (m ((c.tc : Thread Cert.OutEvenRefIdeal.nD Cert.OutEvenRefIdeal.τ).loc Cert.OutEvenRefIdeal.main_arg3)) (m ((c.tc : Thread Cert.OutEvenRefIdeal.nD Cert.OutEvenRefIdeal.τ).loc Cert.OutEvenRefIdeal.main_arg4)) (m ((c.tc : Thread Cert.OutEvenRefIdeal.nD Cert.OutEvenRefIdeal.τ).loc Cert.OutEvenRefIdeal.main_arg5)) (m ((c.tc : Thread Cert.OutEvenRefIdeal.nD Cert.OutEvenRefIdeal.τ).loc Cert.OutEvenRefIdeal.main_arg6)) (m ((c.tc : Thread Cert.OutEvenRefIdeal.nD Cert.OutEvenRefIdeal.τ).loc Cert.OutEvenRefIdeal.main_arg7)) (m ((c.tc : Thread Cert.OutEvenRefIdeal.nD Cert.OutEvenRefIdeal.τ).loc Cert.OutEvenRefIdeal.main_arg8)) (m ((c.tc : Thread Cert.OutEvenRefIdeal.nD Cert.OutEvenRefIdeal.τ).loc Cert.OutEvenRefIdeal.main_arg9))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1)
      ∧ r.2.mem ((c.tc : Thread Cert.KeyValue.nD Cert.KeyValue.τ).loc Cert.KeyValue.main_arg2) = m ((c.tc : Thread Cert.KeyValue.nD Cert.KeyValue.τ).loc Cert.KeyValue.main_arg2))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
      ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2))
      ∧ r.2.sem = fun _ => 0)

def quiescent_KeyValueRefIdeal [hKeyValueRefIdeal : Cert.KeyValueRefIdeal.Facts] : Prop :=
  ∀ (m : (ℓ : Loc Cert.KeyValueRefIdeal.nD Cert.KeyValueRefIdeal.τ Cert.KeyValueRefIdeal.sig) → Buf (Elt Ideal) ℓ) (g : Dev Cert.KeyValueRefIdeal.nD → PrngReg), Pre_KeyValueRefIdeal m →
    θ_run (Cert.KeyValueRefIdeal.defs (F := Ideal)) (onTc (τ := Cert.KeyValueRefIdeal.τ) (Cert.KeyValueRefIdeal.main (F := Ideal))) ⟨m, fun _ => 0, g⟩ (fun r => (∀ c : Dev Cert.KeyValueRefIdeal.nD,
      r.2.mem ((c.tc : Thread Cert.KeyValueRefIdeal.nD Cert.KeyValueRefIdeal.τ).loc Cert.KeyValueRefIdeal.main_arg0) = m ((c.tc : Thread Cert.KeyValueRefIdeal.nD Cert.KeyValueRefIdeal.τ).loc Cert.KeyValueRefIdeal.main_arg0)
      ∧ r.2.mem ((c.tc : Thread Cert.KeyValueRefIdeal.nD Cert.KeyValueRefIdeal.τ).loc Cert.KeyValueRefIdeal.main_arg1) = m ((c.tc : Thread Cert.KeyValueRefIdeal.nD Cert.KeyValueRefIdeal.τ).loc Cert.KeyValueRefIdeal.main_arg1)
      ∧ r.2.mem ((c.tc : Thread Cert.KeyValueRefIdeal.nD Cert.KeyValueRefIdeal.τ).loc Cert.KeyValueRefIdeal.main_arg2) = m ((c.tc : Thread Cert.KeyValueRefIdeal.nD Cert.KeyValueRefIdeal.τ).loc Cert.KeyValueRefIdeal.main_arg2))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5)
      ∧ r.2.mem ((c.tc : Thread Cert.OutEven.nD Cert.OutEven.τ).loc Cert.OutEven.main_arg6) = m ((c.tc : Thread Cert.OutEven.nD Cert.OutEven.τ).loc Cert.OutEven.main_arg6)
      ∧ r.2.mem ((c.tc : Thread Cert.OutEven.nD Cert.OutEven.τ).loc Cert.OutEven.main_arg7) = m ((c.tc : Thread Cert.OutEven.nD Cert.OutEven.τ).loc Cert.OutEven.main_arg7)
      ∧ r.2.mem ((c.tc : Thread Cert.OutEven.nD Cert.OutEven.τ).loc Cert.OutEven.main_arg8) = m ((c.tc : Thread Cert.OutEven.nD Cert.OutEven.τ).loc Cert.OutEven.main_arg8)
      ∧ r.2.mem ((c.tc : Thread Cert.OutEven.nD Cert.OutEven.τ).loc Cert.OutEven.main_arg9) = m ((c.tc : Thread Cert.OutEven.nD Cert.OutEven.τ).loc Cert.OutEven.main_arg9))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
      ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7)
      ∧ r.2.mem ((c.tc : Thread Cert.OutEvenIdeal.nD Cert.OutEvenIdeal.τ).loc Cert.OutEvenIdeal.main_arg8) = m ((c.tc : Thread Cert.OutEvenIdeal.nD Cert.OutEvenIdeal.τ).loc Cert.OutEvenIdeal.main_arg8)
      ∧ r.2.mem ((c.tc : Thread Cert.OutEvenIdeal.nD Cert.OutEvenIdeal.τ).loc Cert.OutEvenIdeal.main_arg9) = m ((c.tc : Thread Cert.OutEvenIdeal.nD Cert.OutEvenIdeal.τ).loc Cert.OutEvenIdeal.main_arg9))
      ∧ r.2.sem = fun _ => 0)

def quiescent_OutEvenIdeal_pre_largest_finite [hOutEvenIdeal : Cert.OutEvenIdeal.Facts] [hPre_largest_finite : Cert.Pre_largest_finite.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal_largest_finite m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
      ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7)
      ∧ r.2.mem ((c.tc : Thread Cert.OutEvenIdeal.nD Cert.OutEvenIdeal.τ).loc Cert.OutEvenIdeal.main_arg8) = m ((c.tc : Thread Cert.OutEvenIdeal.nD Cert.OutEvenIdeal.τ).loc Cert.OutEvenIdeal.main_arg8)
      ∧ r.2.mem ((c.tc : Thread Cert.OutEvenIdeal.nD Cert.OutEvenIdeal.τ).loc Cert.OutEvenIdeal.main_arg9) = m ((c.tc : Thread Cert.OutEvenIdeal.nD Cert.OutEvenIdeal.τ).loc Cert.OutEvenIdeal.main_arg9))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)
      ∧ r.2.mem ((c.tc : Thread Cert.OutEvenRefIdeal.nD Cert.OutEvenRefIdeal.τ).loc Cert.OutEvenRefIdeal.main_arg5) = m ((c.tc : Thread Cert.OutEvenRefIdeal.nD Cert.OutEvenRefIdeal.τ).loc Cert.OutEvenRefIdeal.main_arg5)
      ∧ r.2.mem ((c.tc : Thread Cert.OutEvenRefIdeal.nD Cert.OutEvenRefIdeal.τ).loc Cert.OutEvenRefIdeal.main_arg6) = m ((c.tc : Thread Cert.OutEvenRefIdeal.nD Cert.OutEvenRefIdeal.τ).loc Cert.OutEvenRefIdeal.main_arg6)
      ∧ r.2.mem ((c.tc : Thread Cert.OutEvenRefIdeal.nD Cert.OutEvenRefIdeal.τ).loc Cert.OutEvenRefIdeal.main_arg7) = m ((c.tc : Thread Cert.OutEvenRefIdeal.nD Cert.OutEvenRefIdeal.τ).loc Cert.OutEvenRefIdeal.main_arg7)
      ∧ r.2.mem ((c.tc : Thread Cert.OutEvenRefIdeal.nD Cert.OutEvenRefIdeal.τ).loc Cert.OutEvenRefIdeal.main_arg8) = m ((c.tc : Thread Cert.OutEvenRefIdeal.nD Cert.OutEvenRefIdeal.τ).loc Cert.OutEvenRefIdeal.main_arg8)
      ∧ r.2.mem ((c.tc : Thread Cert.OutEvenRefIdeal.nD Cert.OutEvenRefIdeal.τ).loc Cert.OutEvenRefIdeal.main_arg9) = m ((c.tc : Thread Cert.OutEvenRefIdeal.nD Cert.OutEvenRefIdeal.τ).loc Cert.OutEvenRefIdeal.main_arg9))
      ∧ r.2.sem = fun _ => 0)

def quiescent_OutEvenRefIdeal_pre_largest_finite [hOutEvenRefIdeal : Cert.OutEvenRefIdeal.Facts] [hPre_largest_finite : Cert.Pre_largest_finite.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal_largest_finite m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)
      ∧ r.2.mem ((c.tc : Thread Cert.OutEvenRefIdeal.nD Cert.OutEvenRefIdeal.τ).loc Cert.OutEvenRefIdeal.main_arg5) = m ((c.tc : Thread Cert.OutEvenRefIdeal.nD Cert.OutEvenRefIdeal.τ).loc Cert.OutEvenRefIdeal.main_arg5)
      ∧ r.2.mem ((c.tc : Thread Cert.OutEvenRefIdeal.nD Cert.OutEvenRefIdeal.τ).loc Cert.OutEvenRefIdeal.main_arg6) = m ((c.tc : Thread Cert.OutEvenRefIdeal.nD Cert.OutEvenRefIdeal.τ).loc Cert.OutEvenRefIdeal.main_arg6)
      ∧ r.2.mem ((c.tc : Thread Cert.OutEvenRefIdeal.nD Cert.OutEvenRefIdeal.τ).loc Cert.OutEvenRefIdeal.main_arg7) = m ((c.tc : Thread Cert.OutEvenRefIdeal.nD Cert.OutEvenRefIdeal.τ).loc Cert.OutEvenRefIdeal.main_arg7)
      ∧ r.2.mem ((c.tc : Thread Cert.OutEvenRefIdeal.nD Cert.OutEvenRefIdeal.τ).loc Cert.OutEvenRefIdeal.main_arg8) = m ((c.tc : Thread Cert.OutEvenRefIdeal.nD Cert.OutEvenRefIdeal.τ).loc Cert.OutEvenRefIdeal.main_arg8)
      ∧ r.2.mem ((c.tc : Thread Cert.OutEvenRefIdeal.nD Cert.OutEvenRefIdeal.τ).loc Cert.OutEvenRefIdeal.main_arg9) = m ((c.tc : Thread Cert.OutEvenRefIdeal.nD Cert.OutEvenRefIdeal.τ).loc Cert.OutEvenRefIdeal.main_arg9))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v24)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v24) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v87) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v16_0)) (v1 : (c : Dev Cert.EvenInIdeal.nD) → Buf (Elt Ideal) ((c.tc : Thread Cert.EvenInIdeal.nD Cert.EvenInIdeal.τ).loc Cert.EvenInIdeal.main_v16_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v16_0) = v0 c
          ∧ r.2.mem ((c.tc : Thread Cert.EvenInIdeal.nD Cert.EvenInIdeal.τ).loc Cert.EvenInIdeal.main_v16_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v29) = v0 c
          ∧ r.2.mem ((c.tc : Thread Cert.EvenInRefIdeal.nD Cert.EvenInRefIdeal.τ).loc Cert.EvenInRefIdeal.main_v31) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v22_0)) (v1 : (c : Dev Cert.OddInIdeal.nD) → Buf (Elt Ideal) ((c.tc : Thread Cert.OddInIdeal.nD Cert.OddInIdeal.τ).loc Cert.OddInIdeal.main_v22_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v22_0) = v0 c
          ∧ r.2.mem ((c.tc : Thread Cert.OddInIdeal.nD Cert.OddInIdeal.τ).loc Cert.OddInIdeal.main_v22_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v28) = v0 c
          ∧ r.2.mem ((c.tc : Thread Cert.OddInRefIdeal.nD Cert.OddInRefIdeal.τ).loc Cert.OddInRefIdeal.main_v30) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4))

def preserves_KeyValue_KeyValueIdeal : Prop :=
  True

def algebraic_KeyValueIdeal_KeyValueRefIdeal [hKeyValueIdeal : Cert.KeyValueIdeal.Facts] [hKeyValueRefIdeal : Cert.KeyValueRefIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValueRefIdeal.nD Cert.KeyValueRefIdeal.τ Cert.KeyValueRefIdeal.sig) → Buf (Elt Ideal) ℓ) (g' : Dev Cert.KeyValueRefIdeal.nD → PrngReg), Pre_KeyValueIdeal m →
    (∀ c : Dev Cert.KeyValueIdeal.nD,
      m' ((c.tc : Thread Cert.KeyValueRefIdeal.nD Cert.KeyValueRefIdeal.τ).loc Cert.KeyValueRefIdeal.main_arg0) = m ((c.tc : Thread Cert.KeyValueIdeal.nD Cert.KeyValueIdeal.τ).loc Cert.KeyValueIdeal.main_arg0)
      ∧ m' ((c.tc : Thread Cert.KeyValueRefIdeal.nD Cert.KeyValueRefIdeal.τ).loc Cert.KeyValueRefIdeal.main_arg1) = m ((c.tc : Thread Cert.KeyValueIdeal.nD Cert.KeyValueIdeal.τ).loc Cert.KeyValueIdeal.main_arg1)
      ∧ m' ((c.tc : Thread Cert.KeyValueRefIdeal.nD Cert.KeyValueRefIdeal.τ).loc Cert.KeyValueRefIdeal.main_arg2) = m ((c.tc : Thread Cert.KeyValueIdeal.nD Cert.KeyValueIdeal.τ).loc Cert.KeyValueIdeal.main_arg2)) →
    ∃ (v0 : (c : Dev Cert.KeyValueIdeal.nD) → Buf (Elt Ideal) ((c.tc : Thread Cert.KeyValueIdeal.nD Cert.KeyValueIdeal.τ).loc Cert.KeyValueIdeal.main_v6)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v6) = v0 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1)
          ∧ r.2.mem ((c.tc : Thread Cert.KeyValueIdeal.nD Cert.KeyValueIdeal.τ).loc Cert.KeyValueIdeal.main_arg2) = m ((c.tc : Thread Cert.KeyValueIdeal.nD Cert.KeyValueIdeal.τ).loc Cert.KeyValueIdeal.main_arg2))
      ∧ θ_run (Cert.KeyValueRefIdeal.defs (F := Ideal)) (onTc (τ := Cert.KeyValueRefIdeal.τ) (Cert.KeyValueRefIdeal.main (F := Ideal))) ⟨m', fun _ => 0, g'⟩ (fun r => ∀ c : Dev Cert.KeyValueRefIdeal.nD,
          r.2.mem ((c.tc : Thread Cert.KeyValueRefIdeal.nD Cert.KeyValueRefIdeal.τ).loc Cert.KeyValueRefIdeal.main_v15) = v0 c
          ∧ r.2.mem ((c.tc : Thread Cert.KeyValueRefIdeal.nD Cert.KeyValueRefIdeal.τ).loc Cert.KeyValueRefIdeal.main_arg0) = m' ((c.tc : Thread Cert.KeyValueRefIdeal.nD Cert.KeyValueRefIdeal.τ).loc Cert.KeyValueRefIdeal.main_arg0)
          ∧ r.2.mem ((c.tc : Thread Cert.KeyValueRefIdeal.nD Cert.KeyValueRefIdeal.τ).loc Cert.KeyValueRefIdeal.main_arg1) = m' ((c.tc : Thread Cert.KeyValueRefIdeal.nD Cert.KeyValueRefIdeal.τ).loc Cert.KeyValueRefIdeal.main_arg1)
          ∧ r.2.mem ((c.tc : Thread Cert.KeyValueRefIdeal.nD Cert.KeyValueRefIdeal.τ).loc Cert.KeyValueRefIdeal.main_arg2) = m' ((c.tc : Thread Cert.KeyValueRefIdeal.nD Cert.KeyValueRefIdeal.τ).loc Cert.KeyValueRefIdeal.main_arg2))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)) →
    ∃ (v0 : (c : Dev Cert.OutOddIdeal.nD) → Buf (Elt Ideal) ((c.tc : Thread Cert.OutOddIdeal.nD Cert.OutOddIdeal.τ).loc Cert.OutOddIdeal.main_v4)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v4) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v6) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3))

def preserves_OutEven_OutEvenIdeal : Prop :=
  True

def algebraic_OutEvenIdeal_OutEvenRefIdeal_pre_largest_finite [hOutEvenIdeal : Cert.OutEvenIdeal.Facts] [hOutEvenRefIdeal : Cert.OutEvenRefIdeal.Facts] [hPre_largest_finite : Cert.Pre_largest_finite.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal_largest_finite m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)
      ∧ m' ((c.tc : Thread Cert.OutEvenRefIdeal.nD Cert.OutEvenRefIdeal.τ).loc Cert.OutEvenRefIdeal.main_arg5) = m ((c.tc : Thread Cert.OutEvenIdeal.nD Cert.OutEvenIdeal.τ).loc Cert.OutEvenIdeal.main_arg5)
      ∧ m' ((c.tc : Thread Cert.OutEvenRefIdeal.nD Cert.OutEvenRefIdeal.τ).loc Cert.OutEvenRefIdeal.main_arg6) = m ((c.tc : Thread Cert.OutEvenIdeal.nD Cert.OutEvenIdeal.τ).loc Cert.OutEvenIdeal.main_arg6)
      ∧ m' ((c.tc : Thread Cert.OutEvenRefIdeal.nD Cert.OutEvenRefIdeal.τ).loc Cert.OutEvenRefIdeal.main_arg7) = m ((c.tc : Thread Cert.OutEvenIdeal.nD Cert.OutEvenIdeal.τ).loc Cert.OutEvenIdeal.main_arg7)
      ∧ m' ((c.tc : Thread Cert.OutEvenRefIdeal.nD Cert.OutEvenRefIdeal.τ).loc Cert.OutEvenRefIdeal.main_arg8) = m ((c.tc : Thread Cert.OutEvenIdeal.nD Cert.OutEvenIdeal.τ).loc Cert.OutEvenIdeal.main_arg8)
      ∧ m' ((c.tc : Thread Cert.OutEvenRefIdeal.nD Cert.OutEvenRefIdeal.τ).loc Cert.OutEvenRefIdeal.main_arg9) = m ((c.tc : Thread Cert.OutEvenIdeal.nD Cert.OutEvenIdeal.τ).loc Cert.OutEvenIdeal.main_arg9)) →
    ∃ (v0 : (c : Dev Cert.OutEvenIdeal.nD) → Buf (Elt Ideal) ((c.tc : Thread Cert.OutEvenIdeal.nD Cert.OutEvenIdeal.τ).loc Cert.OutEvenIdeal.main_v4)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v4) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
          ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
          ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7)
          ∧ r.2.mem ((c.tc : Thread Cert.OutEvenIdeal.nD Cert.OutEvenIdeal.τ).loc Cert.OutEvenIdeal.main_arg8) = m ((c.tc : Thread Cert.OutEvenIdeal.nD Cert.OutEvenIdeal.τ).loc Cert.OutEvenIdeal.main_arg8)
          ∧ r.2.mem ((c.tc : Thread Cert.OutEvenIdeal.nD Cert.OutEvenIdeal.τ).loc Cert.OutEvenIdeal.main_arg9) = m ((c.tc : Thread Cert.OutEvenIdeal.nD Cert.OutEvenIdeal.τ).loc Cert.OutEvenIdeal.main_arg9))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v35) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4)
          ∧ r.2.mem ((c.tc : Thread Cert.OutEvenRefIdeal.nD Cert.OutEvenRefIdeal.τ).loc Cert.OutEvenRefIdeal.main_arg5) = m' ((c.tc : Thread Cert.OutEvenRefIdeal.nD Cert.OutEvenRefIdeal.τ).loc Cert.OutEvenRefIdeal.main_arg5)
          ∧ r.2.mem ((c.tc : Thread Cert.OutEvenRefIdeal.nD Cert.OutEvenRefIdeal.τ).loc Cert.OutEvenRefIdeal.main_arg6) = m' ((c.tc : Thread Cert.OutEvenRefIdeal.nD Cert.OutEvenRefIdeal.τ).loc Cert.OutEvenRefIdeal.main_arg6)
          ∧ r.2.mem ((c.tc : Thread Cert.OutEvenRefIdeal.nD Cert.OutEvenRefIdeal.τ).loc Cert.OutEvenRefIdeal.main_arg7) = m' ((c.tc : Thread Cert.OutEvenRefIdeal.nD Cert.OutEvenRefIdeal.τ).loc Cert.OutEvenRefIdeal.main_arg7)
          ∧ r.2.mem ((c.tc : Thread Cert.OutEvenRefIdeal.nD Cert.OutEvenRefIdeal.τ).loc Cert.OutEvenRefIdeal.main_arg8) = m' ((c.tc : Thread Cert.OutEvenRefIdeal.nD Cert.OutEvenRefIdeal.τ).loc Cert.OutEvenRefIdeal.main_arg8)
          ∧ r.2.mem ((c.tc : Thread Cert.OutEvenRefIdeal.nD Cert.OutEvenRefIdeal.τ).loc Cert.OutEvenRefIdeal.main_arg9) = m' ((c.tc : Thread Cert.OutEvenRefIdeal.nD Cert.OutEvenRefIdeal.τ).loc Cert.OutEvenRefIdeal.main_arg9))

def Claim : Prop :=
  ∃ (hMoe : Cert.Moe.Facts) (hMoeIdeal : Cert.MoeIdeal.Facts) (hMoeRefIdeal : Cert.MoeRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hKeyValue : Cert.KeyValue.Facts) (hKeyValueIdeal : Cert.KeyValueIdeal.Facts) (hKeyValueRefIdeal : Cert.KeyValueRefIdeal.Facts) (hOutOdd : Cert.OutOdd.Facts) (hOutOddIdeal : Cert.OutOddIdeal.Facts) (hOutOddRefIdeal : Cert.OutOddRefIdeal.Facts) (hOutEven : Cert.OutEven.Facts) (hOutEvenIdeal : Cert.OutEvenIdeal.Facts) (hOutEvenRefIdeal : Cert.OutEvenRefIdeal.Facts) (hPre_largest_finite : Cert.Pre_largest_finite.Facts),
    quiescent_Moe (hMoe := hMoe)
    ∧ quiescent_MoeIdeal (hMoeIdeal := hMoeIdeal)
    ∧ quiescent_MoeRefIdeal (hMoeRefIdeal := hMoeRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_KeyValue (hKeyValue := hKeyValue)
    ∧ quiescent_KeyValueIdeal (hKeyValueIdeal := hKeyValueIdeal)
    ∧ quiescent_KeyValueRefIdeal (hKeyValueRefIdeal := hKeyValueRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_OutEven (hOutEven := hOutEven)
    ∧ quiescent_OutEvenIdeal (hOutEvenIdeal := hOutEvenIdeal)
    ∧ quiescent_OutEvenIdeal_pre_largest_finite (hOutEvenIdeal := hOutEvenIdeal) (hPre_largest_finite := hPre_largest_finite)
    ∧ quiescent_OutEvenRefIdeal (hOutEvenRefIdeal := hOutEvenRefIdeal)
    ∧ quiescent_OutEvenRefIdeal_pre_largest_finite (hOutEvenRefIdeal := hOutEvenRefIdeal) (hPre_largest_finite := hPre_largest_finite)
    ∧ preserves_Moe_MoeIdeal
    ∧ algebraic_MoeIdeal_MoeRefIdeal (hMoeIdeal := hMoeIdeal) (hMoeRefIdeal := hMoeRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_KeyValue_KeyValueIdeal
    ∧ algebraic_KeyValueIdeal_KeyValueRefIdeal (hKeyValueIdeal := hKeyValueIdeal) (hKeyValueRefIdeal := hKeyValueRefIdeal)
    ∧ preserves_OutOdd_OutOddIdeal
    ∧ algebraic_OutOddIdeal_OutOddRefIdeal (hOutOddIdeal := hOutOddIdeal) (hOutOddRefIdeal := hOutOddRefIdeal)
    ∧ preserves_OutEven_OutEvenIdeal
    ∧ algebraic_OutEvenIdeal_OutEvenRefIdeal_pre_largest_finite (hOutEvenIdeal := hOutEvenIdeal) (hOutEvenRefIdeal := hOutEvenRefIdeal) (hPre_largest_finite := hPre_largest_finite)
-- ==== Pre_largest_finite.lean ====
abbrev S4x8192x512 : Shape := ⟨3, ![4, 8192, 512]⟩
abbrev S32768x256 : Shape := ⟨2, ![32768, 256]⟩
abbrev S768x1024 : Shape := ⟨2, ![768, 1024]⟩
abbrev S4x8192x1024 : Shape := ⟨3, ![4, 8192, 1024]⟩
abbrev S4x1024 : Shape := ⟨2, ![4, 1024]⟩
abbrev S_ : Shape := ⟨0, ![]⟩

class Facts : Prop where
  bcast_S_S32768x256 : S_.BroadcastsInDim S32768x256 (![] : Fin 0 → Fin S32768x256.rank)

variable [Facts]

def fn {F : FTy → Type} [FloatOps F] (main_arg0 : FVec F S4x8192x512 .bf16) (main_arg1 : FVec F S32768x256 .f32) (main_arg2 : FVec F S32768x256 .f32) (main_arg3 : FVec F S32768x256 .f32) (main_arg4 : FVec F S32768x256 .f32) (main_arg5 : FVec F S32768x256 .f32) (main_arg6 : FVec F S32768x256 .f32) (main_arg7 : FVec F S768x1024 .f32) (main_arg8 : FVec F S4x8192x1024 .f32) (main_arg9 : FVec F S4x1024 .f32) : IVec S32768x256 1 :=
  let main_v0 : FVec F S32768x256 .f32 := maximumf main_arg4 main_arg5
  let main_v1 : FVec F S32768x256 .f32 := maximumf main_v0 main_arg6
  let main_v2 : FVec F S32768x256 .f32 := Host.absf main_v1
  let main_cst : FVec F S_ .f32 := constant S_ .f32 0x7F800000#32
  let main_v3 : FVec F S32768x256 .f32 := broadcastInDim S32768x256 ![] bcast_S_S32768x256 main_cst
  let main_v4 : IVec S32768x256 1 := cmpf .olt main_v2 main_v3
  main_v4
-- ==== Moe.lean ====
abbrev S139264x512 : Shape := ⟨2, ![139264, 512]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S544 : Shape := ⟨1, ![544]⟩
abbrev S544x1 : Shape := ⟨2, ![544, 1]⟩
abbrev S1x32 : Shape := ⟨2, ![1, 32]⟩
abbrev S544x32 : Shape := ⟨2, ![544, 32]⟩
abbrev S1 : Shape := ⟨1, ![1]⟩
abbrev S32x1x2048 : Shape := ⟨3, ![32, 1, 2048]⟩
abbrev S32x1x1024 : Shape := ⟨3, ![32, 1, 1024]⟩
abbrev S139264x1024 : Shape := ⟨2, ![139264, 1024]⟩
abbrev S256x512 : Shape := ⟨2, ![256, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x1024 : Shape := ⟨2, ![256, 1024]⟩
abbrev S1024x2048 : Shape := ⟨2, ![1024, 2048]⟩
abbrev S1024x1024 : Shape := ⟨2, ![1024, 1024]⟩
abbrev S1x1024x256 : Shape := ⟨3, ![1, 1024, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 71
  | .vmem => 15
  | .smem => 2
  | _ => 0

abbrev bufTy : (tb : Table) → Fin (tcTables nBuf tb) → BufTy
  | .hbm, ⟨0, _⟩ => ⟨S139264x512, .i32⟩
  | .hbm, ⟨1, _⟩ => ⟨S32, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S544, .i32⟩
  | .hbm, ⟨37, _⟩ => ⟨S544x1, .i32⟩
  | .hbm, ⟨38, _⟩ => ⟨S_, .i32⟩
  | .hbm, ⟨39, _⟩ => ⟨S544x1, .i32⟩
  | .hbm, ⟨40, _⟩ => ⟨S544x1, .i32⟩
  | .hbm, ⟨41, _⟩ => ⟨S1x32, .i32⟩
  | .hbm, ⟨42, _⟩ => ⟨S544x32, .i32⟩
  | .hbm, ⟨43, _⟩ => ⟨S544x32, .i32⟩
  | .hbm, ⟨44, _⟩ => ⟨S544x32, .i1⟩
  | .hbm, ⟨45, _⟩ => ⟨S544x32, .i32⟩
  | .hbm, ⟨46, _⟩ => ⟨S_, .i32⟩
  | .hbm, ⟨47, _⟩ => ⟨S544, .i32⟩
  | .hbm, ⟨48, _⟩ => ⟨S_, .i32⟩
  | .hbm, ⟨49, _⟩ => ⟨S544, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S32x1x2048, .f32⟩
  | .hbm, ⟨69, _⟩ => ⟨S32x1x1024, .f32⟩
  | .hbm, ⟨70, _⟩ => ⟨S139264x1024, .f32⟩
  | .local _ .vmem, ⟨0, _⟩ => ⟨S256x512, .i32⟩
  | .local _ .vmem, ⟨1, _⟩ => ⟨S256x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S1024x2048, .bf16⟩
  | .local _ .vmem, ⟨14, _⟩ => ⟨S1024x1024, .bf16⟩
  | .local _ .smem, ⟨0, _⟩ => ⟨S544, .i32⟩
  | .local _ .smem, ⟨1, _⟩ => ⟨S1, .i32⟩
  | _, _ => ⟨S139264x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeRefIdeal.lean ====
abbrev S139264x512 : Shape := ⟨2, ![139264, 512]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S139264x1024 : Shape := ⟨2, ![139264, 1024]⟩
abbrev S544x256x1024 : Shape := ⟨3, ![544, 256, 1024]⟩
abbrev S544 : Shape := ⟨1, ![544]⟩
abbrev S1x32 : Shape := ⟨2, ![1, 32]⟩
abbrev S544x1 : Shape := ⟨2, ![544, 1]⟩
abbrev S544x32 : Shape := ⟨2, ![544, 32]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S1 : Shape := ⟨1, ![1]⟩
abbrev S544x1x1 : Shape := ⟨3, ![544, 1, 1]⟩

abbrev nBuf : Space → Nat
  | .hbm => 156
  | .vmem => 0
  | .smem => 0
  | _ => 0

abbrev hbmTy0_0 (i : Nat) : BufTy := match i % 128 with
  | 0 => ⟨S139264x512, .i32⟩
  | 1 => ⟨S32, .i32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S139264x512, .i32⟩
  | 8 => ⟨S139264x512, .i32⟩
  | 9 => ⟨S139264x512, .f32⟩
  | 10 => ⟨S_, .i32⟩
  | 11 => ⟨S139264x512, .i32⟩
  | 12 => ⟨S139264x512, .i32⟩
  | 13 => ⟨S139264x512, .f32⟩
  | 14 => ⟨S139264x1024, .f32⟩
  | 15 => ⟨S544x256x1024, .f32⟩
  | 16 => ⟨S_, .i32⟩
  | 17 => ⟨S32, .i32⟩
  | 18 => ⟨S32, .i32⟩
  | 19 => ⟨S_, .i32⟩
  | 20 => ⟨S_, .i32⟩
  | 21 => ⟨S32, .i32⟩
  | 22 => ⟨S32, .i32⟩
  | 23 => ⟨S32, .i32⟩
  | 24 => ⟨S_, .i32⟩
  | 25 => ⟨S32, .i32⟩
  | 26 => ⟨S32, .i1⟩
  | 27 => ⟨S32, .i32⟩
  | 28 => ⟨S32, .i32⟩
  | 29 => ⟨S_, .i32⟩
  | 30 => ⟨S32, .i32⟩
  | 31 => ⟨S32, .i1⟩
  | 32 => ⟨S32, .i1⟩
  | 33 => ⟨S_, .i32⟩
  | 34 => ⟨S32, .i32⟩
  | 35 => ⟨S32, .i32⟩
  | 36 => ⟨S32, .i32⟩
  | 37 => ⟨S_, .i32⟩
  | 38 => ⟨S32, .i32⟩
  | 39 => ⟨S32, .i32⟩
  | 40 => ⟨S_, .i32⟩
  | 41 => ⟨S_, .i32⟩
  | 42 => ⟨S32, .i32⟩
  | 43 => ⟨S544, .i32⟩
  | 44 => ⟨S_, .i32⟩
  | 45 => ⟨S544, .i32⟩
  | 46 => ⟨S544, .i32⟩
  | 47 => ⟨S1x32, .i32⟩
  | 48 => ⟨S544x1, .i32⟩
  | 49 => ⟨S544x32, .i32⟩
  | 50 => ⟨S544x32, .i32⟩
  | 51 => ⟨S544x32, .i1⟩
  | 52 => ⟨S544x32, .i32⟩
  | 53 => ⟨S_, .i32⟩
  | 54 => ⟨S544, .i32⟩
  | 55 => ⟨S_, .i32⟩
  | 56 => ⟨S544, .i32⟩
  | 57 => ⟨S544, .i32⟩
  | 58 => ⟨S_, .i32⟩
  | 59 => ⟨S544, .i32⟩
  | 60 => ⟨S544, .i1⟩
  | 61 => ⟨S_, .i32⟩
  | 62 => ⟨S544, .i32⟩
  | 63 => ⟨S544, .i32⟩
  | 64 => ⟨S544, .i32⟩
  | 65 => ⟨S544x1, .i32⟩
  | 66 => ⟨S544x1024x2048, .f32⟩
  | 67 => ⟨S544x256x2048, .f32⟩
  | 68 => ⟨S_, .i32⟩
  | 69 => ⟨S544, .i32⟩
  | 70 => ⟨S544, .i1⟩
  | 71 => ⟨S_, .i32⟩
  | 72 => ⟨S544, .i32⟩
  | 73 => ⟨S544, .i32⟩
  | 74 => ⟨S544, .i32⟩
  | 75 => ⟨S544x1, .i32⟩
  | 76 => ⟨S544x2048, .f32⟩
  | 77 => ⟨S544x1x2048, .f32⟩
  | 78 => ⟨S544x256x2048, .f32⟩
  | 79 => ⟨S544x256x2048, .f32⟩
  | 80 => ⟨S544x256x1024, .f32⟩
  | 81 => ⟨S_, .f32⟩
  | 82 => ⟨S544x256x1024, .f32⟩
  | 83 => ⟨S544x256x1024, .f32⟩
  | 84 => ⟨S544x256x1024, .f32⟩
  | 85 => ⟨S_, .f32⟩
  | 86 => ⟨S_, .f32⟩
  | 87 => ⟨S_, .f32⟩
  | 88 => ⟨S544x256x1024, .f32⟩
  | 89 => ⟨S544x256x1024, .f32⟩
  | 90 => ⟨S_, .f32⟩
  | 91 => ⟨S544x256x1024, .f32⟩
  | 92 => ⟨S544x256x1024, .f32⟩
  | 93 => ⟨S_, .f32⟩
  | 94 => ⟨S544x256x1024, .f32⟩
  | 95 => ⟨S544x256x1024, .f32⟩
  | 96 => ⟨S544x256x1024, .f32⟩
  | 97 => ⟨S544x256x1024, .f32⟩
  | 98 => ⟨S_, .f32⟩
  | 99 => ⟨S544x256x1024, .f32⟩
  | 100 => ⟨S544x256x1024, .f32⟩
  | 101 => ⟨S_, .f32⟩
  | 102 => ⟨S544x256x1024, .f32⟩
  | 103 => ⟨S544x256x1024, .f32⟩
  | 104 => ⟨S544x256x1024, .f32⟩
  | 105 => ⟨S_, .f32⟩
  | 106 => ⟨S544x256x1024, .f32⟩
  | 107 => ⟨S544x256x1024, .f32⟩
  | 108 => ⟨S544x256x1024, .f32⟩
  | 109 => ⟨S_, .i32⟩
  | 110 => ⟨S544, .i32⟩
  | 111 => ⟨S544, .i1⟩
  | 112 => ⟨S_, .i32⟩
  | 113 => ⟨S544, .i32⟩
  | 114 => ⟨S544, .i32⟩
  | 115 => ⟨S544, .i32⟩
  | 116 => ⟨S544x1, .i32⟩
  | 117 => ⟨S544x1024x1024, .f32⟩
  | 118 => ⟨S544x256x1024, .f32⟩
  | 119 => ⟨S_, .i32⟩
  | 120 => ⟨S544, .i32⟩
  | 121 => ⟨S544, .i1⟩
  | 122 => ⟨S_, .i32⟩
  | 123 => ⟨S544, .i32⟩
  | 124 => ⟨S544, .i32⟩
  | 125 => ⟨S544, .i32⟩
  | 126 => ⟨S544x1, .i32⟩
  | 127 => ⟨S544x1024, .f32⟩
  | _ => ⟨S139264x512, .i32⟩

abbrev hbmTy0_1 (i : Nat) : BufTy := match i % 128 with
  | 0 => ⟨S544x1x1024, .f32⟩
  | 1 => ⟨S544x256x1024, .f32⟩
  | 2 => ⟨S544x256x1024, .f32⟩
  | 3 => ⟨S544, .i32⟩
  | 4 => ⟨S1, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i1⟩
  | 15 => ⟨S_, .i1⟩
  | 16 => ⟨S_, .i32⟩
  | 17 => ⟨S_, .i32⟩
  | 18 => ⟨S_, .i32⟩
  | 19 => ⟨S544, .i32⟩
  | 20 => ⟨S544, .i1⟩
  | 21 => ⟨S544x1x1, .i1⟩
  | 22 => ⟨S_, .f32⟩
  | 23 => ⟨S_, .f32⟩
  | 24 => ⟨S544x256x1024, .i1⟩
  | 25 => ⟨S544x256x1024, .f32⟩
  | 26 => ⟨S544x256x1024, .f32⟩
  | 27 => ⟨S139264x1024, .f32⟩
  | _ => ⟨S139264x512, .i32⟩

abbrev hbmTy (i : Nat) : BufTy := match i / 128 with
  | 0 => hbmTy0_0 i
  | 1 => hbmTy0_1 i
  | _ => ⟨S139264x512, .i32⟩

abbrev bufTy : (tb : Table) → Fin (tcTables nBuf tb) → BufTy
  | .hbm, ⟨i, _⟩ => hbmTy i
  | _, _ => ⟨S139264x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_call1_call0_c : Ref sig .tc := ⟨.hbm, 40, rfl⟩
abbrev main_call1_call0_v0 : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_5 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_9 : Ref sig .tc := ⟨.hbm, 68, rfl⟩
abbrev main_v34 : Ref sig .tc := ⟨.hbm, 69, rfl⟩
abbrev main_v35 : Ref sig .tc := ⟨.hbm, 70, rfl⟩
abbrev main_c_10 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_11 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v48 : Ref sig .tc := ⟨.hbm, 92, rfl⟩
abbrev main_cst_13 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_14 : Ref sig .tc := ⟨.hbm, 98, rfl⟩
abbrev main_v53 : Ref sig .tc := ⟨.hbm, 99, rfl⟩
abbrev main_v54 : Ref sig .tc := ⟨.hbm, 100, rfl⟩
abbrev main_cst_15 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_16 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_17 : Ref sig .tc := ⟨.hbm, 109, rfl⟩
abbrev main_v61 : Ref sig .tc := ⟨.hbm, 110, rfl⟩
abbrev main_v62 : Ref sig .tc := ⟨.hbm, 111, rfl⟩
abbrev main_c_18 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_19 : Ref sig .tc := ⟨.hbm, 119, rfl⟩
abbrev main_v69 : Ref sig .tc := ⟨.hbm, 120, rfl⟩
abbrev main_v70 : Ref sig .tc := ⟨.hbm, 121, rfl⟩
abbrev main_c_20 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_21 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_c : Ref sig .tc := ⟨.hbm, 141, rfl⟩
abbrev main_call3_v6 : Ref sig .tc := ⟨.hbm, 142, rfl⟩
abbrev main_call3_v7 : Ref sig .tc := ⟨.hbm, 143, rfl⟩
abbrev main_call3_c_0 : Ref sig .tc := ⟨.hbm, 144, rfl⟩
abbrev main_call3_v8 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_cst_22 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_v86 : Ref sig .tc := ⟨.hbm, 154, rfl⟩
abbrev main_v87 : Ref sig .tc := ⟨.hbm, 155, rfl⟩

abbrev nD : Nat := 1
abbrev τ : Topo := Topo.v7x

variable {F : FTy → Type} [FloatOps F]
-- ==== EvenIn.lean ====
abbrev S4x8192x1024 : Shape := ⟨3, ![4, 8192, 1024]⟩
abbrev S1024 : Shape := ⟨1, ![1024]⟩
abbrev S4x1024 : Shape := ⟨2, ![4, 1024]⟩
abbrev S1024x3848 : Shape := ⟨2, ![1024, 3848]⟩
abbrev S48 : Shape := ⟨1, ![48]⟩
abbrev S32768x1024 : Shape := ⟨2, ![32768, 1024]⟩
abbrev S1024x1536 : Shape := ⟨2, ![1024, 1536]⟩
abbrev S1024x2304 : Shape := ⟨2, ![1024, 2304]⟩
abbrev S1024x3840 : Shape := ⟨2, ![1024, 3840]⟩
abbrev S_ : Shape := ⟨0, ![]⟩
abbrev S1024x128 : Shape := ⟨2, ![1024, 128]⟩
abbrev S48x1 : Shape := ⟨2, ![48, 1]⟩
abbrev S1024x48 : Shape := ⟨2, ![1024, 48]⟩
abbrev S1 : Shape := ⟨1, ![1]⟩
abbrev S1x1024 : Shape := ⟨2, ![1, 1024]⟩
abbrev S4x1x1024 : Shape := ⟨3, ![4, 1, 1024]⟩
abbrev S32768x3840 : Shape := ⟨2, ![32768, 3840]⟩
abbrev S32768x128 : Shape := ⟨2, ![32768, 128]⟩
abbrev S512x1024 : Shape := ⟨2, ![512, 1024]⟩
abbrev S1x1x1024 : Shape := ⟨3, ![1, 1, 1024]⟩
abbrev S512x3840 : Shape := ⟨2, ![512, 3840]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 28
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3848, .f32⟩
  | .hbm, ⟨5, _⟩ => ⟨S48, .i32⟩
  | .hbm, ⟨6, _⟩ => ⟨S48, .i1⟩
  | .hbm, ⟨7, _⟩ => ⟨S32768x1024, .f32⟩
  | .hbm, ⟨8, _⟩ => ⟨S1024x1536, .f32⟩
  | .hbm, ⟨9, _⟩ => ⟨S1024x2304, .f32⟩
  | .hbm, ⟨10, _⟩ => ⟨S1024x3840, .f32⟩
  | .hbm, ⟨11, _⟩ => ⟨S1024x3840, .bf16⟩
  | .hbm, ⟨12, _⟩ => ⟨S_, .f32⟩
  | .hbm, ⟨13, _⟩ => ⟨S1024x128, .f32⟩
  | .hbm, ⟨14, _⟩ => ⟨S_, .i32⟩
  | .hbm, ⟨15, _⟩ => ⟨S48, .i32⟩
  | .hbm, ⟨16, _⟩ => ⟨S48, .i32⟩
  | .hbm, ⟨17, _⟩ => ⟨S48, .i32⟩
  | .hbm, ⟨18, _⟩ => ⟨S48x1, .i32⟩
  | .hbm, ⟨19, _⟩ => ⟨S1024x48, .f32⟩
  | .hbm, ⟨20, _⟩ => ⟨S_, .i32⟩
  | .hbm, ⟨21, _⟩ => ⟨S1, .i32⟩
  | .hbm, ⟨22, _⟩ => ⟨S1024x128, .f32⟩
  | .hbm, ⟨23, _⟩ => ⟨S1x1024, .f32⟩
  | .hbm, ⟨24, _⟩ => ⟨S4x1x1024, .f32⟩
  | .hbm, ⟨25, _⟩ => ⟨S4x1x1024, .f32⟩
  | .hbm, ⟨26, _⟩ => ⟨S32768x3840, .bf16⟩
  | .hbm, ⟨27, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3840, .bf16⟩
  | .local _ .vmem, ⟨8, _⟩ => ⟨S1024x128, .f32⟩
  | .local _ .vmem, ⟨9, _⟩ => ⟨S512x3840, .bf16⟩
  | .local _ .vmem, ⟨10, _⟩ => ⟨S512x3840, .bf16⟩
  | .local _ .vmem, ⟨11, _⟩ => ⟨S512x128, .f32⟩
  | .local _ .vmem, ⟨12, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3840 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenInRefIdeal.lean ====
abbrev S4x8192x1024 : Shape := ⟨3, ![4, 8192, 1024]⟩
abbrev S1024 : Shape := ⟨1, ![1024]⟩
abbrev S4x1024 : Shape := ⟨2, ![4, 1024]⟩
abbrev S1024x3848 : Shape := ⟨2, ![1024, 3848]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3848 : Shape := ⟨3, ![4, 8192, 3848]⟩
abbrev S32768x3848 : Shape := ⟨2, ![32768, 3848]⟩
abbrev S32768x8 : Shape := ⟨2, ![32768, 8]⟩
abbrev S32768x8x3 : Shape := ⟨3, ![32768, 8, 3]⟩
abbrev S32768x24 : Shape := ⟨2, ![32768, 24]⟩
abbrev S32768x1536 : Shape := ⟨2, ![32768, 1536]⟩
abbrev S32768x2304 : Shape := ⟨2, ![32768, 2304]⟩
abbrev S32768x3840 : Shape := ⟨2, ![32768, 3840]⟩
abbrev S32768x80 : Shape := ⟨2, ![32768, 80]⟩
abbrev S32768x128 : Shape := ⟨2, ![32768, 128]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3848, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x3848, .f32⟩
  | .hbm, ⟨31, _⟩ => ⟨S32768x3848, .f32⟩
  | .hbm, ⟨32, _⟩ => ⟨S32768x8, .f32⟩
  | .hbm, ⟨33, _⟩ => ⟨S32768x8x3, .f32⟩
  | .hbm, ⟨34, _⟩ => ⟨S32768x24, .f32⟩
  | .hbm, ⟨35, _⟩ => ⟨S32768x1536, .f32⟩
  | .hbm, ⟨36, _⟩ => ⟨S32768x2304, .f32⟩
  | .hbm, ⟨37, _⟩ => ⟨S32768x3840, .f32⟩
  | .hbm, ⟨38, _⟩ => ⟨S32768x3840, .bf16⟩
  | .hbm, ⟨39, _⟩ => ⟨S_, .f32⟩
  | .hbm, ⟨40, _⟩ => ⟨S32768x80, .f32⟩
  | .hbm, ⟨41, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== OddIn.lean ====
abbrev S4x8192x1024 : Shape := ⟨3, ![4, 8192, 1024]⟩
abbrev S1024 : Shape := ⟨1, ![1024]⟩
abbrev S4x1024 : Shape := ⟨2, ![4, 1024]⟩
abbrev S1024x1864 : Shape := ⟨2, ![1024, 1864]⟩
abbrev S32768x1024 : Shape := ⟨2, ![32768, 1024]⟩
abbrev S1024x1024 : Shape := ⟨2, ![1024, 1024]⟩
abbrev S_ : Shape := ⟨0, ![]⟩
abbrev S1024x256 : Shape := ⟨2, ![1024, 256]⟩
abbrev S1 : Shape := ⟨1, ![1]⟩
abbrev S1024x8 : Shape := ⟨2, ![1024, 8]⟩
abbrev S1024x64 : Shape := ⟨2, ![1024, 64]⟩
abbrev S1024x512 : Shape := ⟨2, ![1024, 512]⟩
abbrev S1x1024 : Shape := ⟨2, ![1, 1024]⟩
abbrev S4x1x1024 : Shape := ⟨3, ![4, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩

abbrev nBuf : Space → Nat
  | .hbm => 35
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x1864, .f32⟩
  | .hbm, ⟨5, _⟩ => ⟨S32768x1024, .f32⟩
  | .hbm, ⟨6, _⟩ => ⟨S1024x1024, .f32⟩
  | .hbm, ⟨7, _⟩ => ⟨S1024x1024, .bf16⟩
  | .hbm, ⟨8, _⟩ => ⟨S_, .f32⟩
  | .hbm, ⟨9, _⟩ => ⟨S1024x1024, .f32⟩
  | .hbm, ⟨10, _⟩ => ⟨S1024x256, .f32⟩
  | .hbm, ⟨11, _⟩ => ⟨S_, .i32⟩
  | .hbm, ⟨12, _⟩ => ⟨S1, .i32⟩
  | .hbm, ⟨13, _⟩ => ⟨S1024x1024, .f32⟩
  | .hbm, ⟨14, _⟩ => ⟨S1024x8, .f32⟩
  | .hbm, ⟨15, _⟩ => ⟨S_, .i32⟩
  | .hbm, ⟨16, _⟩ => ⟨S1, .i32⟩
  | .hbm, ⟨17, _⟩ => ⟨S1024x1024, .f32⟩
  | .hbm, ⟨18, _⟩ => ⟨S1024x64, .f32⟩
  | .hbm, ⟨19, _⟩ => ⟨S_, .i32⟩
  | .hbm, ⟨20, _⟩ => ⟨S1, .i32⟩
  | .hbm, ⟨21, _⟩ => ⟨S1024x1024, .f32⟩
  | .hbm, ⟨22, _⟩ => ⟨S1024x64, .f32⟩
  | .hbm, ⟨23, _⟩ => ⟨S_, .i32⟩
  | .hbm, ⟨24, _⟩ => ⟨S1, .i32⟩
  | .hbm, ⟨25, _⟩ => ⟨S1024x1024, .f32⟩
  | .hbm, ⟨26, _⟩ => ⟨S1024x512, .f32⟩
  | .hbm, ⟨27, _⟩ => ⟨S_, .i32⟩
  | .hbm, ⟨28, _⟩ => ⟨S1, .i32⟩
  | .hbm, ⟨29, _⟩ => ⟨S1024x1024, .f32⟩
  | .hbm, ⟨30, _⟩ => ⟨S1x1024, .f32⟩
  | .hbm, ⟨31, _⟩ => ⟨S4x1x1024, .f32⟩
  | .hbm, ⟨32, _⟩ => ⟨S4x1x1024, .f32⟩
  | .hbm, ⟨33, _⟩ => ⟨S32768x1024, .bf16⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddInRefIdeal.lean ====
abbrev S4x8192x1024 : Shape := ⟨3, ![4, 8192, 1024]⟩
abbrev S1024 : Shape := ⟨1, ![1024]⟩
abbrev S4x1024 : Shape := ⟨2, ![4, 1024]⟩
abbrev S1024x1864 : Shape := ⟨2, ![1024, 1864]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x1864 : Shape := ⟨3, ![4, 8192, 1864]⟩
abbrev S32768x1864 : Shape := ⟨2, ![32768, 1864]⟩
abbrev S32768x1024 : Shape := ⟨2, ![32768, 1024]⟩
abbrev S32768x256 : Shape := ⟨2, ![32768, 256]⟩
abbrev S32768x512 : Shape := ⟨2, ![32768, 512]⟩
abbrev S32768x64 : Shape := ⟨2, ![32768, 64]⟩
abbrev S32768x8 : Shape := ⟨2, ![32768, 8]⟩
abbrev S32768x120 : Shape := ⟨2, ![32768, 120]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x1864, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1864, .f32⟩
  | .hbm, ⟨31, _⟩ => ⟨S32768x1864, .f32⟩
  | .hbm, ⟨32, _⟩ => ⟨S32768x1024, .f32⟩
  | .hbm, ⟨33, _⟩ => ⟨S32768x256, .f32⟩
  | .hbm, ⟨34, _⟩ => ⟨S32768x512, .f32⟩
  | .hbm, ⟨35, _⟩ => ⟨S32768x64, .f32⟩
  | .hbm, ⟨36, _⟩ => ⟨S32768x8, .f32⟩
  | .hbm, ⟨37, _⟩ => ⟨S32768x1024, .bf16⟩
  | .hbm, ⟨38, _⟩ => ⟨S_, .f32⟩
  | .hbm, ⟨39, _⟩ => ⟨S32768x120, .f32⟩
  | .hbm, ⟨40, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== KeyValue.lean ====
abbrev S32768x1024 : Shape := ⟨2, ![32768, 1024]⟩
abbrev S256 : Shape := ⟨1, ![256]⟩
abbrev S256x2048 : Shape := ⟨2, ![256, 2048]⟩
abbrev S_ : Shape := ⟨0, ![]⟩
abbrev S4x256 : Shape := ⟨2, ![4, 256]⟩
abbrev S32768x256 : Shape := ⟨2, ![32768, 256]⟩
abbrev S1x256 : Shape := ⟨2, ![1, 256]⟩
abbrev S4x1x256 : Shape := ⟨3, ![4, 1, 256]⟩
abbrev S32768x2048 : Shape := ⟨2, ![32768, 2048]⟩
abbrev S512x256 : Shape := ⟨2, ![512, 256]⟩
abbrev S1x1x256 : Shape := ⟨3, ![1, 1, 256]⟩
abbrev S512x2048 : Shape := ⟨2, ![512, 2048]⟩
abbrev S512 : Shape := ⟨1, ![512]⟩
abbrev S512x1 : Shape := ⟨2, ![512, 1]⟩
abbrev S256x256 : Shape := ⟨2, ![256, 256]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S256, .f32⟩
  | .hbm, ⟨2, _⟩ => ⟨S256x2048, .f32⟩
  | .hbm, ⟨3, _⟩ => ⟨S_, .f32⟩
  | .hbm, ⟨4, _⟩ => ⟨S4x256, .f32⟩
  | .hbm, ⟨5, _⟩ => ⟨S32768x256, .f32⟩
  | .hbm, ⟨6, _⟩ => ⟨S256x2048, .bf16⟩
  | .hbm, ⟨7, _⟩ => ⟨S1x256, .f32⟩
  | .hbm, ⟨8, _⟩ => ⟨S4x1x256, .f32⟩
  | .hbm, ⟨9, _⟩ => ⟨S4x1x256, .f32⟩
  | .hbm, ⟨10, _⟩ => ⟨S32768x2048, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S256x2048, .bf16⟩
  | .local _ .vmem, ⟨8, _⟩ => ⟨S512x2048, .bf16⟩
  | .local _ .vmem, ⟨9, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KeyValueRefIdeal.lean ====
abbrev S32768x1024 : Shape := ⟨2, ![32768, 1024]⟩
abbrev S256 : Shape := ⟨1, ![256]⟩
abbrev S256x2048 : Shape := ⟨2, ![256, 2048]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x256 : Shape := ⟨2, ![1, 256]⟩
abbrev S32768x2048 : Shape := ⟨2, ![32768, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S256, .f32⟩
  | .hbm, ⟨2, _⟩ => ⟨S256x2048, .f32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x256, .f32⟩
  | .hbm, ⟨16, _⟩ => ⟨S32768x256, .f32⟩
  | .hbm, ⟨17, _⟩ => ⟨S1x256, .f32⟩
  | .hbm, ⟨18, _⟩ => ⟨S32768x256, .f32⟩
  | .hbm, ⟨19, _⟩ => ⟨S32768x256, .f32⟩
  | .hbm, ⟨20, _⟩ => ⟨S32768x2048, .f32⟩
  | .hbm, ⟨21, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutOdd.lean ====
abbrev S4x8192x1024 : Shape := ⟨3, ![4, 8192, 1024]⟩
abbrev S1024x1024 : Shape := ⟨2, ![1024, 1024]⟩
abbrev S4x1024 : Shape := ⟨2, ![4, 1024]⟩
abbrev S32768x1024 : Shape := ⟨2, ![32768, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8192x1024, .f32⟩
  | .hbm, ⟨3, _⟩ => ⟨S4x1024, .f32⟩
  | .hbm, ⟨4, _⟩ => ⟨S32768x1024, .bf16⟩
  | .hbm, ⟨5, _⟩ => ⟨S1024x1024, .bf16⟩
  | .hbm, ⟨6, _⟩ => ⟨S32768x1024, .f32⟩
  | .hbm, ⟨7, _⟩ => ⟨S4x1x1024, .f32⟩
  | .hbm, ⟨8, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutOddRefIdeal.lean ====
abbrev S4x8192x1024 : Shape := ⟨3, ![4, 8192, 1024]⟩
abbrev S1024x1024 : Shape := ⟨2, ![1024, 1024]⟩
abbrev S4x1024 : Shape := ⟨2, ![4, 1024]⟩
abbrev S4x1x1024 : Shape := ⟨3, ![4, 1, 1024]⟩
abbrev S32768x1024 : Shape := ⟨2, ![32768, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8192x1024, .f32⟩
  | .hbm, ⟨3, _⟩ => ⟨S4x1024, .f32⟩
  | .hbm, ⟨4, _⟩ => ⟨S4x1x1024, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S32768x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutEven.lean ====
abbrev S4x8192x512 : Shape := ⟨3, ![4, 8192, 512]⟩
abbrev S32768x256 : Shape := ⟨2, ![32768, 256]⟩
abbrev S768x1024 : Shape := ⟨2, ![768, 1024]⟩
abbrev S4x8192x1024 : Shape := ⟨3, ![4, 8192, 1024]⟩
abbrev S4x1024 : Shape := ⟨2, ![4, 1024]⟩
abbrev S32768x512 : Shape := ⟨2, ![32768, 512]⟩
abbrev S32768x1024 : Shape := ⟨2, ![32768, 1024]⟩
abbrev S4x1x1024 : Shape := ⟨3, ![4, 1, 1024]⟩
abbrev S512x512 : Shape := ⟨2, ![512, 512]⟩
abbrev S512x256 : Shape := ⟨2, ![512, 256]⟩
abbrev S512x1024 : Shape := ⟨2, ![512, 1024]⟩
abbrev S1x1x1024 : Shape := ⟨3, ![1, 1, 1024]⟩
abbrev S256x1024 : Shape := ⟨2, ![256, 1024]⟩
abbrev S1x1024 : Shape := ⟨2, ![1, 1024]⟩

abbrev nBuf : Space → Nat
  | .hbm => 15
  | .vmem => 21
  | .smem => 0
  | _ => 0

abbrev bufTy : (tb : Table) → Fin (tcTables nBuf tb) → BufTy
  | .hbm, ⟨0, _⟩ => ⟨S4x8192x512, .bf16⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S768x1024, .f32⟩
  | .hbm, ⟨8, _⟩ => ⟨S4x8192x1024, .f32⟩
  | .hbm, ⟨9, _⟩ => ⟨S4x1024, .f32⟩
  | .hbm, ⟨10, _⟩ => ⟨S32768x512, .bf16⟩
  | .hbm, ⟨11, _⟩ => ⟨S768x1024, .bf16⟩
  | .hbm, ⟨12, _⟩ => ⟨S32768x1024, .f32⟩
  | .hbm, ⟨13, _⟩ => ⟨S4x1x1024, .f32⟩
  | .hbm, ⟨14, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S768x1024, .bf16⟩
  | .local _ .vmem, ⟨15, _⟩ => ⟨S512x1024, .f32⟩
  | .local _ .vmem, ⟨16, _⟩ => ⟨S512x1024, .f32⟩
  | .local _ .vmem, ⟨17, _⟩ => ⟨S1x1x1024, .f32⟩
  | .local _ .vmem, ⟨18, _⟩ => ⟨S1x1x1024, .f32⟩
  | .local _ .vmem, ⟨19, _⟩ => ⟨S512x1024, .f32⟩
  | .local _ .vmem, ⟨20, _⟩ => ⟨S512x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutEvenRefIdeal.lean ====
abbrev S4x8192x512 : Shape := ⟨3, ![4, 8192, 512]⟩
abbrev S32768x256 : Shape := ⟨2, ![32768, 256]⟩
abbrev S768x1024 : Shape := ⟨2, ![768, 1024]⟩
abbrev S4x8192x1024 : Shape := ⟨3, ![4, 8192, 1024]⟩
abbrev S4x1024 : Shape := ⟨2, ![4, 1024]⟩
abbrev S1x32768x256 : Shape := ⟨3, ![1, 32768, 256]⟩
abbrev S3x32768x256 : Shape := ⟨3, ![3, 32768, 256]⟩
abbrev S_ : Shape := ⟨0, ![]⟩
abbrev S32768x512 : Shape := ⟨2, ![32768, 512]⟩
abbrev S32768x768 : Shape := ⟨2, ![32768, 768]⟩
abbrev S4x1x1024 : Shape := ⟨3, ![4, 1, 1024]⟩
abbrev S32768x1024 : Shape := ⟨2, ![32768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S768x1024, .f32⟩
  | .hbm, ⟨8, _⟩ => ⟨S4x8192x1024, .f32⟩
  | .hbm, ⟨9, _⟩ => ⟨S4x1024, .f32⟩
  | .hbm, ⟨10, _⟩ => ⟨S1x32768x256, .f32⟩
  | .hbm, ⟨11, _⟩ => ⟨S1x32768x256, .f32⟩
  | .hbm, ⟨12, _⟩ => ⟨S1x32768x256, .f32⟩
  | .hbm, ⟨13, _⟩ => ⟨S3x32768x256, .f32⟩
  | .hbm, ⟨14, _⟩ => ⟨S_, .f32⟩
  | .hbm, ⟨15, _⟩ => ⟨S32768x256, .f32⟩
  | .hbm, ⟨16, _⟩ => ⟨S_, .f32⟩
  | .hbm, ⟨17, _⟩ => ⟨S32768x256, .f32⟩
  | .hbm, ⟨18, _⟩ => ⟨S32768x256, .f32⟩
  | .hbm, ⟨19, _⟩ => ⟨S1x32768x256, .f32⟩
  | .hbm, ⟨20, _⟩ => ⟨S3x32768x256, .f32⟩
  | .hbm, ⟨21, _⟩ => ⟨S3x32768x256, .f32⟩
  | .hbm, ⟨22, _⟩ => ⟨S3x32768x256, .f32⟩
  | .hbm, ⟨23, _⟩ => ⟨S_, .f32⟩
  | .hbm, ⟨24, _⟩ => ⟨S32768x256, .f32⟩
  | .hbm, ⟨25, _⟩ => ⟨S1x32768x256, .f32⟩
  | .hbm, ⟨26, _⟩ => ⟨S3x32768x256, .f32⟩
  | .hbm, ⟨27, _⟩ => ⟨S3x32768x256, .f32⟩
  | .hbm, ⟨28, _⟩ => ⟨S1x32768x256, .f32⟩
  | .hbm, ⟨29, _⟩ => ⟨S32768x256, .f32⟩
  | .hbm, ⟨30, _⟩ => ⟨S32768x256, .f32⟩
  | .hbm, ⟨31, _⟩ => ⟨S1x32768x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S1x32768x256, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S32768x512, .bf16⟩
  | .hbm, ⟨40, _⟩ => ⟨S32768x512, .f32⟩
  | .hbm, ⟨41, _⟩ => ⟨S32768x768, .f32⟩
  | .hbm, ⟨42, _⟩ => ⟨S4x1x1024, .f32⟩
  | .hbm, ⟨43, _⟩ => ⟨S32768x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S32768x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.Forms.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.WholeRead
public import Idealize.ShloMosaic.Lib.ValueIdxCore
public import Idealize.ShloMosaic.Lib.Writes
public import Idealize.ShloMosaic.Lib.Ring
public import Idealize.ShloMosaic.Lib.Tactic
public import Idealize.ShloMosaic.Lib.Pointwise

@[expose] public section

set_option maxRecDepth 16384

noncomputable section

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

open Idealize.ShloMosaic.ValueIdx (eq_ix2)

/-! ## What the body computes, in closed form -/

/-- The part of an array a rectangle takes out. -/
def cut {s : Shape} {α : Type} (r : Rect s) (W : s.Idx → α) : r.shape.Idx → α := fun x => W (r.emb x)

/-- A load through a whole memref held at the contents that read `W` reads a part of `W`. -/
theorem readAt_cut {sp : Space} {s : Shape} {e : EltTy} {m : Memref sig .tc sp s e} (h : m.IsWhole) (W : Vec F s e) (r : Rect s) :
    View.readAt (Elt F) m.view r.toLoadRect (h.unread W) = cut r W :=
  funext fun x => h.readAt_unread W r.toLoadRect x

/-- The first layer's weights of one expert, rounded as the body stores them. -/
def w1c (x : Vec F S1x1024x2048 .f32) : FVec F S1024x2048 .bf16 := truncf .bf16 (fun y => x (ix3 0 (y 0) (y 1)) : FVec F S1024x2048 .f32) bitsLt_bf16_f32
/-- The second layer's. -/
def w2c (x : Vec F S1x1024x1024 .f32) : FVec F S1024x1024 .bf16 := truncf .bf16 (fun y => x (ix3 0 (y 0) (y 1)) : FVec F S1024x1024 .f32) bitsLt_bf16_f32

/-- 256 columns from column `256 j` on, of each array the body reads so. -/
abbrev rA (j : Fin 8) : Rect S1024x2048 := Rect.unit ![0, 256 * j.val] S1024x256.size (Rect.inb₂ (Nat.le_refl _) (by have := j.isLt; show 256 * j.val + 256 ≤ 2048; omega))
abbrev rB (j : Fin 4) : Rect S1024x1024 := Rect.unit ![0, 256 * j.val] S1024x256.size (Rect.inb₂ (Nat.le_refl _) (by have := j.isLt; show 256 * j.val + 256 ≤ 1024; omega))
abbrev rY (j : Fin 4) : Rect S256x1024 := Rect.unit ![0, 256 * j.val] S256x256.size (Rect.inb₂ (Nat.le_refl _) (by have := j.isLt; show 256 * j.val + 256 ≤ 1024; omega))
theorem inb3 {d off size : Fin 3 → Nat} (h0 : off 0 + size 0 ≤ d 0) (h1 : off 1 + size 1 ≤ d 1) (h2 : off 2 + size 2 ≤ d 2) :
    ∀ a, off a + size a ≤ (⟨3, d⟩ : Shape).size a := Fin.forall_fin_succ.mpr ⟨h0, Fin.forall_fin_two.mpr ⟨h1, h2⟩⟩
abbrev rb (j : Fin 8) : Rect S1x1x2048 := Rect.unit ![0, 0, 256 * j.val] S1x1x256.size (inb3 (Nat.le_refl _) (Nat.le_refl _) (by have := j.isLt; show 256 * j.val + 256 ≤ 2048; omega))
abbrev rc (j : Fin 4) : Rect S1x1x1024 := Rect.unit ![0, 0, 256 * j.val] S1x1x256.size (inb3 (Nat.le_refl _) (Nat.le_refl _) (by have := j.isLt; show 256 * j.val + 256 ≤ 1024; omega))

/-- The same columns of the first layer's linear half. -/
abbrev lin8 (j : Fin 4) : Fin 8 := ⟨4 + j.val, by omega⟩
abbrev glu8 (j : Fin 4) : Fin 8 := ⟨j.val, by omega⟩

/-- Columns `256 j …` of the gated activation of one chunk of rows. -/
def gluBlock (X : FVec F S256x1024 .bf16) (W : FVec F S1024x2048 .bf16) (b : Vec F S1x1x2048 .f32) (j : Fin 4) : FVec F S256x256 .bf16 :=
  k0_pay19 X (cut (rA (glu8 j)) W) (cut (rb (glu8 j)) b) (cut (rA (lin8 j)) W) (cut (rb (lin8 j)) b)

/-- The block of 256 columns a column lies in, and its place there. -/
abbrev blk (n : Fin 1024) : Fin 4 := ⟨n.val / 256, by omega⟩
abbrev plc (n : Fin 1024) : Fin 256 := ⟨n.val % 256, by omega⟩

/-- The gated activation of one chunk of packed rows. -/
def actG (x : Vec F S256x512 .i32) (W : FVec F S1024x2048 .bf16) (b : Vec F S1x1x2048 .f32) : FVec F S256x1024 .bf16 :=
  fun y => gluBlock (k0_pay16 x) W b (blk (y 1)) (ix2 (y 0) (plc (y 1)))

/-- Columns `256 j …` of the second layer's result. -/
def yBlock (A : FVec F S256x1024 .bf16) (W : FVec F S1024x1024 .bf16) (b : Vec F S1x1x1024 .f32) (j : Fin 4) : FVec F S256x256 .f32 :=
  k0_pay3 A (cut (rB j) W) (cut (rc j) b)

/-- One chunk of the expert's result, before its activation is opened. -/
def yG (A : FVec F S256x1024 .bf16) (W : FVec F S1024x1024 .bf16) (b : Vec F S1x1x1024 .f32) : FVec F S256x1024 .f32 :=
  fun y => yBlock A W b (blk (y 1)) (ix2 (y 0) (plc (y 1)))

/-- Reading a function given block by block at a block's own rectangle. -/
theorem blocks_emb {α : Type} (G : Fin 4 → S256x256.Idx → α) (j : Fin 4) (x : S256x256.Idx) :
    (fun y : S256x1024.Idx => G (blk (y 1)) (ix2 (y 0) (plc (y 1)))) ((rY j).emb x) = G j x := by
  have h0 : ((rY j).emb x 0).val = (x 0).val := by show 0 + 1 * (x 0).val = _; omega
  have h1 : ((rY j).emb x 1).val = 256 * j.val + (x 1).val := by show 256 * j.val + 1 * (x 1).val = _; omega
  have hx : (x 1).val < 256 := (x 1).isLt
  have e1 : blk ((rY j).emb x 1) = j := Fin.ext (by show ((rY j).emb x 1).val / 256 = _; rw [h1]; omega)
  have e2 : ix2 ((rY j).emb x 0) (plc ((rY j).emb x 1)) = x := by
    funext a
    refine Fin.cases ?_ (fun a => Fin.cases ?_ (fun a => a.elim0) a) a
    · exact Fin.ext h0
    · exact Fin.ext (by show ((rY j).emb x 1).val % 256 = _; rw [h1]; show _ = (x 1).val; omega)
  show G (blk ((rY j).emb x 1)) _ = _
  rw [e1]
  exact congrArg (G j) e2

/-- Four stores of 256 columns each, covering the buffer, read back as the function given block by block. -/
theorem read_four {e : EltTy} {sp : Space} {m : Memref sig .tc sp S256x1024 e} (f : m.view.ty.Contents (Elt F)) (G : Fin 4 → Vec F S256x256 e)
    (p3 p2 p1 p0 : Vec F S256x256 e) (e3 : p3 = G 3) (e2 : p2 = G 2) (e1 : p1 = G 1) (e0 : p0 = G 0) :
    m.view.read (Elt F) (m.view.writes (Elt F) f
      [⟨Rect.unit (s := S256x1024) ![0, 768] S256x256.size inb_S256x1024_S256x256_0_768, p3⟩, ⟨Rect.unit (s := S256x1024) ![0, 512] S256x256.size inb_S256x1024_S256x256_0_512, p2⟩,
       ⟨Rect.unit (s := S256x1024) ![0, 256] S256x256.size inb_S256x1024_S256x256_0_256, p1⟩, ⟨Rect.unit (s := S256x1024) ![0, 0] S256x256.size inb_S256x1024_S256x256_0_0, p0⟩])
      = fun y => G (blk (y 1)) (ix2 (y 0) (plc (y 1))) := by
  subst e3 e2 e1 e0
  funext y
  refine View.read_writes_apply_of_pieces (v := m.view) (f := f) (fun y => G (blk (y 1)) (ix2 (y 0) (plc (y 1)))) _ ?_ y
    (View.cover_of_tiledL (s := S256x1024) _ S256x256.size (by sl_kernel_rfl) y)
  intro p hp x
  simp only [List.mem_cons, List.not_mem_nil, _root_.or_false] at hp
  rcases hp with rfl | rfl | rfl | rfl
  exacts [(blocks_emb G 3 x).symm, (blocks_emb G 2 x).symm, (blocks_emb G 1 x).symm, (blocks_emb G 0 x).symm]

/-- Rounding acts entry by entry. -/
theorem truncf_entry {s t : Shape} (A : FVec F s .f32) (B : FVec F t .f32) (k : s.Idx) (l : t.Idx) (h : A k = B l) :
    truncf .bf16 A bitsLt_bf16_f32 k = truncf .bf16 B bitsLt_bf16_f32 l := by
  unfold truncf
  exact congrArg _ h

/-- The load of 256 columns of one expert's weights, rounded: 256 columns of the rounded weights. -/
theorem pay6_cut (j : Fin 8) (x : Vec F S1x1024x2048 .f32) (h : ∀ a, (![0, 0, 256 * j.val] : Fin 3 → Nat) a + S1x1024x256.size a ≤ S1x1024x2048.size a) (k : S1024x256.Idx) :
    k0_pay6 (cut (Rect.unit (s := S1x1024x2048) ![0, 0, 256 * j.val] S1x1024x256.size h) x) k = w1c x ((rA j).emb k) := by
  unfold k0_pay6 w1c
  dsimp only
  rw [shapeCast_self]
  refine truncf_entry _ _ _ _ ?_
  refine (shapeCast_dropUnit_apply ![1024, 256] _ _ k).trans (congrArg x ?_)
  funext a
  fin_cases a
  · exact Fin.ext rfl
  · exact Fin.ext rfl
  · exact Fin.ext rfl

/-- The same of the second layer's weights. -/
theorem pay1_cut (j : Fin 4) (x : Vec F S1x1024x1024 .f32) (h : ∀ a, (![0, 0, 256 * j.val] : Fin 3 → Nat) a + S1x1024x256.size a ≤ S1x1024x1024.size a) (k : S1024x256.Idx) :
    k0_pay1 (cut (Rect.unit (s := S1x1024x1024) ![0, 0, 256 * j.val] S1x1024x256.size h) x) k = w2c x ((rB j).emb k) := by
  unfold k0_pay1 w2c
  dsimp only
  rw [shapeCast_self]
  refine truncf_entry _ _ _ _ ?_
  refine (shapeCast_dropUnit_apply ![1024, 256] _ _ k).trans (congrArg x ?_)
  funext a
  fin_cases a
  · exact Fin.ext rfl
  · exact Fin.ext rfl
  · exact Fin.ext rfl

/-- The scratch of the first layer's weights after a refresh, whatever it held. -/
theorem scr1_refresh {M : Memref sig .tc .vmem S1024x2048 .bf16} (hM : M.IsWhole) {m : Memref sig .tc .vmem S1x1024x2048 .f32} (hm : m.IsWhole)
    (f : M.view.ty.Contents (Elt F)) (x : Vec F S1x1024x2048 .f32) :
    M.view.writes (Elt F) f
      [⟨Rect.unit (s := S1024x2048) ![0, 1792] S1024x256.size inb_S1024x2048_S1024x256_0_1792, k0_pay13 (View.readAt (Elt F) m.view (Rect.unit (s := S1x1024x2048) ![0, 0, 1792] S1x1024x256.size inb_S1x1024x2048_S1x1024x256_0_0_1792).toLoadRect (hm.unread x))⟩,
       ⟨Rect.unit (s := S1024x2048) ![0, 1536] S1024x256.size inb_S1024x2048_S1024x256_0_1536, k0_pay12 (View.readAt (Elt F) m.view (Rect.unit (s := S1x1024x2048) ![0, 0, 1536] S1x1024x256.size inb_S1x1024x2048_S1x1024x256_0_0_1536).toLoadRect (hm.unread x))⟩,
       ⟨Rect.unit (s := S1024x2048) ![0, 1280] S1024x256.size inb_S1024x2048_S1024x256_0_1280, k0_pay11 (View.readAt (Elt F) m.view (Rect.unit (s := S1x1024x2048) ![0, 0, 1280] S1x1024x256.size inb_S1x1024x2048_S1x1024x256_0_0_1280).toLoadRect (hm.unread x))⟩,
       ⟨Rect.unit (s := S1024x2048) ![0, 1024] S1024x256.size inb_S1024x2048_S1024x256_0_1024, k0_pay10 (View.readAt (Elt F) m.view (Rect.unit (s := S1x1024x2048) ![0, 0, 1024] S1x1024x256.size inb_S1x1024x2048_S1x1024x256_0_0_1024).toLoadRect (hm.unread x))⟩,
       ⟨Rect.unit (s := S1024x2048) ![0, 768] S1024x256.size inb_S1024x2048_S1024x256_0_768, k0_pay9 (View.readAt (Elt F) m.view (Rect.unit (s := S1x1024x2048) ![0, 0, 768] S1x1024x256.size inb_S1x1024x2048_S1x1024x256_0_0_768).toLoadRect (hm.unread x))⟩,
       ⟨Rect.unit (s := S1024x2048) ![0, 512] S1024x256.size inb_S1024x2048_S1024x256_0_512, k0_pay8 (View.readAt (Elt F) m.view (Rect.unit (s := S1x1024x2048) ![0, 0, 512] S1x1024x256.size inb_S1x1024x2048_S1x1024x256_0_0_512).toLoadRect (hm.unread x))⟩,
       ⟨Rect.unit (s := S1024x2048) ![0, 256] S1024x256.size inb_S1024x2048_S1024x256_0_256, k0_pay7 (View.readAt (Elt F) m.view (Rect.unit (s := S1x1024x2048) ![0, 0, 256] S1x1024x256.size inb_S1x1024x2048_S1x1024x256_0_0_256).toLoadRect (hm.unread x))⟩,
       ⟨Rect.unit (s := S1024x2048) ![0, 0] S1024x256.size inb_S1024x2048_S1024x256_0_0, k0_pay6 (View.readAt (Elt F) m.view (Rect.unit (s := S1x1024x2048) ![0, 0, 0] S1x1024x256.size inb_S1x1024x2048_S1x1024x256_0_0_0).toLoadRect (hm.unread x))⟩]
      = hM.unread (w1c x) := by
  refine hM.eq_unread ?_
  simp only [readAt_cut hm]
  funext y
  refine View.read_writes_apply_of_pieces (v := M.view) (f := f) (w1c x) _ ?_ y
    (View.cover_of_tiledL (s := S1024x2048) _ S1024x256.size (by sl_kernel_rfl) y)
  intro p hp k
  simp only [List.mem_cons, List.not_mem_nil, _root_.or_false] at hp
  rcases hp with rfl | rfl | rfl | rfl | rfl | rfl | rfl | rfl
  exacts [pay6_cut 7 x _ k, pay6_cut 6 x _ k, pay6_cut 5 x _ k, pay6_cut 4 x _ k, pay6_cut 3 x _ k, pay6_cut 2 x _ k, pay6_cut 1 x _ k, pay6_cut 0 x _ k]

/-- The scratch of the second layer's weights after a refresh, whatever it held. -/
theorem scr2_refresh {M : Memref sig .tc .vmem S1024x1024 .bf16} (hM : M.IsWhole) {m : Memref sig .tc .vmem S1x1024x1024 .f32} (hm : m.IsWhole)
    (f : M.view.ty.Contents (Elt F)) (x : Vec F S1x1024x1024 .f32) :
    M.view.writes (Elt F) f
      [⟨Rect.unit (s := S1024x1024) ![0, 768] S1024x256.size inb_S1024x1024_S1024x256_0_768, k0_pay2 (View.readAt (Elt F) m.view (Rect.unit (s := S1x1024x1024) ![0, 0, 768] S1x1024x256.size inb_S1x1024x1024_S1x1024x256_0_0_768).toLoadRect (hm.unread x))⟩,
       ⟨Rect.unit (s := S1024x1024) ![0, 512] S1024x256.size inb_S1024x1024_S1024x256_0_512, k0_pay1 (View.readAt (Elt F) m.view (Rect.unit (s := S1x1024x1024) ![0, 0, 512] S1x1024x256.size inb_S1x1024x1024_S1x1024x256_0_0_512).toLoadRect (hm.unread x))⟩,
       ⟨Rect.unit (s := S1024x1024) ![0, 256] S1024x256.size inb_S1024x1024_S1024x256_0_256, k0_pay15 (View.readAt (Elt F) m.view (Rect.unit (s := S1x1024x1024) ![0, 0, 256] S1x1024x256.size inb_S1x1024x1024_S1x1024x256_0_0_256).toLoadRect (hm.unread x))⟩,
       ⟨Rect.unit (s := S1024x1024) ![0, 0] S1024x256.size inb_S1024x1024_S1024x256_0_0, k0_pay14 (View.readAt (Elt F) m.view (Rect.unit (s := S1x1024x1024) ![0, 0, 0] S1x1024x256.size inb_S1x1024x1024_S1x1024x256_0_0_0).toLoadRect (hm.unread x))⟩]
      = hM.unread (w2c x) := by
  refine hM.eq_unread ?_
  simp only [readAt_cut hm]
  funext y
  refine View.read_writes_apply_of_pieces (v := M.view) (f := f) (w2c x) _ ?_ y
    (View.cover_of_tiledL (s := S1024x1024) _ S1024x256.size (by sl_kernel_rfl) y)
  intro p hp k
  simp only [List.mem_cons, List.not_mem_nil, _root_.or_false] at hp
  rcases hp with rfl | rfl | rfl | rfl
  exacts [pay1_cut 3 x _ k, pay1_cut 2 x _ k, pay1_cut 1 x _ k, pay1_cut 0 x _ k]

/-- A load of a whole array reads it. -/
theorem cut_whole {s : Shape} {α : Type} (off : Fin s.rank → Nat) (h : ∀ a, off a + s.size a ≤ s.size a) (X : s.Idx → α) :
    cut (Rect.unit off s.size h) X = X := by
  funext k
  refine congrArg X (funext fun a => Fin.ext ?_)
  have := h a
  show off a + 1 * (k a).val = (k a).val
  omega

/-- The four spellings of one block's activation. -/
theorem pay24_eq (X : FVec F S256x1024 .bf16) (w w' : Vec F S1024x256 .bf16) (b b' : Vec F S1x1x256 .f32) :
    k0_pay24 (k0_pay22 X w b) (k0_pay23 X w') b' = k0_pay19 X w b w' b' := rfl
theorem pay21_eq (X : FVec F S256x1024 .bf16) (w w' : Vec F S1024x256 .bf16) (b b' : Vec F S1x1x256 .f32) :
    k0_pay21 X (k0_pay20 X w) b w' b' = k0_pay19 X w b w' b' := rfl
theorem pay18_eq (x : Vec F S256x512 .i32) (w w' : Vec F S1024x256 .bf16) (b b' : Vec F S1x1x256 .f32) :
    k0_pay18 (k0_pay17 x w b w' b') = k0_pay19 (k0_pay16 x) w b w' b' := rfl
/-- The four spellings of one block's result. -/
theorem pay4_eq (A : Vec F S256x1024 .bf16) (w : Vec F S1024x256 .bf16) (b : Vec F S1x1x256 .f32) : k0_pay4 A w b = k0_pay3 A w b := rfl
theorem pay26_eq (A : Vec F S256x1024 .bf16) (w : Vec F S1024x256 .bf16) (b : Vec F S1x1x256 .f32) : k0_pay26 A w b = k0_pay3 A w b := rfl
theorem pay25_eq (A : Vec F S256x1024 .bf16) (w : Vec F S1024x256 .bf16) (b : Vec F S1x1x256 .f32) : k0_pay25 A w b = k0_pay3 A w b := rfl

theorem cut_congr {s : Shape} {α : Type} (W : s.Idx → α) {off off' size : Fin s.rank → Nat} (h : ∀ a, off a + size a ≤ s.size a)
    (h' : ∀ a, off' a + size a ≤ s.size a) (e : off = off') : cut (Rect.unit off size h) W = cut (Rect.unit off' size h') W := by
  subst e; rfl

/-- The blocks of 256 columns at their literal places. -/
theorem glu_at0 (X : FVec F S256x1024 .bf16) (W : Vec F S1024x2048 .bf16) (b : Vec F S1x1x2048 .f32) :
    k0_pay19 X (cut (Rect.unit (s := S1024x2048) ![0, 0] S1024x256.size inb_S1024x2048_S1024x256_0_0) W) (cut (Rect.unit (s := S1x1x2048) ![0, 0, 0] S1x1x256.size inb_S1x1x2048_S1x1x256_0_0_0) b) (cut (Rect.unit (s := S1024x2048) ![0, 1024] S1024x256.size inb_S1024x2048_S1024x256_0_1024) W) (cut (Rect.unit (s := S1x1x2048) ![0, 0, 1024] S1x1x256.size inb_S1x1x2048_S1x1x256_0_0_1024) b) = gluBlock X W b 0 := by
  have h1 : (cut (Rect.unit (s := S1024x2048) ![0, 0] S1024x256.size inb_S1024x2048_S1024x256_0_0) W) = cut (rA (glu8 0)) W := cut_congr W _ _ rfl
  have h2 : (cut (Rect.unit (s := S1x1x2048) ![0, 0, 0] S1x1x256.size inb_S1x1x2048_S1x1x256_0_0_0) b) = cut (rb (glu8 0)) b := cut_congr b _ _ rfl
  have h3 : (cut (Rect.unit (s := S1024x2048) ![0, 1024] S1024x256.size inb_S1024x2048_S1024x256_0_1024) W) = cut (rA (lin8 0)) W := cut_congr W _ _ rfl
  have h4 : (cut (Rect.unit (s := S1x1x2048) ![0, 0, 1024] S1x1x256.size inb_S1x1x2048_S1x1x256_0_0_1024) b) = cut (rb (lin8 0)) b := cut_congr b _ _ rfl
  unfold gluBlock
  rw [h1, h2, h3, h4]
theorem y_at0 (A : FVec F S256x1024 .bf16) (W : Vec F S1024x1024 .bf16) (b : Vec F S1x1x1024 .f32) :
    k0_pay3 A (cut (Rect.unit (s := S1024x1024) ![0, 0] S1024x256.size inb_S1024x1024_S1024x256_0_0) W) (cut (Rect.unit (s := S1x1x1024) ![0, 0, 0] S1x1x256.size inb_S1x1x1024_S1x1x256_0_0_0) b) = yBlock A W b 0 := by
  have h1 : (cut (Rect.unit (s := S1024x1024) ![0, 0] S1024x256.size inb_S1024x1024_S1024x256_0_0) W) = cut (rB 0) W := cut_congr W _ _ rfl
  have h2 : (cut (Rect.unit (s := S1x1x1024) ![0, 0, 0] S1x1x256.size inb_S1x1x1024_S1x1x256_0_0_0) b) = cut (rc 0) b := cut_congr b _ _ rfl
  unfold yBlock
  rw [h1, h2]
theorem glu_at1 (X : FVec F S256x1024 .bf16) (W : Vec F S1024x2048 .bf16) (b : Vec F S1x1x2048 .f32) :
    k0_pay19 X (cut (Rect.unit (s := S1024x2048) ![0, 256] S1024x256.size inb_S1024x2048_S1024x256_0_256) W) (cut (Rect.unit (s := S1x1x2048) ![0, 0, 256] S1x1x256.size inb_S1x1x2048_S1x1x256_0_0_256) b) (cut (Rect.unit (s := S1024x2048) ![0, 1280] S1024x256.size inb_S1024x2048_S1024x256_0_1280) W) (cut (Rect.unit (s := S1x1x2048) ![0, 0, 1280] S1x1x256.size inb_S1x1x2048_S1x1x256_0_0_1280) b) = gluBlock X W b 1 := by
  have h1 : (cut (Rect.unit (s := S1024x2048) ![0, 256] S1024x256.size inb_S1024x2048_S1024x256_0_256) W) = cut (rA (glu8 1)) W := cut_congr W _ _ rfl
  have h2 : (cut (Rect.unit (s := S1x1x2048) ![0, 0, 256] S1x1x256.size inb_S1x1x2048_S1x1x256_0_0_256) b) = cut (rb (glu8 1)) b := cut_congr b _ _ rfl
  have h3 : (cut (Rect.unit (s := S1024x2048) ![0, 1280] S1024x256.size inb_S1024x2048_S1024x256_0_1280) W) = cut (rA (lin8 1)) W := cut_congr W _ _ rfl
  have h4 : (cut (Rect.unit (s := S1x1x2048) ![0, 0, 1280] S1x1x256.size inb_S1x1x2048_S1x1x256_0_0_1280) b) = cut (rb (lin8 1)) b := cut_congr b _ _ rfl
  unfold gluBlock
  rw [h1, h2, h3, h4]
theorem y_at1 (A : FVec F S256x1024 .bf16) (W : Vec F S1024x1024 .bf16) (b : Vec F S1x1x1024 .f32) :
    k0_pay3 A (cut (Rect.unit (s := S1024x1024) ![0, 256] S1024x256.size inb_S1024x1024_S1024x256_0_256) W) (cut (Rect.unit (s := S1x1x1024) ![0, 0, 256] S1x1x256.size inb_S1x1x1024_S1x1x256_0_0_256) b) = yBlock A W b 1 := by
  have h1 : (cut (Rect.unit (s := S1024x1024) ![0, 256] S1024x256.size inb_S1024x1024_S1024x256_0_256) W) = cut (rB 1) W := cut_congr W _ _ rfl
  have h2 : (cut (Rect.unit (s := S1x1x1024) ![0, 0, 256] S1x1x256.size inb_S1x1x1024_S1x1x256_0_0_256) b) = cut (rc 1) b := cut_congr b _ _ rfl
  unfold yBlock
  rw [h1, h2]
theorem glu_at2 (X : FVec F S256x1024 .bf16) (W : Vec F S1024x2048 .bf16) (b : Vec F S1x1x2048 .f32) :
    k0_pay19 X (cut (Rect.unit (s := S1024x2048) ![0, 512] S1024x256.size inb_S1024x2048_S1024x256_0_512) W) (cut (Rect.unit (s := S1x1x2048) ![0, 0, 512] S1x1x256.size inb_S1x1x2048_S1x1x256_0_0_512) b) (cut (Rect.unit (s := S1024x2048) ![0, 1536] S1024x256.size inb_S1024x2048_S1024x256_0_1536) W) (cut (Rect.unit (s := S1x1x2048) ![0, 0, 1536] S1x1x256.size inb_S1x1x2048_S1x1x256_0_0_1536) b) = gluBlock X W b 2 := by
  have h1 : (cut (Rect.unit (s := S1024x2048) ![0, 512] S1024x256.size inb_S1024x2048_S1024x256_0_512) W) = cut (rA (glu8 2)) W := cut_congr W _ _ rfl
  have h2 : (cut (Rect.unit (s := S1x1x2048) ![0, 0, 512] S1x1x256.size inb_S1x1x2048_S1x1x256_0_0_512) b) = cut (rb (glu8 2)) b := cut_congr b _ _ rfl
  have h3 : (cut (Rect.unit (s := S1024x2048) ![0, 1536] S1024x256.size inb_S1024x2048_S1024x256_0_1536) W) = cut (rA (lin8 2)) W := cut_congr W _ _ rfl
  have h4 : (cut (Rect.unit (s := S1x1x2048) ![0, 0, 1536] S1x1x256.size inb_S1x1x2048_S1x1x256_0_0_1536) b) = cut (rb (lin8 2)) b := cut_congr b _ _ rfl
  unfold gluBlock
  rw [h1, h2, h3, h4]
theorem y_at2 (A : FVec F S256x1024 .bf16) (W : Vec F S1024x1024 .bf16) (b : Vec F S1x1x1024 .f32) :
    k0_pay3 A (cut (Rect.unit (s := S1024x1024) ![0, 512] S1024x256.size inb_S1024x1024_S1024x256_0_512) W) (cut (Rect.unit (s := S1x1x1024) ![0, 0, 512] S1x1x256.size inb_S1x1x1024_S1x1x256_0_0_512) b) = yBlock A W b 2 := by
  have h1 : (cut (Rect.unit (s := S1024x1024) ![0, 512] S1024x256.size inb_S1024x1024_S1024x256_0_512) W) = cut (rB 2) W := cut_congr W _ _ rfl
  have h2 : (cut (Rect.unit (s := S1x1x1024) ![0, 0, 512] S1x1x256.size inb_S1x1x1024_S1x1x256_0_0_512) b) = cut (rc 2) b := cut_congr b _ _ rfl
  unfold yBlock
  rw [h1, h2]
theorem glu_at3 (X : FVec F S256x1024 .bf16) (W : Vec F S1024x2048 .bf16) (b : Vec F S1x1x2048 .f32) :
    k0_pay19 X (cut (Rect.unit (s := S1024x2048) ![0, 768] S1024x256.size inb_S1024x2048_S1024x256_0_768) W) (cut (Rect.unit (s := S1x1x2048) ![0, 0, 768] S1x1x256.size inb_S1x1x2048_S1x1x256_0_0_768) b) (cut (Rect.unit (s := S1024x2048) ![0, 1792] S1024x256.size inb_S1024x2048_S1024x256_0_1792) W) (cut (Rect.unit (s := S1x1x2048) ![0, 0, 1792] S1x1x256.size inb_S1x1x2048_S1x1x256_0_0_1792) b) = gluBlock X W b 3 := by
  have h1 : (cut (Rect.unit (s := S1024x2048) ![0, 768] S1024x256.size inb_S1024x2048_S1024x256_0_768) W) = cut (rA (glu8 3)) W := cut_congr W _ _ rfl
  have h2 : (cut (Rect.unit (s := S1x1x2048) ![0, 0, 768] S1x1x256.size inb_S1x1x2048_S1x1x256_0_0_768) b) = cut (rb (glu8 3)) b := cut_congr b _ _ rfl
  have h3 : (cut (Rect.unit (s := S1024x2048) ![0, 1792] S1024x256.size inb_S1024x2048_S1024x256_0_1792) W) = cut (rA (lin8 3)) W := cut_congr W _ _ rfl
  have h4 : (cut (Rect.unit (s := S1x1x2048) ![0, 0, 1792] S1x1x256.size inb_S1x1x2048_S1x1x256_0_0_1792) b) = cut (rb (lin8 3)) b := cut_congr b _ _ rfl
  unfold gluBlock
  rw [h1, h2, h3, h4]
theorem y_at3 (A : FVec F S256x1024 .bf16) (W : Vec F S1024x1024 .bf16) (b : Vec F S1x1x1024 .f32) :
    k0_pay3 A (cut (Rect.unit (s := S1024x1024) ![0, 768] S1024x256.size inb_S1024x1024_S1024x256_0_768) W) (cut (Rect.unit (s := S1x1x1024) ![0, 0, 768] S1x1x256.size inb_S1x1x1024_S1x1x256_0_0_768) b) = yBlock A W b 3 := by
  have h1 : (cut (Rect.unit (s := S1024x1024) ![0, 768] S1024x256.size inb_S1024x1024_S1024x256_0_768) W) = cut (rB 3) W := cut_congr W _ _ rfl
  have h2 : (cut (Rect.unit (s := S1x1x1024) ![0, 0, 768] S1x1x256.size inb_S1x1x1024_S1x1x256_0_0_768) b) = cut (rc 3) b := cut_congr b _ _ rfl
  unfold yBlock
  rw [h1, h2]

/-- The activation's scratch after its four stores. -/
theorem act_read {m3 : Memref sig .tc .vmem S256x512 .i32} (h3 : m3.IsWhole) {m5 : Memref sig .tc .vmem S1x1x2048 .f32} (h5 : m5.IsWhole)
    {m9 : Memref sig .tc .vmem S256x1024 .bf16} {m10 : Memref sig .tc .vmem S1024x2048 .bf16} (h10 : m10.IsWhole)
    (f : m9.view.ty.Contents (Elt F)) (x : Vec F S256x512 .i32) (W : Vec F S1024x2048 .bf16) (b : Vec F S1x1x2048 .f32) :
    m9.view.read (Elt F) (m9.view.writes (Elt F) f
      [⟨Rect.unit (s := S256x1024) ![0, 768] S256x256.size inb_S256x1024_S256x256_0_768, k0_pay24 (k0_pay22 (k0_pay16 (View.readAt (Elt F) m3.view (Rect.unit (s := S256x512) ![0, 0] S256x512.size inb_S256x512_S256x512_0_0).toLoadRect (h3.unread x))) (View.readAt (Elt F) m10.view (Rect.unit (s := S1024x2048) ![0, 768] S1024x256.size inb_S1024x2048_S1024x256_0_768).toLoadRect (h10.unread W)) (View.readAt (Elt F) m5.view (Rect.unit (s := S1x1x2048) ![0, 0, 768] S1x1x256.size inb_S1x1x2048_S1x1x256_0_0_768).toLoadRect (h5.unread b))) (k0_pay23 (k0_pay16 (View.readAt (Elt F) m3.view (Rect.unit (s := S256x512) ![0, 0] S256x512.size inb_S256x512_S256x512_0_0).toLoadRect (h3.unread x))) (View.readAt (Elt F) m10.view (Rect.unit (s := S1024x2048) ![0, 1792] S1024x256.size inb_S1024x2048_S1024x256_0_1792).toLoadRect (h10.unread W))) (View.readAt (Elt F) m5.view (Rect.unit (s := S1x1x2048) ![0, 0, 1792] S1x1x256.size inb_S1x1x2048_S1x1x256_0_0_1792).toLoadRect (h5.unread b))⟩,
       ⟨Rect.unit (s := S256x1024) ![0, 512] S256x256.size inb_S256x1024_S256x256_0_512, k0_pay21 (k0_pay16 (View.readAt (Elt F) m3.view (Rect.unit (s := S256x512) ![0, 0] S256x512.size inb_S256x512_S256x512_0_0).toLoadRect (h3.unread x))) (k0_pay20 (k0_pay16 (View.readAt (Elt F) m3.view (Rect.unit (s := S256x512) ![0, 0] S256x512.size inb_S256x512_S256x512_0_0).toLoadRect (h3.unread x))) (View.readAt (Elt F) m10.view (Rect.unit (s := S1024x2048) ![0, 512] S1024x256.size inb_S1024x2048_S1024x256_0_512).toLoadRect (h10.unread W))) (View.readAt (Elt F) m5.view (Rect.unit (s := S1x1x2048) ![0, 0, 512] S1x1x256.size inb_S1x1x2048_S1x1x256_0_0_512).toLoadRect (h5.unread b)) (View.readAt (Elt F) m10.view (Rect.unit (s := S1024x2048) ![0, 1536] S1024x256.size inb_S1024x2048_S1024x256_0_1536).toLoadRect (h10.unread W)) (View.readAt (Elt F) m5.view (Rect.unit (s := S1x1x2048) ![0, 0, 1536] S1x1x256.size inb_S1x1x2048_S1x1x256_0_0_1536).toLoadRect (h5.unread b))⟩,
       ⟨Rect.unit (s := S256x1024) ![0, 256] S256x256.size inb_S256x1024_S256x256_0_256, k0_pay19 (k0_pay16 (View.readAt (Elt F) m3.view (Rect.unit (s := S256x512) ![0, 0] S256x512.size inb_S256x512_S256x512_0_0).toLoadRect (h3.unread x))) (View.readAt (Elt F) m10.view (Rect.unit (s := S1024x2048) ![0, 256] S1024x256.size inb_S1024x2048_S1024x256_0_256).toLoadRect (h10.unread W)) (View.readAt (Elt F) m5.view (Rect.unit (s := S1x1x2048) ![0, 0, 256] S1x1x256.size inb_S1x1x2048_S1x1x256_0_0_256).toLoadRect (h5.unread b)) (View.readAt (Elt F) m10.view (Rect.unit (s := S1024x2048) ![0, 1280] S1024x256.size inb_S1024x2048_S1024x256_0_1280).toLoadRect (h10.unread W)) (View.readAt (Elt F) m5.view (Rect.unit (s := S1x1x2048) ![0, 0, 1280] S1x1x256.size inb_S1x1x2048_S1x1x256_0_0_1280).toLoadRect (h5.unread b))⟩,
       ⟨Rect.unit (s := S256x1024) ![0, 0] S256x256.size inb_S256x1024_S256x256_0_0, k0_pay18 (k0_pay17 (View.readAt (Elt F) m3.view (Rect.unit (s := S256x512) ![0, 0] S256x512.size inb_S256x512_S256x512_0_0).toLoadRect (h3.unread x)) (View.readAt (Elt F) m10.view (Rect.unit (s := S1024x2048) ![0, 0] S1024x256.size inb_S1024x2048_S1024x256_0_0).toLoadRect (h10.unread W)) (View.readAt (Elt F) m5.view (Rect.unit (s := S1x1x2048) ![0, 0, 0] S1x1x256.size inb_S1x1x2048_S1x1x256_0_0_0).toLoadRect (h5.unread b)) (View.readAt (Elt F) m10.view (Rect.unit (s := S1024x2048) ![0, 1024] S1024x256.size inb_S1024x2048_S1024x256_0_1024).toLoadRect (h10.unread W)) (View.readAt (Elt F) m5.view (Rect.unit (s := S1x1x2048) ![0, 0, 1024] S1x1x256.size inb_S1x1x2048_S1x1x256_0_0_1024).toLoadRect (h5.unread b)))⟩])
      = actG x W b := by
  have hx : cut (Rect.unit (s := S256x512) ![0, 0] S256x512.size inb_S256x512_S256x512_0_0) x = x := cut_whole ![0, 0] inb_S256x512_S256x512_0_0 x
  rw [readAt_cut h3, hx]
  simp only [readAt_cut h5, readAt_cut h10, pay24_eq, pay21_eq, pay18_eq]
  exact read_four f (gluBlock (k0_pay16 x) W b) _ _ _ _ (glu_at3 _ W b) (glu_at2 _ W b) (glu_at1 _ W b) (glu_at0 _ W b)

/-- The load of the whole activation, from the four stores before it. -/
theorem act_load {m3 : Memref sig .tc .vmem S256x512 .i32} (h3 : m3.IsWhole) {m5 : Memref sig .tc .vmem S1x1x2048 .f32} (h5 : m5.IsWhole)
    {m9 : Memref sig .tc .vmem S256x1024 .bf16} {m10 : Memref sig .tc .vmem S1024x2048 .bf16} (h10 : m10.IsWhole)
    (f : m9.view.ty.Contents (Elt F)) (x : Vec F S256x512 .i32) (W : Vec F S1024x2048 .bf16) (b : Vec F S1x1x2048 .f32) :
    View.readAt (Elt F) m9.view (Rect.unit (s := S256x1024) ![0, 0] S256x1024.size inb_S256x1024_S256x1024_0_0).toLoadRect (m9.view.writes (Elt F) f
      [⟨Rect.unit (s := S256x1024) ![0, 768] S256x256.size inb_S256x1024_S256x256_0_768, k0_pay24 (k0_pay22 (k0_pay16 (View.readAt (Elt F) m3.view (Rect.unit (s := S256x512) ![0, 0] S256x512.size inb_S256x512_S256x512_0_0).toLoadRect (h3.unread x))) (View.readAt (Elt F) m10.view (Rect.unit (s := S1024x2048) ![0, 768] S1024x256.size inb_S1024x2048_S1024x256_0_768).toLoadRect (h10.unread W)) (View.readAt (Elt F) m5.view (Rect.unit (s := S1x1x2048) ![0, 0, 768] S1x1x256.size inb_S1x1x2048_S1x1x256_0_0_768).toLoadRect (h5.unread b))) (k0_pay23 (k0_pay16 (View.readAt (Elt F) m3.view (Rect.unit (s := S256x512) ![0, 0] S256x512.size inb_S256x512_S256x512_0_0).toLoadRect (h3.unread x))) (View.readAt (Elt F) m10.view (Rect.unit (s := S1024x2048) ![0, 1792] S1024x256.size inb_S1024x2048_S1024x256_0_1792).toLoadRect (h10.unread W))) (View.readAt (Elt F) m5.view (Rect.unit (s := S1x1x2048) ![0, 0, 1792] S1x1x256.size inb_S1x1x2048_S1x1x256_0_0_1792).toLoadRect (h5.unread b))⟩,
       ⟨Rect.unit (s := S256x1024) ![0, 512] S256x256.size inb_S256x1024_S256x256_0_512, k0_pay21 (k0_pay16 (View.readAt (Elt F) m3.view (Rect.unit (s := S256x512) ![0, 0] S256x512.size inb_S256x512_S256x512_0_0).toLoadRect (h3.unread x))) (k0_pay20 (k0_pay16 (View.readAt (Elt F) m3.view (Rect.unit (s := S256x512) ![0, 0] S256x512.size inb_S256x512_S256x512_0_0).toLoadRect (h3.unread x))) (View.readAt (Elt F) m10.view (Rect.unit (s := S1024x2048) ![0, 512] S1024x256.size inb_S1024x2048_S1024x256_0_512).toLoadRect (h10.unread W))) (View.readAt (Elt F) m5.view (Rect.unit (s := S1x1x2048) ![0, 0, 512] S1x1x256.size inb_S1x1x2048_S1x1x256_0_0_512).toLoadRect (h5.unread b)) (View.readAt (Elt F) m10.view (Rect.unit (s := S1024x2048) ![0, 1536] S1024x256.size inb_S1024x2048_S1024x256_0_1536).toLoadRect (h10.unread W)) (View.readAt (Elt F) m5.view (Rect.unit (s := S1x1x2048) ![0, 0, 1536] S1x1x256.size inb_S1x1x2048_S1x1x256_0_0_1536).toLoadRect (h5.unread b))⟩,
       ⟨Rect.unit (s := S256x1024) ![0, 256] S256x256.size inb_S256x1024_S256x256_0_256, k0_pay19 (k0_pay16 (View.readAt (Elt F) m3.view (Rect.unit (s := S256x512) ![0, 0] S256x512.size inb_S256x512_S256x512_0_0).toLoadRect (h3.unread x))) (View.readAt (Elt F) m10.view (Rect.unit (s := S1024x2048) ![0, 256] S1024x256.size inb_S1024x2048_S1024x256_0_256).toLoadRect (h10.unread W)) (View.readAt (Elt F) m5.view (Rect.unit (s := S1x1x2048) ![0, 0, 256] S1x1x256.size inb_S1x1x2048_S1x1x256_0_0_256).toLoadRect (h5.unread b)) (View.readAt (Elt F) m10.view (Rect.unit (s := S1024x2048) ![0, 1280] S1024x256.size inb_S1024x2048_S1024x256_0_1280).toLoadRect (h10.unread W)) (View.readAt (Elt F) m5.view (Rect.unit (s := S1x1x2048) ![0, 0, 1280] S1x1x256.size inb_S1x1x2048_S1x1x256_0_0_1280).toLoadRect (h5.unread b))⟩,
       ⟨Rect.unit (s := S256x1024) ![0, 0] S256x256.size inb_S256x1024_S256x256_0_0, k0_pay18 (k0_pay17 (View.readAt (Elt F) m3.view (Rect.unit (s := S256x512) ![0, 0] S256x512.size inb_S256x512_S256x512_0_0).toLoadRect (h3.unread x)) (View.readAt (Elt F) m10.view (Rect.unit (s := S1024x2048) ![0, 0] S1024x256.size inb_S1024x2048_S1024x256_0_0).toLoadRect (h10.unread W)) (View.readAt (Elt F) m5.view (Rect.unit (s := S1x1x2048) ![0, 0, 0] S1x1x256.size inb_S1x1x2048_S1x1x256_0_0_0).toLoadRect (h5.unread b)) (View.readAt (Elt F) m10.view (Rect.unit (s := S1024x2048) ![0, 1024] S1024x256.size inb_S1024x2048_S1024x256_0_1024).toLoadRect (h10.unread W)) (View.readAt (Elt F) m5.view (Rect.unit (s := S1x1x2048) ![0, 0, 1024] S1x1x256.size inb_S1x1x2048_S1x1x256_0_0_1024).toLoadRect (h5.unread b)))⟩])
      = actG x W b :=
  (congrArg (cut (Rect.unit (s := S256x1024) ![0, 0] S256x1024.size inb_S256x1024_S256x1024_0_0)) (act_read h3 h5 h10 f x W b)).trans (cut_whole (s := S256x1024) ![0, 0] inb_S256x1024_S256x1024_0_0 _)

/-- The output's buffer after the store of zeros. -/
theorem read_zero {m8 : Memref sig .tc .vmem S256x1024 .f32} (f : m8.view.ty.Contents (Elt F)) :
    m8.view.read (Elt F) (m8.view.writes (Elt F) f [⟨Rect.unit (s := S256x1024) ![0, 0] S256x1024.size inb_S256x1024_S256x1024_0_0, k0_pay5⟩]) = k0_pay5 := by
  funext y
  refine View.read_writes_apply_of_pieces (v := m8.view) (f := f) k0_pay5 _ ?_ y
    (View.cover_of_tiledL (s := S256x1024) _ S256x1024.size (by sl_kernel_rfl) y)
  intro p hp k
  simp only [List.mem_cons, List.not_mem_nil, _root_.or_false] at hp
  subst hp
  exact (congrFun (cut_whole (s := S256x1024) ![0, 0] inb_S256x1024_S256x1024_0_0 (k0_pay5 : Vec F S256x1024 .f32)) k).symm

/-- The output's buffer after its four stores, from the activation they read. -/
theorem y_read {m7 : Memref sig .tc .vmem S1x1x1024 .f32} (h7 : m7.IsWhole)
    {m8 : Memref sig .tc .vmem S256x1024 .f32} {m11 : Memref sig .tc .vmem S1024x1024 .bf16} (h11 : m11.IsWhole)
    (f : m8.view.ty.Contents (Elt F)) (A : Vec F S256x1024 .bf16) (W : Vec F S1024x1024 .bf16) (b : Vec F S1x1x1024 .f32) :
    m8.view.read (Elt F) (m8.view.writes (Elt F) f
      [⟨Rect.unit (s := S256x1024) ![0, 768] S256x256.size inb_S256x1024_S256x256_0_768, k0_pay4 A (View.readAt (Elt F) m11.view (Rect.unit (s := S1024x1024) ![0, 768] S1024x256.size inb_S1024x1024_S1024x256_0_768).toLoadRect (h11.unread W)) (View.readAt (Elt F) m7.view (Rect.unit (s := S1x1x1024) ![0, 0, 768] S1x1x256.size inb_S1x1x1024_S1x1x256_0_0_768).toLoadRect (h7.unread b))⟩,
       ⟨Rect.unit (s := S256x1024) ![0, 512] S256x256.size inb_S256x1024_S256x256_0_512, k0_pay3 A (View.readAt (Elt F) m11.view (Rect.unit (s := S1024x1024) ![0, 512] S1024x256.size inb_S1024x1024_S1024x256_0_512).toLoadRect (h11.unread W)) (View.readAt (Elt F) m7.view (Rect.unit (s := S1x1x1024) ![0, 0, 512] S1x1x256.size inb_S1x1x1024_S1x1x256_0_0_512).toLoadRect (h7.unread b))⟩,
       ⟨Rect.unit (s := S256x1024) ![0, 256] S256x256.size inb_S256x1024_S256x256_0_256, k0_pay26 A (View.readAt (Elt F) m11.view (Rect.unit (s := S1024x1024) ![0, 256] S1024x256.size inb_S1024x1024_S1024x256_0_256).toLoadRect (h11.unread W)) (View.readAt (Elt F) m7.view (Rect.unit (s := S1x1x1024) ![0, 0, 256] S1x1x256.size inb_S1x1x1024_S1x1x256_0_0_256).toLoadRect (h7.unread b))⟩,
       ⟨Rect.unit (s := S256x1024) ![0, 0] S256x256.size inb_S256x1024_S256x256_0_0, k0_pay25 A (View.readAt (Elt F) m11.view (Rect.unit (s := S1024x1024) ![0, 0] S1024x256.size inb_S1024x1024_S1024x256_0_0).toLoadRect (h11.unread W)) (View.readAt (Elt F) m7.view (Rect.unit (s := S1x1x1024) ![0, 0, 0] S1x1x256.size inb_S1x1x1024_S1x1x256_0_0_0).toLoadRect (h7.unread b))⟩])
      = yG A W b := by
  simp only [readAt_cut h7, readAt_cut h11, pay4_eq, pay26_eq, pay25_eq]
  exact read_four f (yBlock A W b) _ _ _ _ (y_at3 A W b) (y_at2 A W b) (y_at1 A W b) (y_at0 A W b)

end Cert.MoeIdeal.Experts

end
-- ==== Proof.Body.lean ====
module

public import proofs.«01_k».proof.Proof.Forms

@[expose] public section

set_option maxRecDepth 16384

noncomputable section

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

/-- The table of experts and the count of used chunks, as the body is handed them: whole buffers. -/
abbrev tabE : Memref sig .tc .smem S544 .i32 := Memref.whole main_v19
abbrev htabE : tabE.IsWhole := Memref.isWhole_whole _
abbrev tabU : Memref sig .tc .smem S1 .i32 := Memref.whole main_v21
abbrev htabU : tabU.IsWhole := Memref.isWhole_whole _

/-- The contents of a table's buffer on core `c`, and that buffer held at half the full share. -/
abbrev TabBuf (c : Dev nD) {S : Shape} {e : EltTy} (M : Memref sig .tc .smem S e) : Type := Buf (Elt F) (M.view.loc (c : Thread nD τ))
abbrev heldHalf (c : Dev nD) {S : Shape} {e : EltTy} (M : Memref sig .tc .smem S e) (f : TabBuf (F := F) c M) : sProp 𝕄 :=
  M.view.loc (c : Thread nD τ) ↦{fullShare.right} f

/-- The words the body reads of the tables: how many chunks are used, and the expert of a chunk. -/
def wordU (c : Dev nD) (tu : TabBuf (F := F) c tabU) : BitVec 32 :=
  View.readAt (Elt F) tabU.view (Rect.unit (s := S1) ![0] S1.size inb_S1_S1_0).toLoadRect tu (Shape.Idx.first (numel1_S1 ▸ Nat.one_pos))
def wordE (c : Dev nD) (te : TabBuf (F := F) c tabE) (off : Fin 1 → Nat) (h : ∀ a, off a + S1.size a ≤ S544.size a) : BitVec 32 :=
  View.readAt (Elt F) tabE.view (Rect.unit (s := S544) off S1.size h).toLoadRect te (Shape.Idx.first (numel1_S1 ▸ Nat.one_pos))

/-- Whether the body rounds the weights anew: at a used chunk that is the first or whose expert is not the one before's. -/
def refresh (i : grid0.Coords) (u e e' : BitVec 32) : Prop :=
  Scalar.cmpi .ne (Scalar.extui (Scalar.andi (Scalar.cmpi .slt (BitVec.ofNat 32 (i 0).val) u) (Scalar.ori (Scalar.cmpi .eq (BitVec.ofNat 32 (i 0).val) 0#32) (Scalar.cmpi .ne e e')))) 0#32 = 1#1

/-- A whole buffer held at contents that read `X` is owned at `X`. -/
theorem owns_of {c : Dev nD} {S : Shape} {e : EltTy} {m : Memref sig .tc .vmem S e} {f : m.view.ty.Contents (Elt F)} {X : Vec F S e}
    (h : m.view.read (Elt F) f = X) :
    (m.view.loc (c : Thread nD τ) ↦[m.view.set]{fullShare} f : sProp 𝕄) ⊢ iprop(∃ f, ⌜m.view.read (Elt F) f = X⌝ ∗ m.view.loc (c : Thread nD τ) ↦[m.view.set]{fullShare} f) := by
  iintro H
  iexists f
  isplitr
  · ipureintro; exact h
  iexact H

/-- A whole buffer held at anything is owned at something. -/
theorem owns_any {c : Dev nD} {S : Shape} {e : EltTy} {m : Memref sig .tc .vmem S e} {f : m.view.ty.Contents (Elt F)} :
    (m.view.loc (c : Thread nD τ) ↦[m.view.set]{fullShare} f : sProp 𝕄)
      ⊢ iprop(∃ d, ∃ f, ⌜m.view.read (Elt F) f = d⌝ ∗ m.view.loc (c : Thread nD τ) ↦[m.view.set]{fullShare} f) := by
  iintro H
  iexists m.view.read (Elt F) f
  iapply owns_of rfl
  iexact H

/-- The scratches of rounded weights after the body, from what they held before it. -/
def scr1 (i : grid0.Coords) (u e e' : BitVec 32) (x : Vec F S1x1024x2048 .f32) (s : Vec F S1024x2048 .bf16) : Vec F S1024x2048 .bf16 :=
  open Classical in if refresh i u e e' then w1c x else s
def scr2 (i : grid0.Coords) (u e e' : BitVec 32) (x : Vec F S1x1024x1024 .f32) (s : Vec F S1024x1024 .bf16) : Vec F S1024x1024 .bf16 :=
  open Classical in if refresh i u e e' then w2c x else s

/-- What the body leaves in the output's buffer, from the rounded weights it used: the chunk's result where the chunk is
used, zeros elsewhere. -/
def outB (i : grid0.Coords) (u : BitVec 32) (x : Vec F S256x512 .i32) (b : Vec F S1x1x2048 .f32) (b' : Vec F S1x1x1024 .f32)
    (W : Vec F S1024x2048 .bf16) (W' : Vec F S1024x1024 .bf16) : Vec F S256x1024 .f32 :=
  if k0_cond2 i u = 1#1 then yG (actG x W b) W' b' else k0_pay5

/-- Exactly one of the two stores of the output is done. -/
theorem cond3_iff (i : grid0.Coords) (u : BitVec 32) : k0_cond3 i u = 1#1 ↔ ¬ k0_cond2 i u = 1#1 := by
  unfold k0_cond2 k0_cond3
  dsimp only
  generalize BitVec.ofNat 32 (i 0).val = a
  simp only [Scalar.cmpi, Scalar.extui, IntOp.cmpi]
  rw [BitVec.sle_eq_not_slt]
  cases a.slt u <;> decide

set_option maxHeartbeats 4000000 in
/-- The body's run: from the tables' words, the inputs' blocks and the scratches it finds, what it leaves. -/
theorem body_triple (c : Dev nD) (i : grid0.Coords)
    (arg3 : Memref sig .tc .vmem S256x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S256x1024 .f32) (harg8 : arg8.IsWhole)
    (arg9 : Memref sig .tc .vmem S256x1024 .bf16) (harg9 : arg9.IsWhole) (arg10 : Memref sig .tc .vmem S1024x2048 .bf16) (harg10 : arg10.IsWhole)
    (arg11 : Memref sig .tc .vmem S1024x1024 .bf16) (harg11 : arg11.IsWhole)
    (x0 : Vec F S256x512 .i32) (x1 : Vec F S1x1024x2048 .f32) (x2 : Vec F S1x1x2048 .f32) (x3 : Vec F S1x1024x1024 .f32) (x4 : Vec F S1x1x1024 .f32)
    (s10 : Vec F S1024x2048 .bf16) (s11 : Vec F S1024x1024 .bf16) (te : TabBuf (F := F) c tabE) (tu : TabBuf (F := F) c tabU) :
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (∃ d, owns (c : Thread nD τ) arg9 fullShare d) ∗ owns (c : Thread nD τ) arg10 fullShare s10 ∗ owns (c : Thread nD τ) arg11 fullShare s11
            ∗ heldHalf c tabE te ∗ heldHalf c tabU tu
            ∗ ((owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outB i (wordU c tu) x0 x2 x4 (scr1 i (wordU c tu) (wordE c te (k0_off1 i) (k0_off1_inb i)) (wordE c te (k0_off2 i) (k0_off2_inb i)) x1 s10)
                (scr2 i (wordU c tu) (wordE c te (k0_off1 i) (k0_off1_inb i)) (wordE c te (k0_off2 i) (k0_off2_inb i)) x3 s11))
            ∗ (∃ d, owns (c : Thread nD τ) arg9 fullShare d)
            ∗ owns (c : Thread nD τ) arg10 fullShare (scr1 i (wordU c tu) (wordE c te (k0_off1 i) (k0_off1_inb i)) (wordE c te (k0_off2 i) (k0_off2_inb i)) x1 s10)
            ∗ owns (c : Thread nD τ) arg11 fullShare (scr2 i (wordU c tu) (wordE c te (k0_off1 i) (k0_off1_inb i)) (wordE c te (k0_off2 i) (k0_off2_inb i)) x3 s11)
            ∗ heldHalf c tabE te ∗ heldHalf c tabU tu) -∗ K ⟨⟩))
          ⊢ wp frame (wpE (defs₀ (F := F)) Variants.none c none) E (cc0_moe_experts i tabE htabE tabU htabU arg3 harg3 arg4 harg4 arg5 harg5 arg6 harg6 arg7 harg7 arg8 harg8 arg9 harg9 arg10 harg10 arg11 harg11) K := by
    intro E K
    simp only [cc0_moe_experts_eq_skeleton]
    unfold cc0_moe_experts_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, HT0, HT1, Hk⟩
    obtain rfl := harg3.eq_unread hf0; obtain rfl := harg4.eq_unread hf1; obtain rfl := harg5.eq_unread hf2; obtain rfl := harg6.eq_unread hf3; obtain rfl := harg7.eq_unread hf4
    obtain rfl := harg10.eq_unread hf7; obtain rfl := harg11.eq_unread hf8
    by_cases hr : refresh i (wordU c tu) (wordE c te (k0_off1 i) (k0_off1_inb i)) (wordE c te (k0_off2 i) (k0_off2_inb i)) <;>
      by_cases h2 : k0_cond2 i (wordU c tu) = 1#1
    · simp only [scr1, scr2, outB, if_pos hr, if_pos h2]
      have h3 := mt (cond3_iff i (wordU c tu)).mp (not_not.mpr h2)
      unfold refresh wordU wordE at hr
      unfold wordU at h2 h3
      set_option sl_exec.stopBefore "k0_cond2" in sl_exec
      sl_unfold_run_names
      rw [scr1_refresh harg10 harg4, scr2_refresh harg11 harg6]
      sl_exec
      sl_unfold_run_names
      sl_step
      iapply Hk
      isplitl [H0]
      · iapply owns_of (harg3.read_unread x0); iexact H0
      isplitl [H1]
      · iapply owns_of (harg4.read_unread x1); iexact H1
      isplitl [H2]
      · iapply owns_of (harg5.read_unread x2); iexact H2
      isplitl [H3]
      · iapply owns_of (harg6.read_unread x3); iexact H3
      isplitl [H4]
      · iapply owns_of (harg7.read_unread x4); iexact H4
      isplitl [H5]
      · iexists _
        isplitr [H5]
        rotate_left
        · iexact H5
        · ipureintro
          exact (y_read harg7 harg11 _ _ _ _).trans (congrArg (fun A => yG A _ x4) (act_load harg3 harg5 harg10 _ _ _ _))
      isplitl [H6]
      · iapply owns_any; iexact H6
      isplitl [H7]
      · iapply owns_of (harg10.read_unread _); iexact H7
      isplitl [H8]
      · iapply owns_of (harg11.read_unread _); iexact H8
      isplitl [HT0]
      · iexact HT0
      iexact HT1
    · simp only [scr1, scr2, outB, if_pos hr, if_neg h2]
      have h3 := (cond3_iff i (wordU c tu)).mpr h2
      unfold refresh wordU wordE at hr
      unfold wordU at h2 h3
      set_option sl_exec.stopBefore "k0_cond2" in sl_exec
      sl_unfold_run_names
      rw [scr1_refresh harg10 harg4, scr2_refresh harg11 harg6]
      sl_exec
      sl_unfold_run_names
      sl_step
      iapply Hk
      isplitl [H0]
      · iapply owns_of (harg3.read_unread x0); iexact H0
      isplitl [H1]
      · iapply owns_of (harg4.read_unread x1); iexact H1
      isplitl [H2]
      · iapply owns_of (harg5.read_unread x2); iexact H2
      isplitl [H3]
      · iapply owns_of (harg6.read_unread x3); iexact H3
      isplitl [H4]
      · iapply owns_of (harg7.read_unread x4); iexact H4
      isplitl [H5]
      · iexists _
        isplitr [H5]
        rotate_left
        · iexact H5
        · ipureintro
          exact read_zero _
      isplitl [H6]
      · iapply owns_any; iexact H6
      isplitl [H7]
      · iapply owns_of (harg10.read_unread _); iexact H7
      isplitl [H8]
      · iapply owns_of (harg11.read_unread _); iexact H8
      isplitl [HT0]
      · iexact HT0
      iexact HT1
    · simp only [scr1, scr2, outB, if_neg hr, if_pos h2]
      have h3 := mt (cond3_iff i (wordU c tu)).mp (not_not.mpr h2)
      unfold refresh wordU wordE at hr
      unfold wordU at h2 h3
      set_option sl_exec.stopBefore "k0_cond2" in sl_exec
      sl_unfold_run_names
      sl_exec
      sl_unfold_run_names
      sl_step
      iapply Hk
      isplitl [H0]
      · iapply owns_of (harg3.read_unread x0); iexact H0
      isplitl [H1]
      · iapply owns_of (harg4.read_unread x1); iexact H1
      isplitl [H2]
      · iapply owns_of (harg5.read_unread x2); iexact H2
      isplitl [H3]
      · iapply owns_of (harg6.read_unread x3); iexact H3
      isplitl [H4]
      · iapply owns_of (harg7.read_unread x4); iexact H4
      isplitl [H5]
      · iexists _
        isplitr [H5]
        rotate_left
        · iexact H5
        · ipureintro
          exact (y_read harg7 harg11 _ _ _ _).trans (congrArg (fun A => yG A _ x4) (act_load harg3 harg5 harg10 _ _ _ _))
      isplitl [H6]
      · iapply owns_any; iexact H6
      isplitl [H7]
      · iapply owns_of (harg10.read_unread _); iexact H7
      isplitl [H8]
      · iapply owns_of (harg11.read_unread _); iexact H8
      isplitl [HT0]
      · iexact HT0
      iexact HT1
    · simp only [scr1, scr2, outB, if_neg hr, if_neg h2]
      have h3 := (cond3_iff i (wordU c tu)).mpr h2
      unfold refresh wordU wordE at hr
      unfold wordU at h2 h3
      set_option sl_exec.stopBefore "k0_cond2" in sl_exec
      sl_unfold_run_names
      sl_exec
      sl_unfold_run_names
      sl_step
      iapply Hk
      isplitl [H0]
      · iapply owns_of (harg3.read_unread x0); iexact H0
      isplitl [H1]
      · iapply owns_of (harg4.read_unread x1); iexact H1
      isplitl [H2]
      · iapply owns_of (harg5.read_unread x2); iexact H2
      isplitl [H3]
      · iapply owns_of (harg6.read_unread x3); iexact H3
      isplitl [H4]
      · iapply owns_of (harg7.read_unread x4); iexact H4
      isplitl [H5]
      · iexists _
        isplitr [H5]
        rotate_left
        · iexact H5
        · ipureintro
          exact read_zero _
      isplitl [H6]
      · iapply owns_any; iexact H6
      isplitl [H7]
      · iapply owns_of (harg10.read_unread _); iexact H7
      isplitl [H8]
      · iapply owns_of (harg11.read_unread _); iexact H8
      isplitl [HT0]
      · iexact HT0
      iexact HT1

end Cert.MoeIdeal.Experts

end
-- ==== Proof.Host.lean ====
module

public import proofs.«01_k».proof.Proof.Gen.MoeIdeal.Launch
public import Idealize.ShloMosaic.Lib.Pipeline.Kit
public import Idealize.ShloMosaic.Lib.Pipeline.FrameBody
public import Idealize.ShloMosaic.Lib.StableHlo.RunRead
public import Idealize.ShloMosaic.Lib.Claim
public import Idealize.ShloMosaic.Lib.Ring
public import Idealize.ShloMosaic.Lib.Tactic

@[expose] public section

set_option maxRecDepth 16384

noncomputable section

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The routing, as the host computes it -/

/-- The seven stretches of host operations before the call. -/
abbrev stretches : List (List (HloOp τ sig (Elt F))) :=
  [hostOps0, hostOps0_1, hostOps0_2, hostOps0_3, hostOps0_4, hostOps0_5, hostOps0_6]

/-- A core's buffers when the call starts. -/
abbrev V (c : Dev nD) (b : Ref sig .tc) : Buf (Elt F) ((c : Thread nD τ).loc b) :=
  StableHlo.after (List.flatten stretches) (fun b => m (c, b)) b

theorem stretches_fresh : (stretches : List (List (HloOp τ sig (Elt F)))).Forall fun ops => ops.Forall fun op => op.fresh = ∅ := by
  simp only [List.Forall]; repeat' constructor

/-- The program is those stretches and then the call. -/
theorem enters (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches
    ⟨hostOps0_sub, hostOps0_1_sub, hostOps0_2_sub, hostOps0_3_sub, hostOps0_4_sub, hostOps0_5_sub, hostOps0_6_sub⟩
    stretches_fresh main_chain

/-- Flooring division of every entry by one word. -/
def floorDiv (S : Shape) (h : S_.BroadcastsInDim S (![] : Fin 0 → Fin S.rank)) (x : (⟨S, .i32⟩ : BufTy).Contents (Elt F))
    (d : (⟨S_, .i32⟩ : BufTy).Contents (Elt F)) : (⟨S, .i32⟩ : BufTy).Contents (Elt F) :=
  select
    (andi (cmpi .ne (signi x) (broadcastInDim S ![] h (signi d)))
      (cmpi .ne (Host.remsi x (broadcastInDim S ![] h d)) (broadcastInDim S ![] h (constantI S_ 32 0#32))))
    (subi (Host.divsi x (broadcastInDim S ![] h d)) (broadcastInDim S ![] h (constantI S_ 32 1#32)))
    (Host.divsi x (broadcastInDim S ![] h d))

/-- Where each expert's rows end, from the counts already raised by 255. -/
def endsOf (up : (⟨S32, .i32⟩ : BufTy).Contents (Elt F)) : (⟨S32, .i32⟩ : BufTy).Contents (Elt F) :=
  Host.reduceWindow IntOp.addi ![32] ![1] ![31] ![0]
    (muli (floorDiv S32 bcast_S_S32 up (constantI S_ 32 256#32)) (broadcastInDim S32 ![] bcast_S_S32 (constantI S_ 32 256#32)))
    (broadcastInDim S_ ![] bcast_S_S_ (constantI S_ 32 0#32)) reduceWindows_S32_S32_w32s1p31_0 h_S_

/-- The expert of each chunk, from where the experts' rows end. -/
def expertOf (ends : (⟨S32, .i32⟩ : BufTy).Contents (Elt F)) : (⟨S544, .i32⟩ : BufTy).Contents (Elt F) :=
  minsi
    (Host.reduce IntOp.addi
      (extui 32
        (cmpi .sle
          (broadcastInDim S544x32 ![0, 1] bcast_S1x32_S544x32_0_1 (broadcastInDim S1x32 ![1] bcast_S32_S1x32_1 ends))
          (broadcastInDim S544x32 ![0, 1] bcast_S544x1_S544x32_0_1
            (muli (broadcastInDim S544x1 ![0] bcast_S544_S544x1_0 (iotaInDim S544 32 0))
              (broadcastInDim S544x1 ![] bcast_S_S544x1 (constantI S_ 32 256#32))))) natLt_1_32)
      (constantI S_ 32 0#32) reducesTo_S544x32_S544_d1 h_S_)
    (broadcastInDim S544 ![] bcast_S_S544 (constantI S_ 32 31#32))

/-- How many chunks hold rows. -/
def usedOf (ends : (⟨S32, .i32⟩ : BufTy).Contents (Elt F)) : (⟨S1, .i32⟩ : BufTy).Contents (Elt F) :=
  floorDiv S1 bcast_S_S1 (extractStridedSlice S1 ![31] ends slices_S32_S1_31) (constantI S_ 32 256#32)

/-- The counts raised by 256 and lowered by one. -/
def raised (cnt : (⟨S32, .i32⟩ : BufTy).Contents (Elt F)) : (⟨S32, .i32⟩ : BufTy).Contents (Elt F) :=
  subi (addi cnt (broadcastInDim S32 ![] bcast_S_S32 (constantI S_ 32 256#32)))
    (broadcastInDim S32 ![] bcast_S_S32 (constantI S_ 32 1#32))

section Stretch

variable (σ : Valuation τ sig (Elt F))

theorem read_raised : StableHlo.after hostOps0 σ (Proc.devRef .tc main_v3) = raised (σ (Proc.devRef .tc main_arg1)) := by
  after_reads_simp; rfl
theorem read_256 : StableHlo.after hostOps0 σ (Proc.devRef .tc main_c_1) = constantI S_ 32 256#32 := by
  after_reads_simp
set_option maxHeartbeats 1000000 in
theorem read_quot : StableHlo.after hostOps0_1 σ (Proc.devRef .tc main_v4)
    = floorDiv (F := F) S32 bcast_S_S32 (σ (Proc.devRef .tc main_v3)) (σ (Proc.devRef .tc main_c_1)) := by
  after_reads_simp; rfl
theorem read_padded : StableHlo.after hostOps0_2 σ (Proc.devRef .tc main_v6)
    = muli (σ (Proc.devRef .tc main_v4)) (broadcastInDim S32 ![] bcast_S_S32 (constantI S_ 32 256#32)) := by
  after_reads_simp
theorem read_ends : StableHlo.after hostOps0_3 σ (Proc.devRef .tc main_v7)
    = (Host.reduceWindow IntOp.addi ![32] ![1] ![31] ![0] (σ (Proc.devRef .tc main_v6))
        (broadcastInDim S_ ![] bcast_S_S_ (constantI S_ 32 0#32)) reduceWindows_S32_S32_w32s1p31_0 h_S_
        : (⟨S32, .i32⟩ : BufTy).Contents (Elt F)) := by
  after_reads_simp; congr 1
set_option maxHeartbeats 1000000 in
theorem read_expert : StableHlo.after hostOps0_4 σ (Proc.devRef .tc main_v19) = expertOf (F := F) (σ (Proc.devRef .tc main_v7)) := by
  after_reads_simp; rfl
theorem read_last : StableHlo.after hostOps0_4 σ (Proc.devRef .tc main_v20)
    = (extractStridedSlice S1 ![31] (σ (Proc.devRef .tc main_v7)) slices_S32_S1_31 : (⟨S1, .i32⟩ : BufTy).Contents (Elt F)) := by
  after_reads_simp
theorem read_256' : StableHlo.after hostOps0_4 σ (Proc.devRef .tc main_c_6) = constantI S_ 32 256#32 := by
  after_reads_simp
theorem keep_expert : StableHlo.after hostOps0_5 σ (Proc.devRef .tc main_v19) = σ (Proc.devRef .tc main_v19) := by
  after_reads_simp
set_option maxHeartbeats 1000000 in
theorem read_used : StableHlo.after hostOps0_5 σ (Proc.devRef .tc main_v21)
    = floorDiv (F := F) S1 bcast_S_S1 (σ (Proc.devRef .tc main_v20)) (σ (Proc.devRef .tc main_c_6)) := by
  after_reads_simp; rfl
theorem keep_expert' : StableHlo.after hostOps0_6 σ (Proc.devRef .tc main_v19) = σ (Proc.devRef .tc main_v19) := by
  after_reads_simp
theorem keep_used : StableHlo.after hostOps0_6 σ (Proc.devRef .tc main_v21) = σ (Proc.devRef .tc main_v21) := by
  after_reads_simp
theorem read_b1 : StableHlo.after hostOps0_6 σ (Proc.devRef .tc main_v22)
    = shapeCast S32x1x2048 (σ (Proc.devRef .tc main_arg3)) shapeCasts_S32x2048_S32x1x2048 := by
  after_reads_simp; rfl
theorem read_b2 : StableHlo.after hostOps0_6 σ (Proc.devRef .tc main_v23)
    = shapeCast S32x1x1024 (σ (Proc.devRef .tc main_arg5)) shapeCasts_S32x1024_S32x1x1024 := by
  after_reads_simp; rfl

end Stretch

/-- The stretches run one after another. -/
theorem V_split (c : Dev nD) (b : Ref sig .tc) : V m c b
    = StableHlo.after hostOps0_6 (StableHlo.after hostOps0_5 (StableHlo.after hostOps0_4 (StableHlo.after hostOps0_3
        (StableHlo.after hostOps0_2 (StableHlo.after hostOps0_1 (StableHlo.after hostOps0 (fun b => m (c, b)))))))) b := by
  unfold V stretches
  rw [List.flatten_cons, List.flatten_cons, List.flatten_cons, List.flatten_cons, List.flatten_cons, List.flatten_cons,
    List.flatten_cons, List.flatten_nil, List.append_nil, StableHlo.after_append, StableHlo.after_append, StableHlo.after_append, StableHlo.after_append,
    StableHlo.after_append, StableHlo.after_append]

/-- The references the host operations write. -/
def written : List (Ref sig .tc) :=
  [main_c, main_v0, main_v1, main_c_0, main_v2, main_v3, main_c_1, main_call0_v0, main_call0_v1, main_call0_v2,
   main_call0_v3, main_call0_v4, main_call0_v5, main_call0_v6, main_call0_v7, main_call0_v8, main_call0_c,
   main_call0_v9, main_call0_v10, main_call0_v11, main_call0_c_0, main_call0_v12, main_call0_v13, main_v4,
   main_c_2, main_v5, main_v6, main_call1_call0_c, main_call1_call0_v0, main_v7, main_v8, main_v9, main_c_3,
   main_v10, main_v11, main_v12, main_v13, main_v14, main_v15, main_v16, main_c_4, main_v17, main_c_5, main_v18,
   main_v19, main_v20, main_c_6, main_call2_v0, main_call2_v1, main_call2_v2, main_call2_v3, main_call2_v4,
   main_call2_v5, main_call2_v6, main_call2_v7, main_call2_v8, main_call2_c, main_call2_v9, main_call2_v10,
   main_call2_v11, main_call2_c_0, main_call2_v12, main_call2_v13, main_v21, main_v22, main_v23]

/-- What no host operation writes is found as launched. -/
theorem V_kept (c : Dev nD) (b : Ref sig .tc) (hb : b ∉ written) : V m c b = m ((c : Thread nD τ).loc b) :=
  StableHlo.after_unwritten (ops := List.flatten stretches) written rfl hb _

theorem V_main_v19 (c : Dev nD) : V m c main_v19 = expertOf (endsOf (raised (m ((c : Thread nD τ).loc main_arg1)))) := by
  rw [V_split, keep_expert', keep_expert, read_expert, read_ends, read_padded, read_quot, read_raised, read_256]
  rfl

theorem V_main_v21 (c : Dev nD) : V m c main_v21 = usedOf (endsOf (raised (m ((c : Thread nD τ).loc main_arg1)))) := by
  rw [V_split, keep_used, read_used, read_last, read_256', read_ends, read_padded, read_quot, read_raised, read_256]
  rfl

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)

theorem V_main_v22 (c : Dev nD) : V m c main_v22 = shapeCast S32x1x2048 (m ((c : Thread nD τ).loc main_arg3)) shapeCasts_S32x2048_S32x1x2048 := by
  rw [V_split, read_b1]
  have h := V_main_arg3 m c
  rw [V_split, StableHlo.after_unwritten (ops := hostOps0_6) [main_v22, main_v23] rfl (by decide)] at h
  rw [h]

theorem V_main_v23 (c : Dev nD) : V m c main_v23 = shapeCast S32x1x1024 (m ((c : Thread nD τ).loc main_arg5)) shapeCasts_S32x1024_S32x1x1024 := by
  rw [V_split, read_b2]
  have h := V_main_arg5 m c
  rw [V_split, StableHlo.after_unwritten (ops := hostOps0_6) [main_v22, main_v23] rfl (by decide)] at h
  rw [h]

end Cert.MoeIdeal.Experts

end
-- ==== Proof.Kit.lean ====
module

public import proofs.«01_k».proof.Proof.Body
public import proofs.«01_k».proof.Proof.Host
public import Idealize.ShloMosaic.Lib.IndicatorCount
public import Idealize.ShloMosaic.Lib.WordCmp

@[expose] public section

set_option maxRecDepth 16384

noncomputable section

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables the call reads -/

/-- An expert's number is one of the 32. -/
theorem expert_lt (ends : (⟨S32, .i32⟩ : BufTy).Contents (Elt F)) (y : S544.Idx) : BitVec.toNat (expertOf (F := F) ends y : BitVec 32) < 32 := by
  have key : ∀ (x : IVec S544x32 1), ∃ n : ℕ, n ≤ 32 ∧
      Host.reduce (α := BitVec 32) IntOp.addi (extui 32 x natLt_1_32) (constantI S_ 32 0#32) reducesTo_S544x32_S544_d1 h_S_ y = BitVec.ofNat 32 n := by
    intro x
    have hr : S544x32.Reduces [1] S544 := by decide
    rw [Host.reduce_eq_fold_single _ _ _ _ hr]
    refine ⟨(Finset.univ.filter fun k => (x ∘ hr.lift y) k = 1#1).card, (Finset.card_le_univ _).trans (by decide), ?_⟩
    exact IndicatorCount.fold_addi_setWidth_eq_card (w := 32) (x ∘ hr.lift y) Finset.univ
  unfold expertOf
  obtain ⟨n, hn, h⟩ := key (cmpi .sle
          (broadcastInDim S544x32 ![0, 1] bcast_S1x32_S544x32_0_1 (broadcastInDim S1x32 ![1] bcast_S32_S1x32_1 ends))
          (broadcastInDim S544x32 ![0, 1] bcast_S544x1_S544x32_0_1
            (muli (broadcastInDim S544x1 ![0] bcast_S544_S544x1_0 (iotaInDim S544 32 0))
              (broadcastInDim S544x1 ![] bcast_S_S544x1 (constantI S_ 32 256#32)))))
  show BitVec.toNat (IntOp.minsi _ (31#32)) < 32
  rw [h]
  unfold IntOp.minsi
  split
  · rename_i hlt
    rcases Nat.lt_or_ge n 32 with h' | h'
    · rw [BitVec.toNat_ofNat]; omega
    · obtain rfl : n = 32 := Nat.le_antisymm hn h'
      exact absurd hlt (by decide)
  · decide

/-- The tables as the call finds them (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

theorem tbl_lt (y : S544.Idx) : BitVec.toNat (tbl m 0 y : BitVec 32) < 32 := by
  have h := V_main_v19 m (0 : Dev nD)
  have e : tbl m 0 = V m (0 : Dev nD) main_v19 := rfl
  rw [e, h]
  exact expert_lt _ y

/-- The block index a weight window takes at a point: the chunk's expert on the leading axis. -/
def wordAt (pf : pre0.Contents (Elt F)) (i : grid0.Coords) : BitVec 32 :=
  pf.at 0 (Rect.unit (s := S544) (k0_off1 i) S1.size (k0_off1_inb i)) numel1_S1

theorem map_1 (pf : pre0.Contents (Elt F)) (i : grid0.Coords) :
    cc0_transform_1 k0_off1_inb numel1_S1 pf i = ![(wordAt pf i).toNat, 0, 0] := rfl
theorem map_2 (pf : pre0.Contents (Elt F)) (i : grid0.Coords) :
    cc0_transform_2 k0_off1_inb numel1_S1 pf i = ![(wordAt pf i).toNat, 0, 0] := rfl
theorem map_3 (pf : pre0.Contents (Elt F)) (i : grid0.Coords) :
    cc0_transform_3 k0_off1_inb numel1_S1 pf i = ![(wordAt pf i).toNat, 0, 0] := rfl
theorem map_4 (pf : pre0.Contents (Elt F)) (i : grid0.Coords) :
    cc0_transform_4 k0_off1_inb numel1_S1 pf i = ![(wordAt pf i).toNat, 0, 0] := rfl

/-- Tables of experts' numbers keep every window inside its array. -/
theorem inside_of (pf : pre0.Contents (Elt F)) (h : ∀ i, (wordAt pf i).toNat < 32) : ok0 pf := by
  unfold ok0
  simp only [map_1, map_2, map_3, map_4]
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    have hw := h i
    generalize (wordAt pf i).toNat = w at hw
    match a with
    | 0 => show (w + 1) * 1 ≤ 32; omega
    | 1 => simp
    | 2 => simp

theorem inside : ok0 (F := F) (tbl m) := inside_of _ fun _ => tbl_lt m _

abbrev adm : (pcfg0 (F := F)).Adm := ⟨tbl m, inside m⟩
abbrev cfgM : Pipeline.Cfg sig Λ₀ := cfg0 (adm m)

/-- The tables' halves the body is handed. -/
theorem PhiT0_eq (c : Dev nD) : (Pipeline.ΦT pre0 (tbl m) c : sProp 𝕄) = iprop(heldHalf c tabE (tbl m 0) ∗ heldHalf c tabU (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of a window at a point, of the array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

section Before
variable {c : Dev nD} (dat : Dat τ (Elt F) Unit ℕ (UR sig nD τ) ℕ (cfgM m) c)

theorem before_0 (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1 (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2 (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3 (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4 (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Before

/-! ## What the body is called with -/

abbrev st0 (t : Fin (cfgM m).N) : Memref sig .tc .vmem S256x512 .i32 := spec0_0.stage ((cfgM m).slots t 0)
abbrev hst0 (t : Fin (cfgM m).N) : (st0 m t).IsWhole := hstage0_0 (((cfgM m).slots t 0).cast nbuf0_0)

abbrev st1 (t : Fin (cfgM m).N) : Memref sig .tc .vmem S1x1024x2048 .f32 := spec0_1.stage ((cfgM m).slots t 1)
abbrev hst1 (t : Fin (cfgM m).N) : (st1 m t).IsWhole := hstage0_1 (((cfgM m).slots t 1).cast nbuf0_1)

abbrev st2 (t : Fin (cfgM m).N) : Memref sig .tc .vmem S1x1x2048 .f32 := spec0_2.stage ((cfgM m).slots t 2)
abbrev hst2 (t : Fin (cfgM m).N) : (st2 m t).IsWhole := hstage0_2 (((cfgM m).slots t 2).cast nbuf0_2)

abbrev st3 (t : Fin (cfgM m).N) : Memref sig .tc .vmem S1x1024x1024 .f32 := spec0_3.stage ((cfgM m).slots t 3)
abbrev hst3 (t : Fin (cfgM m).N) : (st3 m t).IsWhole := hstage0_3 (((cfgM m).slots t 3).cast nbuf0_3)

abbrev st4 (t : Fin (cfgM m).N) : Memref sig .tc .vmem S1x1x1024 .f32 := spec0_4.stage ((cfgM m).slots t 4)
abbrev hst4 (t : Fin (cfgM m).N) : (st4 m t).IsWhole := hstage0_4 (((cfgM m).slots t 4).cast nbuf0_4)

abbrev st5 (t : Fin (cfgM m).N) : Memref sig .tc .vmem S256x1024 .f32 := spec0_5.stage ((cfgM m).slots t 5)
abbrev hst5 (t : Fin (cfgM m).N) : (st5 m t).IsWhole := hstage0_5 (((cfgM m).slots t 5).cast nbuf0_5)

abbrev sc0 : Memref sig .tc .vmem S256x1024 .bf16 := Memref.whole cc0_scratch0
abbrev sc1 : Memref sig .tc .vmem S1024x2048 .bf16 := Memref.whole cc0_scratch1
abbrev sc2 : Memref sig .tc .vmem S1024x1024 .bf16 := Memref.whole cc0_scratch2

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The body as the call runs it at a point. -/
def bodyAt (t : Fin (cfgM m).N) :=
  cc0_moe_experts (F := F) (grid0.coords t) tabE htabE tabU htabU (st0 m t) (hst0 m t) (st1 m t) (hst1 m t) (st2 m t) (hst2 m t) (st3 m t) (hst3 m t)
    (st4 m t) (hst4 m t) (st5 m t) (hst5 m t) sc0 (Memref.isWhole_whole _) sc1 (Memref.isWhole_whole _) sc2 (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]; try rfl

end Cert.MoeIdeal.Experts

end
-- ==== Proof.Blocks.lean ====
module

public import proofs.«01_k».proof.Proof.Kit
public import Idealize.ShloMosaic.Lib.Pipeline.ValueKit

@[expose] public section

set_option maxRecDepth 16384

noncomputable section

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, entry by entry -/

theorem word_lt (i : grid0.Coords) : (wordAt (tbl m) i).toNat < 32 := tbl_lt m _

/-- The expert a table names for a point, and the expert of the chunk a point works on. -/
def expertIn (pf : pre0.Contents (Elt F)) (h : ∀ i, (wordAt pf i).toNat < 32) (t : Fin grid0.N) : Fin 32 := ⟨(wordAt pf (grid0.coords t)).toNat, h _⟩
theorem expertIn_val (pf : pre0.Contents (Elt F)) (h : ∀ i, (wordAt pf i).toNat < 32) (t : Fin grid0.N) :
    (expertIn pf h t).val = (wordAt pf (grid0.coords t)).toNat := rfl
def expert (t : Fin grid0.N) : Fin 32 := expertIn (tbl m) (word_lt m) t
theorem expert_val (t : Fin grid0.N) : (expert m t).val = (wordAt (tbl m) (grid0.coords t)).toNat := by
  unfold expert; exact expertIn_val _ _ _

/-- A row of a chunk among all the rows. -/
def row (t : Fin grid0.N) (r : Fin 256) : Fin 139264 := ⟨256 * t.val + r.val, by have := t.isLt; have h := N_0; omega⟩

theorem coords_val (t : Fin grid0.N) : (grid0.coords t 0).val = t.val := by
  have h := t.isLt
  have h' := N_0
  show t.val / grid0.stride 0 % grid0.bound 0 = t.val
  rw [show grid0.stride 0 = 1 from by decide, show grid0.bound 0 = 544 from rfl, Nat.div_one, Nat.mod_eq_of_lt (by omega)]

theorem idx_0 (t : Fin (cfgM m).N) : ((cfgM m).win 0).index t = ![t.val, 0] := by
  show cc0_transform_0 (grid0.coords t) = _
  unfold cc0_transform_0
  have h := coords_val t
  have h' := t.isLt
  have h'' := N_0
  dsimp only
  rw [h]
  rw [BitVec.toNat_ofNat, Nat.mod_eq_of_lt (by show t.val < 4294967296; omega)]; rfl
theorem idxAt_1 (a : (pcfg0 (F := F)).Adm) (t : Fin (cfg0 a).N) : ((cfg0 a).win 1).index t = ![(wordAt a.1 (grid0.coords t)).toNat, 0, 0] := rfl
theorem idx_1 (t : Fin (cfgM m).N) : ((cfgM m).win 1).index t = ![(expert m t).val, 0, 0] := by
  rw [expert_val]; exact idxAt_1 (adm m) t
theorem idxAt_2 (a : (pcfg0 (F := F)).Adm) (t : Fin (cfg0 a).N) : ((cfg0 a).win 2).index t = ![(wordAt a.1 (grid0.coords t)).toNat, 0, 0] := rfl
theorem idx_2 (t : Fin (cfgM m).N) : ((cfgM m).win 2).index t = ![(expert m t).val, 0, 0] := by
  rw [expert_val]; exact idxAt_2 (adm m) t
theorem idxAt_3 (a : (pcfg0 (F := F)).Adm) (t : Fin (cfg0 a).N) : ((cfg0 a).win 3).index t = ![(wordAt a.1 (grid0.coords t)).toNat, 0, 0] := rfl
theorem idx_3 (t : Fin (cfgM m).N) : ((cfgM m).win 3).index t = ![(expert m t).val, 0, 0] := by
  rw [expert_val]; exact idxAt_3 (adm m) t
theorem idxAt_4 (a : (pcfg0 (F := F)).Adm) (t : Fin (cfg0 a).N) : ((cfg0 a).win 4).index t = ![(wordAt a.1 (grid0.coords t)).toNat, 0, 0] := rfl
theorem idx_4 (t : Fin (cfgM m).N) : ((cfgM m).win 4).index t = ![(expert m t).val, 0, 0] := by
  rw [expert_val]; exact idxAt_4 (adm m) t
theorem idx_5 (t : Fin (cfgM m).N) : ((cfgM m).win 5).index t = ![t.val, 0] := idx_0 m t

theorem iblk_0 (c : Dev nD) (t : Fin (cfgM m).N) (y : S256x512.Idx) :
    (iblk m c 0 t : Vec F S256x512 .i32) y = V m c main_arg0 (ix2 (row t (y 0)) (y 1)) := by
  blk_ext [iblk, idx_0 m t, row]
theorem iblk_1 (c : Dev nD) (t : Fin (cfgM m).N) (y : S1x1024x2048.Idx) :
    (iblk m c 1 t : Vec F S1x1024x2048 .f32) y = V m c main_arg2 (ix3 (expert m t) (y 1) (y 2)) := by
  blk_ext [iblk, idx_1 m t]
theorem iblk_2 (c : Dev nD) (t : Fin (cfgM m).N) (y : S1x1x2048.Idx) :
    (iblk m c 2 t : Vec F S1x1x2048 .f32) y = V m c main_v22 (ix3 (expert m t) 0 (y 2)) := by
  blk_ext [iblk, idx_2 m t]
theorem iblk_3 (c : Dev nD) (t : Fin (cfgM m).N) (y : S1x1024x1024.Idx) :
    (iblk m c 3 t : Vec F S1x1024x1024 .f32) y = V m c main_arg4 (ix3 (expert m t) (y 1) (y 2)) := by
  blk_ext [iblk, idx_3 m t]
theorem iblk_4 (c : Dev nD) (t : Fin (cfgM m).N) (y : S1x1x1024.Idx) :
    (iblk m c 4 t : Vec F S1x1x1024 .f32) y = V m c main_v23 (ix3 (expert m t) 0 (y 2)) := by
  blk_ext [iblk, idx_4 m t]

end Cert.MoeIdeal.Experts

end
-- ==== Proof.Run.lean ====
module

public import proofs.«01_k».proof.Proof.Blocks

@[expose] public section

set_option maxRecDepth 16384

noncomputable section

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words of the tables -/

theorem word_cur (c : Dev nD) (pf : pre0.Contents (Elt F)) (i : grid0.Coords) :
    wordE c (pf 0) (k0_off1 i) (k0_off1_inb i) = wordAt pf i := rfl

theorem off_prev (t t' : Fin grid0.N) (h : t'.val + 1 = t.val) : k0_off2 (grid0.coords t) = k0_off1 (grid0.coords t') := by
  unfold k0_off2 k0_off1
  dsimp only
  rw [coords_val, coords_val, ← h]
  have h' := t.isLt
  have h'' := N_0
  have e : Scalar.maxsi (Scalar.subi (BitVec.ofNat 32 (t'.val + 1)) 1#32) 0#32 = BitVec.ofNat 32 t'.val := by
    have e1 : Scalar.subi (BitVec.ofNat 32 (t'.val + 1)) 1#32 = BitVec.ofNat 32 t'.val := by
      apply BitVec.eq_of_toNat_eq
      show (BitVec.ofNat 32 (t'.val + 1) - 1#32).toNat = _
      rw [BitVec.toNat_sub, BitVec.toNat_ofNat, BitVec.toNat_ofNat, BitVec.toNat_ofNat]
      omega
    rw [e1]
    show (if (0#32).slt (BitVec.ofNat 32 t'.val) then BitVec.ofNat 32 t'.val else 0#32) = _
    split
    · rfl
    · rename_i hn
      rw [BitVec.slt_iff_toInt_lt, BitVec.toInt_eq_toNat_of_lt, BitVec.toInt_eq_toNat_of_lt] at hn
      · rw [BitVec.toNat_ofNat, BitVec.toNat_ofNat] at hn
        rw [show t'.val = 0 by omega]
      · rw [BitVec.toNat_ofNat]; omega
      · rw [BitVec.toNat_ofNat]; omega
  rw [e]

theorem word_prev (c : Dev nD) (pf : pre0.Contents (Elt F)) (t t' : Fin grid0.N) (h : t'.val + 1 = t.val) :
    wordE c (pf 0) (k0_off2 (grid0.coords t)) (k0_off2_inb (grid0.coords t)) = wordAt pf (grid0.coords t') := by
  rw [← word_cur c]
  have e := off_prev t t' h
  generalize k0_off2_inb (grid0.coords t) = p
  revert p
  rw [e]
  intro p; rfl

theorem cond2_iff (i : grid0.Coords) (u : BitVec 32) : k0_cond2 i u = 1#1 ↔ (BitVec.ofNat 32 (i 0).val).slt u = true := by
  unfold k0_cond2
  dsimp only
  generalize BitVec.ofNat 32 (i 0).val = a
  simp only [Scalar.cmpi, Scalar.extui, IntOp.cmpi]
  cases a.slt u <;> decide

/-- A used chunk that is not the first and whose expert is the one before's keeps the rounded weights. -/
theorem not_refresh {i : grid0.Coords} {u e e' : BitVec 32} (h : k0_cond2 i u = 1#1) (hr : ¬ refresh i u e e') :
    BitVec.ofNat 32 (i 0).val ≠ 0#32 ∧ e = e' := by
  rw [cond2_iff] at h
  unfold refresh at hr
  generalize BitVec.ofNat 32 (i 0).val = a at h hr
  simp only [Scalar.cmpi, Scalar.extui, IntOp.cmpi, Scalar.andi, Scalar.ori, h] at hr
  constructor
  · intro ha
    apply hr
    rw [ha]
    cases (e != e') <;> decide
  · by_contra hne
    apply hr
    rw [show (e != e') = true from by simp [hne]]
    cases (a == 0#32) <;> decide

theorem idle_5 (a : (pcfg0 (F := F)).Adm) (i : grid0.Coords) : (cfg0 a).idle 5 i = false := by
  show (!(k0_cond2 i (a.1.atD 1 ![0]) == 1#1) && !(k0_cond3 i (a.1.atD 1 ![0]) == 1#1)) = false
  generalize a.1.atD 1 ![0] = u
  have h := cond3_iff i u
  by_cases h2 : k0_cond2 i u = 1#1
  · simp [h2]
  · simp [h.mpr h2]

/-! ## What is known between the points -/

/-- The rounded weights are those of the chunk just done, when it was a used one. -/
def Held (c : Dev nD) (n : ℕ) (s : Vec F S1024x2048 .bf16) (s' : Vec F S1024x1024 .bf16) : Prop :=
  ∀ t : Fin grid0.N, t.val + 1 = n → k0_cond2 (grid0.coords t) (wordU c (tbl m 1)) = 1#1 →
    s = w1c (iblk m c 1 t) ∧ s' = w2c (iblk m c 3 t)

/-- What a point leaves in the output's buffer. -/
def outAt (c : Dev nD) (t : Fin (cfgM m).N) : Vec F S256x1024 .f32 :=
  outB (grid0.coords t) (wordU c (tbl m 1)) (iblk m c 0 t) (iblk m c 2 t) (iblk m c 4 t) (w1c (iblk m c 1 t)) (w2c (iblk m c 3 t))

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ n := iprop(Pipeline.ΦT pre0 (tbl m) c ∗ (∃ d, owns (c : Thread nD τ) sc0 fullShare d)
    ∗ (∃ s s', ⌜Held m c n.val s s'⌝ ∗ owns (c : Thread nD τ) sc1 fullShare s ∗ owns (c : Thread nD τ) sc2 fullShare s') ∗ (∃ r, prngReg c r))
  q _ := fullShare
  owed _ := 0

theorem A_eq (c : Dev nD) (w : Fin (cfgM m).W) : (dats m 0 c).A w = V m c (Pipeline.arrRef spec0 w) := by
  dsimp only [dats]

theorem Phi_eq (c : Dev nD) (n : Fin ((cfgM m).N + 1)) : (dats m 0 c).Φ n =
    iprop(Pipeline.ΦT pre0 (tbl m) c ∗ (∃ d, owns (c : Thread nD τ) sc0 fullShare d)
    ∗ (∃ s s', ⌜Held m c n.val s s'⌝ ∗ owns (c : Thread nD τ) sc1 fullShare s ∗ owns (c : Thread nD τ) sc2 fullShare s') ∗ (∃ r, prngReg c r)) := by
  dsimp only [dats]

theorem after_0 (c : Dev nD) (t : Fin (cfgM m).N) : (dats m 0 c).after 0 t = iblk m c 0 t := by dsimp only [dats]; try rfl
theorem found_0 (c : Dev nD) (t : Fin (cfgM m).N) (d) : (dats m 0 c).before 0 t d = iblk m c 0 t :=
  before_0 m (dats m 0 c) (A_eq m c 0) (after_0 m c) t d

theorem after_1 (c : Dev nD) (t : Fin (cfgM m).N) : (dats m 0 c).after 1 t = iblk m c 1 t := by dsimp only [dats]; try rfl
theorem found_1 (c : Dev nD) (t : Fin (cfgM m).N) (d) : (dats m 0 c).before 1 t d = iblk m c 1 t :=
  before_1 m (dats m 0 c) (A_eq m c 1) (after_1 m c) t d

theorem after_2 (c : Dev nD) (t : Fin (cfgM m).N) : (dats m 0 c).after 2 t = iblk m c 2 t := by dsimp only [dats]; try rfl
theorem found_2 (c : Dev nD) (t : Fin (cfgM m).N) (d) : (dats m 0 c).before 2 t d = iblk m c 2 t :=
  before_2 m (dats m 0 c) (A_eq m c 2) (after_2 m c) t d

theorem after_3 (c : Dev nD) (t : Fin (cfgM m).N) : (dats m 0 c).after 3 t = iblk m c 3 t := by dsimp only [dats]; try rfl
theorem found_3 (c : Dev nD) (t : Fin (cfgM m).N) (d) : (dats m 0 c).before 3 t d = iblk m c 3 t :=
  before_3 m (dats m 0 c) (A_eq m c 3) (after_3 m c) t d

theorem after_4 (c : Dev nD) (t : Fin (cfgM m).N) : (dats m 0 c).after 4 t = iblk m c 4 t := by dsimp only [dats]; try rfl
theorem found_4 (c : Dev nD) (t : Fin (cfgM m).N) (d) : (dats m 0 c).before 4 t d = iblk m c 4 t :=
  before_4 m (dats m 0 c) (A_eq m c 4) (after_4 m c) t d

theorem after_5 (c : Dev nD) (t : Fin (cfgM m).N) : (dats m 0 c).after 5 t = outAt m c t := by dsimp only [dats]; try rfl

/-! ## One point -/

/-- Equal experts, equal weights. -/
theorem weights_eq (c : Dev nD) (t t' : Fin (cfgM m).N) (h : wordAt (tbl m) (grid0.coords t) = wordAt (tbl m) (grid0.coords t')) :
    (iblk m c 1 t : Vec F S1x1024x2048 .f32) = iblk m c 1 t' ∧ (iblk m c 3 t : Vec F S1x1024x1024 .f32) = iblk m c 3 t' := by
  have e : expert m t = expert m t' := Fin.ext (by rw [expert_val, expert_val, h])
  constructor
  · funext y
    have h2 := iblk_1 m c t' y
    rw [← e] at h2
    exact (iblk_1 m c t y).trans h2.symm
  · funext y
    have h2 := iblk_3 m c t' y
    rw [← e] at h2
    exact (iblk_3 m c t y).trans h2.symm

/-- What a point leaves in the rounded weights, when its chunk is used. -/
theorem held_step (c : Dev nD) (t : Fin (cfgM m).N) (s : Vec F S1024x2048 .bf16) (s' : Vec F S1024x1024 .bf16) (hs : Held m c t.val s s')
    (h2 : k0_cond2 (grid0.coords t) (wordU c (tbl m 1)) = 1#1) :
    scr1 (grid0.coords t) (wordU c (tbl m 1)) (wordE c (tbl m 0) (k0_off1 (grid0.coords t)) (k0_off1_inb (grid0.coords t)))
        (wordE c (tbl m 0) (k0_off2 (grid0.coords t)) (k0_off2_inb (grid0.coords t))) (iblk m c 1 t) s = w1c (iblk m c 1 t)
    ∧ scr2 (grid0.coords t) (wordU c (tbl m 1)) (wordE c (tbl m 0) (k0_off1 (grid0.coords t)) (k0_off1_inb (grid0.coords t)))
        (wordE c (tbl m 0) (k0_off2 (grid0.coords t)) (k0_off2_inb (grid0.coords t))) (iblk m c 3 t) s' = w2c (iblk m c 3 t) := by
  unfold scr1 scr2
  by_cases hr : refresh (grid0.coords t) (wordU c (tbl m 1)) (wordE c (tbl m 0) (k0_off1 (grid0.coords t)) (k0_off1_inb (grid0.coords t)))
        (wordE c (tbl m 0) (k0_off2 (grid0.coords t)) (k0_off2_inb (grid0.coords t)))
  · rw [if_pos hr, if_pos hr]; exact ⟨rfl, rfl⟩
  · rw [if_neg hr, if_neg hr]
    obtain ⟨hz, he⟩ := not_refresh h2 hr
    have hlt := t.isLt
    have hN := N_0
    have hN' : (cfgM m).N = 544 := N_0
    have h0 : t.val ≠ 0 := fun h0 => hz (by rw [coords_val, h0])
    let t' : Fin grid0.N := ⟨t.val - 1, by omega⟩
    have ht' : t'.val + 1 = t.val := by show t.val - 1 + 1 = t.val; omega
    rw [word_cur, word_prev c (tbl m) t t' ht'] at he
    have hu : k0_cond2 (grid0.coords t') (wordU c (tbl m 1)) = 1#1 := by
      rw [cond2_iff, coords_val] at h2 ⊢
      generalize wordU c (tbl m 1) = u at h2 ⊢
      rw [BitVec.slt_iff_toInt_lt] at h2 ⊢
      rw [BitVec.toInt_eq_toNat_of_lt (by rw [BitVec.toNat_ofNat]; omega), BitVec.toNat_ofNat] at h2 ⊢
      omega
    obtain ⟨e1, e2⟩ := hs t' ht' hu
    obtain ⟨w1, w2⟩ := weights_eq m c t t' he
    rw [e1, e2]
    exact ⟨congrArg w1c w1.symm, congrArg w2c w2.symm⟩

theorem outB_congr {i : grid0.Coords} {u : BitVec 32} {x : Vec F S256x512 .i32} {b : Vec F S1x1x2048 .f32} {b' : Vec F S1x1x1024 .f32}
    {W V : Vec F S1024x2048 .bf16} {W' V' : Vec F S1024x1024 .bf16} (h : k0_cond2 i u = 1#1 → W = V ∧ W' = V') :
    outB i u x b b' W W' = outB i u x b b' V V' := by
  unfold outB
  split
  · rename_i h2
    obtain ⟨e, e'⟩ := h h2
    rw [e, e']
  · rfl

def bodyPre (c : Dev nD) (t : Fin (cfgM m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d))
    ∗ (∃ d, owns (c : Thread nD τ) (st5 m t) fullShare ((dats m 0 c).before 5 t d)))

def bodyPost (c : Dev nD) (t : Fin (cfgM m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t)
    ∗ owns (c : Thread nD τ) (st4 m t) fullShare ((dats m 0 c).after 4 t)
    ∗ owns (c : Thread nD τ) (st5 m t) fullShare ((dats m 0 c).after 5 t))

/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [found_0, found_1, found_2, found_3, found_4]
  rw [show (dats m 0 c).owesAt () t.succ = (dats m 0 c).owesAt () t.castSucc from rfl,
    after_0, after_1, after_2, after_3, after_4, after_5, Phi_eq, Phi_eq, PhiT0_eq]
  iintro ⟨⟨⟨HT0, HT1⟩, HS0, ⟨%s, %s', %hs, HS1, HS2⟩, Hg⟩, Ho, ⟨%d0, H0⟩, ⟨%d1, H1⟩, ⟨%d2, H2⟩, ⟨%d3, H3⟩, ⟨%d4, H4⟩, ⟨%d5, H5⟩⟩
  have hstep := held_step m c t s s' hs
  have hout := outB_congr (x := iblk m c 0 t) (b := iblk m c 2 t) (b' := iblk m c 4 t) hstep
  iapply ((body_triple c (grid0.coords t) _ _ _ _ _ _ _ _ _ _ _ _ _ _ _ _ _ _ (iblk m c 0 t) (iblk m c 1 t) (iblk m c 2 t) (iblk m c 3 t) (iblk m c 4 t) s s' (tbl m 0) (tbl m 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HT0]; · iexact HT0
  isplitl [HT1]; · iexact HT1
  rw [hout]
  iintro ⟨H0, H1, H2, H3, H4, H5, HS0, HS1, HS2, HT0, HT1⟩
  isplitl [HS0 HS1 HS2 Hg HT0 HT1]
  · isplitl [HT0 HT1]
    · isplitl [HT0]; · iexact HT0
      iexact HT1
    isplitl [HS0]; · iexact HS0
    isplitl [HS1 HS2]
    · iexists _, _
      isplitr
      rotate_left
      · isplitl [HS1]; · iexact HS1
        iexact HS2
      · ipureintro
        intro t' ht' h2
        obtain rfl : t' = t := Fin.ext (by have : t'.val + 1 = t.val + 1 := ht'; omega)
        exact hstep h2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The obligation of a run none of whose points idles in a window. -/
theorem obligation_of {cfg : Cfg sig Λ₀} {c : Dev nD} (dat : Dat τ (Elt F) Unit ℕ (UR sig nD τ) ℕ cfg c)
    (h : ∀ (w : Fin cfg.W) (t : Fin cfg.N), cfg.idle w (cfg.grid.coords t) = false)
    (hb : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat (defs₀ (F := F)) Variants.none () Set.univ := fun t => by
  simp only [h]
  exact hb t

theorem idle_none (w : Fin (cfgM m).W) (t : Fin (cfgM m).N) : (cfgM m).idle w ((cfgM m).grid.coords t) = false := by
  have hw : ∀ w : Fin 6, (cfg0 (adm m)).idle w ((cfgM m).grid.coords t) = false
    | 0 => rfl | 1 => rfl | 2 => rfl | 3 => rfl | 4 => rfl | 5 => idle_5 (adm m) _
  exact hw w

/-- The points meet the obligation of the run. -/
theorem body_obligation (c : Dev nD) : BodyObligation (dats (F := F) m 0 c) (defs₀ (F := F)) Variants.none () Set.univ :=
  obligation_of (dats m 0 c) (idle_none m) fun t => by
    rw [bigSep_W0, bigSep_W0, defs₀_row m]
    exact sound_body m c t

/-! ## The run -/

theorem enter_inv (c : Dev nD) : iprop(Pipeline.ΦA spec0 c ∗ Pipeline.ΦT pre0 (tbl m) c) ⊢ (dats m 0 c).Φ 0 := by
  rw [PhiA0_eq, Phi_eq]
  iintro ⟨⟨⟨HS0, ⟨%s, HS1⟩, ⟨%s', HS2⟩⟩, Hg⟩, HT⟩
  isplitl [HT]; · iexact HT
  isplitl [HS0]; · iexact HS0
  isplitl [HS1 HS2]
  · iexists s, s'
    isplitr
    · ipureintro; intro t ht; exact absurd ht (Nat.succ_ne_zero _)
    isplitl [HS1]; · iexact HS1
    iexact HS2
  iexact Hg

theorem leave_inv (c : Dev nD) : (dats m 0 c).Φ (Fin.last (cfgM m).N) ⊢ (Pipeline.ΦA spec0 c : sProp 𝕄) := by
  rw [PhiA0_eq, Phi_eq]
  iintro ⟨HT, HS0, ⟨%s, %s', -, HS1, HS2⟩, Hg⟩
  isplitl [HS0 HS1 HS2]
  · isplitl [HS0]; · iexact HS0
    isplitl [HS1]; · iexists _; iexact HS1
    iexists _; iexact HS2
  iexact Hg

set_option backward.isDefEq.respectTransparency.types false in
/-- Every execution ends with the arrays as the points leave them, the rest as the call found it, every counter at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := enters m Variants.none) (hA := A_eq m) (hpf := V_pre m)
    (hin := enter_inv m) (hout := leave_inv m)

/-- The arguments end as they began, and the result array is what the points wrote. -/
theorem run_args : θ_run defs (onTc (τ := τ) (main (F := F))) ⟨m, fun _ => 0, ρ⟩ (fun r => (∀ c : Dev nD,
      r.2.mem ((c.tc : Thread nD τ).loc main_v24) = (dats m 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(h.1 c).1 5,
      ((h.1 c).1 0).trans (((dats m 0 c).arrAt_in 0 rfl _).trans ((A_eq m c 0).trans (V_main_arg0 m c))),
      ((h.1 c).2 main_arg1 (by decide : main_arg1 ∈ Pipeline.restRefs sig spec0)).trans (V_main_arg1 m c),
      ((h.1 c).1 1).trans (((dats m 0 c).arrAt_in 1 rfl _).trans ((A_eq m c 1).trans (V_main_arg2 m c))),
      ((h.1 c).2 main_arg3 (by decide : main_arg3 ∈ Pipeline.restRefs sig spec0)).trans (V_main_arg3 m c),
      ((h.1 c).1 3).trans (((dats m 0 c).arrAt_in 3 rfl _).trans ((A_eq m c 3).trans (V_main_arg4 m c))),
      ((h.1 c).2 main_arg5 (by decide : main_arg5 ∈ Pipeline.restRefs sig spec0)).trans (V_main_arg5 m c)⟩, h.2⟩) (run_main m ρ)

end Cert.MoeIdeal.Experts

end
-- ==== Proof.Same.lean ====
module

public import proofs.«01_k».proof.Proof.Gen.Moe.Launch
public import proofs.«01_k».proof.Proof.Gen.MoeIdeal.Launch

@[expose] public section

set_option maxRecDepth 16384
set_option maxHeartbeats 1000000

noncomputable section

namespace Cert.Proof

open Idealize.ShloMosaic Idealize.SL.Sem

variable {F : FTy → Type} [FloatOps F]

theorem same_0 : Cert.Moe.Gen.hostOps0 (F := F) = Cert.MoeIdeal.Gen.hostOps0 := rfl
theorem same_1 : Cert.Moe.Gen.hostOps0_1 (F := F) = Cert.MoeIdeal.Gen.hostOps0_1 := rfl
theorem same_2 : Cert.Moe.Gen.hostOps0_2 (F := F) = Cert.MoeIdeal.Gen.hostOps0_2 := rfl
theorem same_3 : Cert.Moe.Gen.hostOps0_3 (F := F) = Cert.MoeIdeal.Gen.hostOps0_3 := rfl
theorem same_4 : Cert.Moe.Gen.hostOps0_4 (F := F) = Cert.MoeIdeal.Gen.hostOps0_4 := rfl
theorem same_5 : Cert.Moe.Gen.hostOps0_5 (F := F) = Cert.MoeIdeal.Gen.hostOps0_5 := rfl
theorem same_6 : Cert.Moe.Gen.hostOps0_6 (F := F) = Cert.MoeIdeal.Gen.hostOps0_6 := rfl

theorem same_pcfgs : Cert.Moe.pcfgs (F := F) = Cert.MoeIdeal.pcfgs (F := F) := rfl

/-- The two printed bodies are one body. -/
theorem same_body : @Cert.Moe.cc0_moe_experts F _ _ = @Cert.MoeIdeal.cc0_moe_experts F _ _ := rfl

/-- The two body tables are one table. -/
theorem same_table : Cert.Moe.defs₀ (F := F) = Cert.MoeIdeal.defs₀ (F := F) := by
  unfold Cert.Moe.defs₀ Cert.MoeIdeal.defs₀
  refine congrArg Defs.onTc ?_
  funext l a
  match l, a with
  | 0, (t, s) => rfl
  | ⟨_ + 1, h⟩, _ => exact absurd h (Nat.not_lt.2 (Nat.le_add_left _ _))

theorem same_defs : Cert.Moe.defs (F := F) = Cert.MoeIdeal.defs (F := F) := by
  unfold Cert.Moe.defs Cert.MoeIdeal.defs
  rw [same_table]
  rfl

/-- The two printed programs are one program. -/
theorem same_main : Cert.Moe.main (F := F) = Cert.MoeIdeal.main (F := F) := by
  funext c
  refine (Cert.Moe.Gen.main_chain c).trans (.trans ?_ (Cert.MoeIdeal.Gen.main_chain c).symm)
  rw [same_0, same_1, same_2, same_3, same_4, same_5, same_6]
  rfl

end Cert.Proof

end
-- ==== Proof.Frames.lean ====
module

public import proofs.«01_k».proof.Defs
public import proofs.«01_k».proof.Proof.Run
public import proofs.«01_k».proof.Proof.Same
public import proofs.«01_k».proof.Proof.Gen.Moe
public import proofs.«01_k».proof.Proof.Gen.MoeRefIdeal
public import proofs.«01_k».proof.Proof.Gen.MoeRefIdeal.Run

@[expose] public section

set_option maxRecDepth 16384

noncomputable section

namespace Cert.Proof

open Idealize.ShloMosaic Idealize.SL.Sem

/-- The idealized experts run, keep their arguments and leave every counter at zero. -/
theorem frame_ideal : Cert.quiescent_MoeIdeal (hMoeIdeal := Cert.MoeIdeal.Gen.facts) := fun m ρ _ =>
  (θ_run Cert.MoeIdeal.defs _ _).mono (fun _ h => ⟨fun c => (h.1 c).2, h.2⟩) (Cert.MoeIdeal.Experts.run_args (F := Ideal) m ρ)

/-- The experts themselves, by the same run over the bits. -/
theorem frame_kernel : Cert.quiescent_Moe (hMoe := Cert.Moe.Gen.facts) := fun m ρ _ => by
  rw [same_defs, same_main]
  exact (θ_run Cert.MoeIdeal.defs _ _).mono (fun _ h => ⟨fun c => (h.1 c).2, h.2⟩) (Cert.MoeIdeal.Experts.run_args (F := Bits) m ρ)

/-- The reference runs and keeps its arguments; it has no counter at all. -/
theorem frame_reference : Cert.quiescent_MoeRefIdeal (hMoeRefIdeal := Cert.MoeRefIdeal.Gen.facts) := fun m ρ _ =>
  (θ_run Cert.MoeRefIdeal.defs _ _).mono (fun _ h => ⟨fun c => (h c).2, sem_eq_zero_of_no_sems (by decide) _⟩)
    (Cert.MoeRefIdeal.Value.run (F := Ideal) m ρ)

end Cert.Proof

end
-- ==== Proof.Formula.lean ====
module

public import Idealize.ShloMosaic.Lib.Pointwise
public import Idealize.ShloMosaic.Lib.IdealHost

@[expose] public section

noncomputable section

namespace Cert.Formula

open Idealize.ShloMosaic

/-! ## One expert's layer, row by row, over the extended reals -/

/-- Entry `k` of a row packed two to a word: the low halves first, then the high halves. -/
def unpacked (x : Fin 512 → BitVec 32) (k : Fin 1024) : EReal :=
  if h : k.val < 512 then Ideal.ofBits .f32 (IntOp.shli .vector (x ⟨k.val, h⟩) 16#32)
  else Ideal.ofBits .f32 (IntOp.andi (x ⟨k.val - 512, by omega⟩) 4294901760#32)

/-- Column `f` of a row times the first layer's weights, with its bias. -/
def first (x : Fin 1024 → EReal) (W : Fin 1024 → Fin 2048 → EReal) (b : Fin 2048 → EReal) (f : Fin 2048) : EReal :=
  ∑ k : Fin 1024, x k * W k f + b f

/-- The clipped gate applied to the clipped linear part. -/
def gated (g l : EReal) : EReal :=
  min g (Ideal.ofBits .f32 0x40E00000#32)
      * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- The gate's column and the linear part's. -/
abbrev gateCol (f : Fin 1024) : Fin 2048 := ⟨f.val, by omega⟩
abbrev linCol (f : Fin 1024) : Fin 2048 := ⟨1024 + f.val, by omega⟩

/-- Column `d` of one expert's result for one packed row. -/
def layer (x : Fin 512 → BitVec 32) (W : Fin 1024 → Fin 2048 → EReal) (b : Fin 2048 → EReal)
    (W' : Fin 1024 → Fin 1024 → EReal) (b' : Fin 1024 → EReal) (d : Fin 1024) : EReal :=
  ∑ f : Fin 1024, gated (first (unpacked x) W b (gateCol f)) (first (unpacked x) W b (linCol f)) * W' f d + b' d

end Cert.Formula

end
-- ==== Proof.Reference.lean ====
module

public import proofs.«01_k».proof.Proof.Gen.MoeRefIdeal.Run
public import proofs.«01_k».proof.Proof.Formula

@[expose] public section

set_option maxRecDepth 16384

noncomputable section

namespace Cert.MoeRefIdeal.Value

open Cert.MoeRefIdeal Cert.MoeRefIdeal.Gen Idealize.ShloMosaic Idealize.ShloMosaic.TcCoe Idealize.SL.Sem Idealize.ShloMosaic.StableHlo
open Cert.Formula

variable {F : FTy → Type} [FloatOps F]

/-! ## The reference's result in pieces -/

/-- Flooring division of every entry by one word, as the reference's trace writes it. -/
def floorDiv (S : Shape) (h : S_.BroadcastsInDim S (![] : Fin 0 → Fin S.rank)) (x : IVec S 32) (d : IVec S_ 32) : IVec S 32 :=
  select
    (andi (cmpi .ne (signi x) (broadcastInDim S ![] h (signi d)))
      (cmpi .ne (Host.remsi x (broadcastInDim S ![] h d)) (broadcastInDim S ![] h (constantI S_ 32 0#32))))
    (subi (Host.divsi x (broadcastInDim S ![] h d)) (broadcastInDim S ![] h (constantI S_ 32 1#32)))
    (Host.divsi x (broadcastInDim S ![] h d))

/-- Where each expert's rows end. -/
def ends (cnt : IVec S32 32) : IVec S32 32 :=
  Host.reduceWindow IntOp.addi ![32] ![1] ![31] ![0]
    (muli (floorDiv S32 bcast_S_S32 (addi cnt (broadcastInDim S32 ![] bcast_S_S32 (constantI S_ 32 255#32))) (constantI S_ 32 256#32))
      (broadcastInDim S32 ![] bcast_S_S32 (constantI S_ 32 256#32)))
    (broadcastInDim S_ ![] bcast_S_S_ (constantI S_ 32 0#32)) reduceWindows_S32_S32_w32s1p31_0 h_S_

/-- The expert of each chunk. -/
def expertOf (e : IVec S32 32) : IVec S544 32 :=
  minsi (Host.reduce IntOp.addi
      (extui 32
        (cmpi .sle
          (broadcastInDim S544x32 ![0, 1] bcast_S1x32_S544x32_0_1 (broadcastInDim S1x32 ![1] bcast_S32_S1x32_1 e))
          (broadcastInDim S544x32 ![0, 1] bcast_S544x1_S544x32_0_1
            (broadcastInDim S544x1 ![0] bcast_S544_S544x1_0
              (muli (iotaInDim S544 32 0) (broadcastInDim S544 ![] bcast_S_S544 (constantI S_ 32 256#32)))))) natLt_1_32)
      (constantI S_ 32 0#32) reducesTo_S544x32_S544_d1 h_S_)
    (broadcastInDim S544 ![] bcast_S_S544 (constantI S_ 32 31#32))

/-- The words the weights are gathered by: an expert below zero counts from the end. -/
def gatherBy (E : IVec S544 32) : IVec S544x1 32 :=
  broadcastInDim S544x1 ![0] bcast_S544_S544x1_0
    (select (cmpi .slt E (broadcastInDim S544 ![] bcast_S_S544 (constantI S_ 32 0#32)))
      (addi E (broadcastInDim S544 ![] bcast_S_S544 (constantI S_ 32 32#32))) E)

/-- How many chunks hold rows. -/
def usedOf (e : IVec S32 32) : IVec S_ 32 :=
  let t : IVec S_ 32 := shapeCast S_ (extractStridedSlice S1 ![31] e slices_S32_S1_31) shapeCasts_S1_S_
  select (andi (cmpi .ne (signi t) (signi (constantI S_ 32 256#32))) (cmpi .ne (Host.remsi t (constantI S_ 32 256#32)) (constantI S_ 32 0#32)))
    (subi (Host.divsi t (constantI S_ 32 256#32)) (constantI S_ 32 1#32)) (Host.divsi t (constantI S_ 32 256#32))

/-- The rows, two entries to a word, opened and cut into chunks. -/
def rowsOf (x : IVec S139264x512 32) : FVec F S544x256x1024 .f32 :=
  shapeCast S544x256x1024 (concatenate S139264x1024 1
    [⟨S139264x512, bitcastToFloat (F := F) .f32 (Host.shli x (broadcastInDim S139264x512 ![] bcast_S_S139264x512 (constantI S_ 32 16#32)))⟩,
      ⟨S139264x512, bitcastToFloat (F := F) .f32 (andi x (broadcastInDim S139264x512 ![] bcast_S_S139264x512 (constantI S_ 32 4294901760#32)))⟩]
    concatenates_S139264x512_S139264x512_S139264x1024_d1) shapeCasts_S139264x1024_S544x256x1024

/-- The first layer. -/
def hiddenOf (X : FVec F S544x256x1024 .f32) (I : IVec S544x1 32) (W : FVec F S32x1024x2048 .f32) (b : FVec F S32x2048 .f32) : FVec F S544x256x2048 .f32 :=
  addf (Host.dotGeneral dot_S544x256x1024_S544x1024x2048_S544x256x2048_2_1_1_2_0_0 none X
      (Host.gather gather_S32x1024x2048_S544x1_S544x1024x2048_12_0_n_n_0_1_110242048 W I))
    (broadcastInDim S544x256x2048 ![0, 1, 2] bcast_S544x1x2048_S544x256x2048_0_1_2
      (broadcastInDim S544x1x2048 ![0, 2] bcast_S544x2048_S544x1x2048_0_2
        (Host.gather gather_S32x2048_S544x1_S544x2048_1_0_n_n_0_1_12048 b I)))

/-- The gated activation. -/
def actOf (H : FVec F S544x256x2048 .f32) : FVec F S544x256x1024 .f32 :=
  let one : FVec F S544x256x1024 .f32 := broadcastInDim S544x256x1024 ![] bcast_S_S544x256x1024 (constant S_ .f32 0x3F800000#32)
  let g : FVec F S544x256x1024 .f32 := minimumf (extractStridedSlice S544x256x1024 ![0, 0, 0] H slices_S544x256x2048_S544x256x1024_0_0_0)
    (broadcastInDim S544x256x1024 ![] bcast_S_S544x256x1024 (constant S_ .f32 0x40E00000#32))
  mulf (mulf g (Host.divf one (addf one (Host.exp (Host.negf (mulf (broadcastInDim S544x256x1024 ![] bcast_S_S544x256x1024 (constant S_ .f32 0x3FD9DB23#32)) g))))))
    (addf (minimumf (broadcastInDim S544x256x1024 ![] bcast_S_S544x256x1024 (constant S_ .f32 0x40E00000#32))
      (maximumf (broadcastInDim S544x256x1024 ![] bcast_S_S544x256x1024 (constant S_ .f32 0xC0E00000#32))
        (extractStridedSlice S544x256x1024 ![0, 0, 1024] H slices_S544x256x2048_S544x256x1024_0_0_1024))) one)

/-- The second layer. -/
def lastOf (A : FVec F S544x256x1024 .f32) (I : IVec S544x1 32) (W : FVec F S32x1024x1024 .f32) (b : FVec F S32x1024 .f32) : FVec F S544x256x1024 .f32 :=
  addf (Host.dotGeneral dot_S544x256x1024_S544x1024x1024_S544x256x1024_2_1_1_2_0_0 none A
      (Host.gather gather_S32x1024x1024_S544x1_S544x1024x1024_12_0_n_n_0_1_110241024 W I))
    (broadcastInDim S544x256x1024 ![0, 1, 2] bcast_S544x1x1024_S544x256x1024_0_1_2
      (broadcastInDim S544x1x1024 ![0, 2] bcast_S544x1024_S544x1x1024_0_2
        (Host.gather gather_S32x1024_S544x1_S544x1024_1_0_n_n_0_1_11024 b I)))

/-- The result: zero in every chunk past the used ones. -/
def resultOf (U : IVec S_ 32) (Y : FVec F S544x256x1024 .f32) : FVec F S139264x1024 .f32 :=
  shapeCast S139264x1024
    (select
      (broadcastInDim S544x256x1024 ![0, 1, 2] bcast_S544x1x1_S544x256x1024_0_1_2
        (broadcastInDim S544x1x1 ![0] bcast_S544_S544x1x1_0
          (cmpi .slt (iotaInDim S544 32 0) (broadcastInDim S544 ![] bcast_S_S544 U))))
      Y (broadcastInDim S544x256x1024 ![] bcast_S_S544x256x1024 (constant S_ .f32 0x00000000#32)))
    shapeCasts_S544x256x1024_S139264x1024

theorem result_eq (m : (ℓ : Loc nD τ sig) → Buf (Elt F) ℓ) (c : Dev nD) : res_main_v87 m c =
    resultOf (usedOf (ends (m ((c.tc : Thread nD τ).loc main_arg1))))
      (lastOf (actOf (hiddenOf (rowsOf (m ((c.tc : Thread nD τ).loc main_arg0)))
          (gatherBy (expertOf (ends (m ((c.tc : Thread nD τ).loc main_arg1))))) (m ((c.tc : Thread nD τ).loc main_arg2)) (m ((c.tc : Thread nD τ).loc main_arg3))))
        (gatherBy (expertOf (ends (m ((c.tc : Thread nD τ).loc main_arg1))))) (m ((c.tc : Thread nD τ).loc main_arg4)) (m ((c.tc : Thread nD τ).loc main_arg5))) := by
  unfold res_main_v87
  rfl

/-! ## Each piece at an entry, over the extended reals -/

/-- A gather of whole slices by one word each, of an operand of rank 3. -/
theorem gather_slices {α : Type} {N A B C : Nat} (hN : 0 < N)
    (wf : GatherDims.WF ⟨3, ![N, A, B]⟩ ⟨2, ![C, 1]⟩ ⟨3, ![C, A, B]⟩ [1, 2] [0] [] [0] [] 1 ![1, A, B])
    (x : (⟨3, ![N, A, B]⟩ : Shape).Idx → α) (I : IVec ⟨2, ![C, 1]⟩ 32) (t : Fin C) (r : Fin A) (f : Fin B) :
    Host.gather (GatherDims.mk (s := ⟨3, ![N, A, B]⟩) (si := ⟨2, ![C, 1]⟩) (t := ⟨3, ![C, A, B]⟩) [1, 2] [0] [] [] [0] 1 ![1, A, B] wf) x I (ix3 t r f)
      = x (ix3 ⟨min (I (ix2 t 0)).toInt.toNat (N - 1), by omega⟩ r f) := by
  unfold Host.gather
  congr 1
  funext a
  refine Fin.ext ?_
  match a with
  | ⟨0, _⟩ =>
    show min (I _).toInt.toNat (N - 1) + 0 + 0 = min (I (ix2 t 0)).toInt.toNat (N - 1)
    refine congrArg (fun i => min (I i).toInt.toNat (N - 1)) ?_
    funext b
    match b with
    | ⟨0, _⟩ => rfl
    | ⟨1, _⟩ => rfl
  | ⟨1, _⟩ => exact Nat.zero_add _
  | ⟨2, _⟩ => exact Nat.zero_add _

/-- The same of an operand of rank 2. -/
theorem gather_rows {α : Type} {N A C : Nat} (hN : 0 < N)
    (wf : GatherDims.WF ⟨2, ![N, A]⟩ ⟨2, ![C, 1]⟩ ⟨2, ![C, A]⟩ [1] [0] [] [0] [] 1 ![1, A])
    (x : (⟨2, ![N, A]⟩ : Shape).Idx → α) (I : IVec ⟨2, ![C, 1]⟩ 32) (t : Fin C) (r : Fin A) :
    Host.gather (GatherDims.mk (s := ⟨2, ![N, A]⟩) (si := ⟨2, ![C, 1]⟩) (t := ⟨2, ![C, A]⟩) [1] [0] [] [] [0] 1 ![1, A] wf) x I (ix2 t r)
      = x (ix2 ⟨min (I (ix2 t 0)).toInt.toNat (N - 1), by omega⟩ r) := by
  unfold Host.gather
  congr 1
  funext a
  refine Fin.ext ?_
  match a with
  | ⟨0, _⟩ =>
    show min (I _).toInt.toNat (N - 1) + 0 + 0 = min (I (ix2 t 0)).toInt.toNat (N - 1)
    refine congrArg (fun i => min (I i).toInt.toNat (N - 1)) ?_
    funext b
    match b with
    | ⟨0, _⟩ => rfl
    | ⟨1, _⟩ => rfl
  | ⟨1, _⟩ => exact Nat.zero_add _

section Entries

/-- The expert a chunk's words name. -/
def Names (I : IVec S544x1 32) (t : Fin 544) (e : Fin 32) : Prop := min (I (ix2 t 0)).toInt.toNat 31 = e.val

variable {I : IVec S544x1 32} {t : Fin 544} {e : Fin 32} (h : Names I t e)
include h

theorem gather_w1 (W : FVec Ideal S32x1024x2048 .f32) (k : Fin 1024) (f : Fin 2048) :
    Host.gather gather_S32x1024x2048_S544x1_S544x1024x2048_12_0_n_n_0_1_110242048 W I (ix3 t k f) = W (ix3 e k f) :=
  (gather_slices (by decide) _ W I t k f).trans (congrArg (fun n => W (ix3 n k f)) (Fin.ext h))
theorem gather_w2 (W : FVec Ideal S32x1024x1024 .f32) (k : Fin 1024) (f : Fin 1024) :
    Host.gather gather_S32x1024x1024_S544x1_S544x1024x1024_12_0_n_n_0_1_110241024 W I (ix3 t k f) = W (ix3 e k f) :=
  (gather_slices (by decide) _ W I t k f).trans (congrArg (fun n => W (ix3 n k f)) (Fin.ext h))
theorem gather_b1 (b : FVec Ideal S32x2048 .f32) (f : Fin 2048) :
    Host.gather gather_S32x2048_S544x1_S544x2048_1_0_n_n_0_1_12048 b I (ix2 t f) = b (ix2 e f) :=
  (gather_rows (by decide) _ b I t f).trans (congrArg (fun n => b (ix2 n f)) (Fin.ext h))
theorem gather_b2 (b : FVec Ideal S32x1024 .f32) (f : Fin 1024) :
    Host.gather gather_S32x1024_S544x1_S544x1024_1_0_n_n_0_1_11024 b I (ix2 t f) = b (ix2 e f) :=
  (gather_rows (by decide) _ b I t f).trans (congrArg (fun n => b (ix2 n f)) (Fin.ext h))

theorem hidden_at (X : FVec Ideal S544x256x1024 .f32) (W : FVec Ideal S32x1024x2048 .f32) (b : FVec Ideal S32x2048 .f32) (r : Fin 256) (f : Fin 2048) :
    hiddenOf X I W b (ix3 t r f) = first (fun k => X (ix3 t r k)) (fun k f => W (ix3 e k f)) (fun f => b (ix2 e f)) f := by
  pointwise [hiddenOf, first]
  simp only [gather_w1 h, gather_b1 h]
theorem last_at (A : FVec Ideal S544x256x1024 .f32) (W : FVec Ideal S32x1024x1024 .f32) (b : FVec Ideal S32x1024 .f32) (r : Fin 256) (d : Fin 1024) :
    (lastOf A I W b (ix3 t r d) : EReal) = ∑ f : Fin 1024, A (ix3 t r f) * W (ix3 e f d) + b (ix2 e d) := by
  pointwise [lastOf]
  simp only [gather_w2 h, gather_b2 h]

end Entries

theorem rows_at (x : IVec S139264x512 32) (t : Fin 544) (r : Fin 256) (k : Fin 1024) :
    rowsOf (F := Ideal) x (ix3 t r k) = unpacked (fun j => x (ix2 ⟨256 * t.val + r.val, by omega⟩ j)) k := by
  pointwise [rowsOf, unpacked]
  simp only [ValueIdx.shli_host, Nat.mul_comm]
theorem act_at (H : FVec Ideal S544x256x2048 .f32) (t : Fin 544) (r : Fin 256) (f : Fin 1024) :
    actOf H (ix3 t r f) = gated (H (ix3 t r (gateCol f))) (H (ix3 t r (linCol f))) := by
  pointwise [actOf, gated]
  rfl
theorem result_at (U : IVec S_ 32) (Y : FVec Ideal S544x256x1024 .f32) (t : Fin 544) (r : Fin 256) (d : Fin 1024) :
    resultOf U Y (ix2 ⟨256 * t.val + r.val, by omega⟩ d) = if (BitVec.ofNat 32 t.val).slt (U ix0) then Y (ix3 t r d) else (0 : EReal) := by
  pointwise [resultOf]
  show Scalar.select (BitVec.ofBool ((BitVec.ofNat 32 t.val).slt (U ix0))) _ _ = _
  cases (BitVec.ofNat 32 t.val).slt (U ix0) <;> rfl

/-- The reference's result at a row of a chunk: that chunk's expert's layer, or zero past the used chunks. -/
theorem value_at (m : (ℓ : Loc nD τ sig) → Buf (Elt Ideal) ℓ) (c : Dev nD) (t : Fin 544) (r : Fin 256) (d : Fin 1024) (e : Fin 32)
    (h : Names (gatherBy (expertOf (ends (m ((c.tc : Thread nD τ).loc main_arg1))))) t e) :
    (res_main_v87 m c (ix2 (⟨256 * t.val + r.val, by omega⟩ : Fin 139264) d) : EReal) =
      if (BitVec.ofNat 32 t.val).slt (usedOf (ends (m ((c.tc : Thread nD τ).loc main_arg1))) ix0) then
        layer (fun j => m ((c.tc : Thread nD τ).loc main_arg0) (ix2 (⟨256 * t.val + r.val, by omega⟩ : Fin 139264) j))
          (fun k f => m ((c.tc : Thread nD τ).loc main_arg2) (ix3 e k f)) (fun f => m ((c.tc : Thread nD τ).loc main_arg3) (ix2 e f))
          (fun k f => m ((c.tc : Thread nD τ).loc main_arg4) (ix3 e k f)) (fun f => m ((c.tc : Thread nD τ).loc main_arg5) (ix2 e f)) d
      else 0 := by
  rw [result_eq, result_at, last_at h]
  simp only [act_at, hidden_at h, rows_at]
  rfl

end Cert.MoeRefIdeal.Value

end
-- ==== Proof.Tables.lean ====
module

public import proofs.«01_k».proof.Proof.Blocks
public import proofs.«01_k».proof.Proof.Body
public import proofs.«01_k».proof.Proof.Reference

@[expose] public section

set_option maxRecDepth 16384

noncomputable section

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

/-! ## The two programs' routing, word for word -/

/-- Raising a count by 256 and taking one away raises it by 255. -/
theorem raised_eq (cnt : IVec S32 32) : (raised (F := Ideal) cnt : IVec S32 32) = fun y => IntOp.addi (cnt y) 255#32 := by
  funext y
  show cnt y + 256#32 - 1#32 = cnt y + 255#32
  bv_omega

theorem ends_eq (cnt : IVec S32 32) : (endsOf (F := Ideal) (raised (F := Ideal) cnt) : IVec S32 32) = Cert.MoeRefIdeal.Value.ends cnt := by
  rw [raised_eq]; rfl

theorem expertOf_eq (e : IVec S32 32) : (expertOf (F := Ideal) e : IVec S544 32) = Cert.MoeRefIdeal.Value.expertOf e := rfl

theorem usedOf_eq (e : IVec S32 32) : (usedOf (F := Ideal) e : IVec S1 32) (ix1 0) = Cert.MoeRefIdeal.Value.usedOf e Idealize.ShloMosaic.ix0 := by
  pointwise [usedOf, floorDiv, Cert.MoeRefIdeal.Value.usedOf]

/-- An expert's word that is one of the 32 names that expert. -/
theorem names_of (E : IVec S544 32) (t : Fin 544) (e : Fin 32) (h : (E (ix1 t)).toNat = e.val) :
    Cert.MoeRefIdeal.Value.Names (Cert.MoeRefIdeal.Value.gatherBy E) t e := by
  have hE : E (ix1 t) = BitVec.ofNat 32 e.val := by rw [← h, BitVec.ofNat_toNat, BitVec.setWidth_eq]
  unfold Cert.MoeRefIdeal.Value.Names
  have : Cert.MoeRefIdeal.Value.gatherBy E (ix2 t 0) = Scalar.select (IntOp.cmpi .slt (E (ix1 t)) 0#32) (IntOp.addi (E (ix1 t)) 32#32) (E (ix1 t)) := by
    pointwise [Cert.MoeRefIdeal.Value.gatherBy]
  rw [this, hE]
  clear this hE h
  revert e; decide

/-! ## The tables' words -/

theorem word_at (pf : pre0.Contents (Elt F)) (t : Fin grid0.N) : wordAt pf (grid0.coords t) = pf 0 (ix1 ⟨t.val, by have := t.isLt; have := N_0; omega⟩) := by
  have h := coords_val t
  have h' := t.isLt
  have h'' := N_0
  have e : k0_off1 (grid0.coords t) 0 = t.val := by
    show (BitVec.ofNat 32 (grid0.coords t 0).val).toNat = t.val
    rw [h, BitVec.toNat_ofNat, Nat.mod_eq_of_lt (by omega)]
  refine congrArg (pf 0) ?_
  funext a
  match a with
  | ⟨0, _⟩ => exact Fin.ext (by show k0_off1 (grid0.coords t) 0 + 1 * 0 = t.val; omega)

theorem used_at (c : Dev nD) (pf : pre0.Contents (Elt F)) : wordU c (pf 1) = pf 1 (ix1 0) := by
  refine congrArg (pf 1) ?_
  funext a
  match a with
  | ⟨0, _⟩ => rfl

end Cert.MoeIdeal.Experts

end
-- ==== Proof.Value.lean ====
module

public import proofs.«01_k».proof.Proof.Run
public import proofs.«01_k».proof.Proof.Tables
public import Idealize.ShloMosaic.Lib.Pipeline.Covers
public import Idealize.ShloMosaic.Lib.Pipeline.ValueKit

@[expose] public section

set_option maxRecDepth 16384

noncomputable section

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal Cert.MoeIdeal.Gen

variable {F : FTy → Type} [FloatOps F]

local notation "𝕄" => MT nD τ sig Unit (Elt F) ℕ (UR sig nD τ) ℕ

open Cert.Formula

/-! ## One point's result at an entry, over the extended reals -/

theorem rows_at (x : Vec Ideal S256x512 .i32) (r : Fin 256) (k : Fin 1024) :
    k0_pay16 (F := Ideal) x (ix2 r k) = unpacked (fun j => x (ix2 r j)) k := by
  pointwise [k0_pay16, unpacked]

theorem glu_at (X : FVec Ideal S256x1024 .bf16) (W V : Vec Ideal S1024x256 .bf16) (b d : Vec Ideal S1x1x256 .f32) (r c : Fin 256) :
    k0_pay19 (F := Ideal) X W b V d (ix2 r c) =
      gated (∑ k : Fin 1024, X (ix2 r k) * W (ix2 k c) + b (ix3 0 0 c)) (∑ k : Fin 1024, X (ix2 r k) * V (ix2 k c) + d (ix3 0 0 c)) := by
  pointwise [k0_pay19, gated]

theorem last_at (A : FVec Ideal S256x1024 .bf16) (W : Vec Ideal S1024x256 .bf16) (b : Vec Ideal S1x1x256 .f32) (r c : Fin 256) :
    k0_pay3 (F := Ideal) A W b (ix2 r c) = ∑ f : Fin 1024, A (ix2 r f) * W (ix2 f c) + b (ix3 0 0 c) := by
  pointwise [k0_pay3]

theorem cut_A (W : FVec Ideal S1024x2048 .bf16) (j : Fin 8) (k : Fin 1024) (c : Fin 256) (f : Fin 2048) (h : 256 * j.val + c.val = f.val) :
    cut (rA j) W (ix2 k c) = W (ix2 k f) := by
  refine congrArg W ?_
  funext a
  match a with
  | ⟨0, _⟩ => exact Fin.ext (by show 0 + 1 * k.val = k.val; omega)
  | ⟨1, _⟩ => exact Fin.ext (by show 256 * j.val + 1 * c.val = f.val; omega)
theorem cut_B (W : FVec Ideal S1024x1024 .bf16) (j : Fin 4) (k : Fin 1024) (c : Fin 256) (f : Fin 1024) (h : 256 * j.val + c.val = f.val) :
    cut (rB j) W (ix2 k c) = W (ix2 k f) := by
  refine congrArg W ?_
  funext a
  match a with
  | ⟨0, _⟩ => exact Fin.ext (by show 0 + 1 * k.val = k.val; omega)
  | ⟨1, _⟩ => exact Fin.ext (by show 256 * j.val + 1 * c.val = f.val; omega)
theorem cut_b (b : Vec Ideal S1x1x2048 .f32) (j : Fin 8) (c : Fin 256) (f : Fin 2048) (h : 256 * j.val + c.val = f.val) :
    cut (rb j) b (ix3 0 0 c) = b (ix3 0 0 f) := by
  refine congrArg b ?_
  funext a
  match a with
  | ⟨0, _⟩ => rfl
  | ⟨1, _⟩ => rfl
  | ⟨2, _⟩ => exact Fin.ext (by show 256 * j.val + 1 * c.val = f.val; omega)
theorem cut_c (b : Vec Ideal S1x1x1024 .f32) (j : Fin 4) (c : Fin 256) (f : Fin 1024) (h : 256 * j.val + c.val = f.val) :
    cut (rc j) b (ix3 0 0 c) = b (ix3 0 0 f) := by
  refine congrArg b ?_
  funext a
  match a with
  | ⟨0, _⟩ => rfl
  | ⟨1, _⟩ => rfl
  | ⟨2, _⟩ => exact Fin.ext (by show 256 * j.val + 1 * c.val = f.val; omega)

theorem w1c_at (x : Vec Ideal S1x1024x2048 .f32) (k : Fin 1024) (f : Fin 2048) : w1c x (ix2 k f) = x (ix3 0 k f) := by
  pointwise [w1c]
theorem w2c_at (x : Vec Ideal S1x1024x1024 .f32) (k : Fin 1024) (f : Fin 1024) : w2c x (ix2 k f) = x (ix3 0 k f) := by
  pointwise [w2c]

theorem act_at (x : Vec Ideal S256x512 .i32) (W : Vec Ideal S1x1024x2048 .f32) (b : Vec Ideal S1x1x2048 .f32) (r : Fin 256) (f : Fin 1024) :
    actG x (w1c W) b (ix2 r f) =
      gated (first (unpacked fun j => x (ix2 r j)) (fun k f => W (ix3 0 k f)) (fun f => b (ix3 0 0 f)) (gateCol f))
        (first (unpacked fun j => x (ix2 r j)) (fun k f => W (ix3 0 k f)) (fun f => b (ix3 0 0 f)) (linCol f)) := by
  have hf := f.isLt
  have hg : 256 * (glu8 (blk f)).val + (plc f).val = (gateCol f).val := by
    show 256 * (f.val / 256) + f.val % 256 = f.val; omega
  have hl : 256 * (lin8 (blk f)).val + (plc f).val = (linCol f).val := by
    show 256 * (4 + f.val / 256) + f.val % 256 = 1024 + f.val; omega
  show gluBlock (k0_pay16 x) (w1c W) b (blk f) (ix2 r (plc f)) = _
  unfold gluBlock first
  rw [glu_at, cut_b b _ _ _ hg, cut_b b _ _ _ hl]
  simp only [cut_A _ _ _ _ _ hg, cut_A _ _ _ _ _ hl, w1c_at, rows_at]

theorem layer_at (x : Vec Ideal S256x512 .i32) (W : Vec Ideal S1x1024x2048 .f32) (b : Vec Ideal S1x1x2048 .f32)
    (W' : Vec Ideal S1x1024x1024 .f32) (b' : Vec Ideal S1x1x1024 .f32) (r : Fin 256) (d : Fin 1024) :
    yG (actG x (w1c W) b) (w2c W') b' (ix2 r d) =
      layer (fun j => x (ix2 r j)) (fun k f => W (ix3 0 k f)) (fun f => b (ix3 0 0 f)) (fun k f => W' (ix3 0 k f)) (fun f => b' (ix3 0 0 f)) d := by
  have hd : 256 * (blk d).val + (plc d).val = d.val := by
    show 256 * (d.val / 256) + d.val % 256 = d.val; omega
  show yBlock (actG x (w1c W) b) (w2c W') b' (blk d) (ix2 r (plc d)) = _
  unfold yBlock layer
  rw [last_at, cut_c b' _ _ _ hd]
  simp only [cut_B _ _ _ _ _ hd, w2c_at, act_at]

theorem layer_of (x : Vec Ideal S256x512 .i32) (W : Vec Ideal S1x1024x2048 .f32) (b : Vec Ideal S1x1x2048 .f32)
    (W' : Vec Ideal S1x1024x1024 .f32) (b' : Vec Ideal S1x1x1024 .f32) (r : Fin 256) (d : Fin 1024)
    {xx : Fin 512 → BitVec 32} {WW : Fin 1024 → Fin 2048 → EReal} {bb : Fin 2048 → EReal} {VV : Fin 1024 → Fin 1024 → EReal} {dd : Fin 1024 → EReal}
    (hx : (fun j => x (ix2 r j)) = xx) (hW : (fun k f => W (ix3 0 k f)) = WW) (hb : (fun f => b (ix3 0 0 f)) = bb)
    (hV : (fun k f => W' (ix3 0 k f)) = VV) (hd : (fun f => b' (ix3 0 0 f)) = dd) :
    yG (actG x (w1c W) b) (w2c W') b' (ix2 r d) = layer xx WW bb VV dd d := by
  subst hx hW hb hV hd
  exact layer_at x W b W' b' r d

/-! ## The result array -/

variable (m : (ℓ : Loc nD τ sig) → Buf (Elt Ideal) ℓ)

/-- The counts of the experts' rows, as the call is given them. -/
abbrev counts (c : Dev nD) : IVec S32 32 := m ((c : Thread nD τ).loc main_arg1)

theorem chunk_lt (t : Fin grid0.N) : t.val < 544 := by have := t.isLt; have := N_0; omega

theorem expert_names (c : Dev nD) (t : Fin grid0.N) : Cert.MoeRefIdeal.Value.Names
    (Cert.MoeRefIdeal.Value.gatherBy (Cert.MoeRefIdeal.Value.expertOf (Cert.MoeRefIdeal.Value.ends (counts m c)))) ⟨t.val, chunk_lt t⟩ (expert m t) := by
  refine names_of _ _ _ ?_
  rw [expert_val, word_at]
  have h : tbl m 0 = V m c main_v19 := (V_pre m c 0).symm
  rw [h, V_main_v19, ends_eq, expertOf_eq]

theorem used_word (c : Dev nD) : wordU c (tbl m 1) =
    Cert.MoeRefIdeal.Value.usedOf (Cert.MoeRefIdeal.Value.ends (counts m c)) Idealize.ShloMosaic.ix0 := by
  rw [used_at]
  have h : tbl m 1 = V m c main_v21 := (V_pre m c 1).symm
  rw [h, V_main_v21, ends_eq]
  exact usedOf_eq _

theorem bias1_at (c : Dev nD) (e : Fin 32) (f : Fin 2048) :
    (V m c main_v22 (ix3 e 0 f) : EReal) = m ((c : Thread nD τ).loc main_arg3) (ix2 e f) := by
  rw [V_main_v22]
  generalize m ((c : Thread nD τ).loc main_arg3) = b
  pointwise
theorem bias2_at (c : Dev nD) (e : Fin 32) (f : Fin 1024) :
    (V m c main_v23 (ix3 e 0 f) : EReal) = m ((c : Thread nD τ).loc main_arg5) (ix2 e f) := by
  rw [V_main_v23]
  generalize m ((c : Thread nD τ).loc main_arg5) = b
  pointwise

/-- What the body leaves at a point, entry by entry. -/
theorem out_at (c : Dev nD) (t : Fin (cfgM m).N) (r : Fin 256) (d : Fin 1024) : (outAt m c t (ix2 r d) : EReal) =
      if (BitVec.ofNat 32 t.val).slt (Cert.MoeRefIdeal.Value.usedOf (Cert.MoeRefIdeal.Value.ends (counts m c)) Idealize.ShloMosaic.ix0) then
        layer (fun j => m ((c : Thread nD τ).loc main_arg0) (ix2 (row t r) j))
          (fun k f => m ((c : Thread nD τ).loc main_arg2) (ix3 (expert m t) k f)) (fun f => m ((c : Thread nD τ).loc main_arg3) (ix2 (expert m t) f))
          (fun k f => m ((c : Thread nD τ).loc main_arg4) (ix3 (expert m t) k f)) (fun f => m ((c : Thread nD τ).loc main_arg5) (ix2 (expert m t) f)) d
      else 0 := by
  have hx : (fun j => (iblk m c 0 t : Vec Ideal S256x512 .i32) (ix2 r j)) = fun j => m ((c : Thread nD τ).loc main_arg0) (ix2 (row t r) j) :=
    funext fun j => (iblk_0 m c t (ix2 r j)).trans (congrFun (V_main_arg0 m c) _)
  have hW : (fun k f => (iblk m c 1 t : Vec Ideal S1x1024x2048 .f32) (ix3 0 k f)) = fun k f => m ((c : Thread nD τ).loc main_arg2) (ix3 (expert m t) k f) :=
    funext fun k => funext fun f => (iblk_1 m c t (ix3 0 k f)).trans (congrFun (V_main_arg2 m c) _)
  have hb : (fun f => (iblk m c 2 t : Vec Ideal S1x1x2048 .f32) (ix3 0 0 f)) = fun f => m ((c : Thread nD τ).loc main_arg3) (ix2 (expert m t) f) :=
    funext fun f => (iblk_2 m c t (ix3 0 0 f)).trans (bias1_at m c _ _)
  have hV : (fun k f => (iblk m c 3 t : Vec Ideal S1x1024x1024 .f32) (ix3 0 k f)) = fun k f => m ((c : Thread nD τ).loc main_arg4) (ix3 (expert m t) k f) :=
    funext fun k => funext fun f => (iblk_3 m c t (ix3 0 k f)).trans (congrFun (V_main_arg4 m c) _)
  have hd : (fun f => (iblk m c 4 t : Vec Ideal S1x1x1024 .f32) (ix3 0 0 f)) = fun f => m ((c : Thread nD τ).loc main_arg5) (ix2 (expert m t) f) :=
    funext fun f => (iblk_4 m c t (ix3 0 0 f)).trans (bias2_at m c _ _)
  unfold outAt outB
  rw [used_word]
  refine (apply_ite (fun g : FVec Ideal S256x1024 .f32 => (g (ix2 r d) : EReal)) _ _ _).trans ?_
  refine if_congr ?_ ?_ ?_
  · rw [cond2_iff, coords_val]
  · exact layer_of _ _ _ _ _ r d hx hW hb hV hd
  · pointwise [k0_pay5]

theorem nblk_5 (a : (pcfg0 (F := Ideal)).Adm) : ((cfg0 a).win 5).nblk (0 : Fin 2) ≤ 544 ∧ ((cfg0 a).win 5).nblk (1 : Fin 2) ≤ 1 :=
  ⟨show (139264 + 256 - 1) / 256 ≤ 544 by decide, show (1024 + 1024 - 1) / 1024 ≤ 1 by decide⟩
theorem cover_5 : ((cfgM m).win 5).Covers :=
  ((cfgM m).win 5).covers_of_index_surj rfl (show ∀ a : Fin 2, 0 < S256x1024.size a by decide) fun β =>
    ⟨⟨(β (0 : Fin 2)).val, Nat.lt_of_lt_of_le (β (0 : Fin 2)).isLt ((nblk_5 (adm m)).1.trans (Nat.le_of_eq N_0.symm))⟩, by
      rw [idx_5]
      have h1 : (β (1 : Fin 2)).val < 1 := Nat.lt_of_lt_of_le (β (1 : Fin 2)).isLt (nblk_5 (adm m)).2
      exact Fin.forall_fin_two.mpr ⟨rfl, (Nat.lt_one_iff.mp h1).symm⟩⟩

theorem inj_5 (t : Fin (cfgM m).N) (y : S256x1024.Idx) : (((cfgM m).win 5).xinj ((cfgM m).grid.coords t) y : S256x1024.Idx) = y := by
  funext a; rfl
theorem emb_5 (t : Fin (cfgM m).N) (y : S256x1024.Idx) (G : Vec Ideal S139264x1024 .f32) :
    G ((((cfgM m).win 5).blk t).view.emb y) = G (ix2 (row t (y 0)) (y 1)) := by
  blk_ext [idx_5 m t, row]

theorem point_5 (t : Fin (cfgM m).N) (y : (((cfgM m).win 5).xblock ((cfgM m).grid.coords t)).Idx) (g : Vec Ideal S256x1024 .f32) (G : Vec Ideal S139264x1024 .f32)
    (h : ∀ (r : Fin 256) (d : Fin 1024), g (ix2 r d) = G (ix2 (row t r) d)) :
    _root_.cast (congrArg (Elt Ideal) (((cfgM m).win 5).blk t).view.elt_eq.symm) (g (((cfgM m).win 5).xinj ((cfgM m).grid.coords t) y))
      = G ((((cfgM m).win 5).blk t).view.emb y) := by
  have key : ∀ y : S256x1024.Idx, g y = G (ix2 (row t (y 0)) (y 1)) := fun y => (congrArg g (eq_ix2 y)).trans (h (y 0) (y 1))
  refine Eq.trans ?_ ((key y).trans (emb_5 m t y G).symm)
  exact congrArg g (inj_5 m t y)

/-- An array that at every row of every chunk is what the body leaves there is the array the call leaves. -/
theorem array_eq (c : Dev nD) (G : Vec Ideal S139264x1024 .f32)
    (h : ∀ (t : Fin (cfgM m).N) (r : Fin 256) (d : Fin 1024), outAt m c t (ix2 r d) = G (ix2 (row t r) d)) :
    (dats m 0 c).arrAt 5 (cfgM m).N = G := by
  refine (dats m 0 c).arrAt_eq_of_covers 5 G (cover_5 m) fun t hf y => ?_
  rw [after_5]
  exact point_5 m t y (outAt m c t) G (h t)

end Cert.MoeIdeal.Experts

end
-- ==== Proof.Equal.lean ====
module

public import proofs.«01_k».proof.Defs
public import proofs.«01_k».proof.Proof.Value
public import proofs.«01_k».proof.Proof.Gen.MoeRefIdeal.Run

@[expose] public section

set_option maxRecDepth 16384

noncomputable section

namespace Cert.Proof

open Idealize.ShloMosaic Idealize.ShloMosaic.TcCoe Idealize.SL.Sem

/-- From equal arguments the call leaves the array the reference does. -/
theorem array_result (m : (ℓ : Loc Cert.MoeIdeal.nD Cert.MoeIdeal.τ Cert.MoeIdeal.sig) → Buf (Elt Ideal) ℓ)
    (m' : (ℓ : Loc Cert.MoeRefIdeal.nD Cert.MoeRefIdeal.τ Cert.MoeRefIdeal.sig) → Buf (Elt Ideal) ℓ) (c : Dev Cert.MoeIdeal.nD)
    (h0 : m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0))
    (h1 : m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1))
    (h2 : m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2))
    (h3 : m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3))
    (h4 : m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4))
    (h5 : m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) :
    (Cert.MoeIdeal.Experts.dats m 0 c).arrAt 5 (Cert.MoeIdeal.Experts.cfgM m).N = Cert.MoeRefIdeal.Value.res_main_v87 m' c := by
  refine Cert.MoeIdeal.Experts.array_eq m c (Cert.MoeRefIdeal.Value.res_main_v87 m' c) fun t r d => ?_
  refine (Cert.MoeIdeal.Experts.out_at m c t r d).trans (Eq.symm ?_)
  have hn := Cert.MoeIdeal.Experts.expert_names m c t
  unfold Cert.MoeIdeal.Experts.counts at hn ⊢
  rw [← h1] at hn
  have h := Cert.MoeRefIdeal.Value.value_at m' c ⟨t.val, Cert.MoeIdeal.Experts.chunk_lt t⟩ r d (Cert.MoeIdeal.Experts.expert m t) hn
  rw [h0, h1, h2, h3, h4, h5] at h
  exact h

/-- The idealized experts and the reference end with equal results. -/
theorem algebraic : Cert.algebraic_MoeIdeal_MoeRefIdeal (hMoeIdeal := Cert.MoeIdeal.Gen.facts) (hMoeRefIdeal := Cert.MoeRefIdeal.Gen.facts) :=
  fun m g m' g' _ hargs => ⟨fun c => Cert.MoeRefIdeal.Value.res_main_v87 m' c,
    (θ_run Cert.MoeIdeal.defs _ _).mono (fun _ h c =>
      ⟨(h.1 c).1.trans (array_result m m' c (hargs c).1 (hargs c).2.1 (hargs c).2.2.1 (hargs c).2.2.2.1 (hargs c).2.2.2.2.1 (hargs c).2.2.2.2.2), (h.1 c).2⟩)
      (Cert.MoeIdeal.Experts.run_args (F := Ideal) m g),
    Cert.MoeRefIdeal.Value.run (F := Ideal) m' g'⟩

end Cert.Proof

end
-- ==== Proof.Token.lean ====
module

public import Idealize.ShloMosaic.Lib.StableHlo.RunRead
public import Idealize.ShloMosaic.Lib.Pipeline.Covers
public import Idealize.ShloMosaic.Lib.Pipeline.ValueKit
public import Idealize.ShloMosaic.Lib.Pointwise
public import Idealize.ShloMosaic.Lib.Routing.OpsOne

@[expose] public section

noncomputable section

/-! Tokens: the rows `(b, s)` of four sequences of 8192, taken in 64 blocks of 512. -/

namespace Cert.Token

open Idealize.ShloMosaic

/-- Row `r` of block `t`. -/
def row (t : Fin 64) (r : Fin 512) : Fin 32768 := ⟨512 * t.val + r.val, by omega⟩
/-- The sequence of block `t`. -/
def batch (t : Fin 64) : Fin 4 := ⟨t.val / 16, by omega⟩
/-- The place in its sequence of row `r` of block `t`. -/
def place (t : Fin 64) (r : Fin 512) : Fin 8192 := ⟨512 * (t.val % 16) + r.val, by omega⟩
/-- Token `s` of sequence `b`. -/
def token (b : Fin 4) (s : Fin 8192) : Fin 32768 := ⟨8192 * b.val + s.val, by omega⟩

theorem row_eq (t : Fin 64) (r : Fin 512) : row t r = token (batch t) (place t r) := Fin.ext (by
  show 512 * t.val + r.val = 8192 * (t.val / 16) + (512 * (t.val % 16) + r.val); omega)

/-- Four sequences read as one list of tokens. -/
theorem list_at {α : Type} {n : Nat} (x : (⟨3, ![4, 8192, n]⟩ : Shape).Idx → α) (h : (⟨3, ![4, 8192, n]⟩ : Shape).ShapeCasts ⟨2, ![32768, n]⟩)
    (b : Fin 4) (s : Fin 8192) (k : Fin n) : shapeCast ⟨2, ![32768, n]⟩ x h (ix2 (token b s) k) = x (ix3 b s k) := by
  refine shapeCast_apply x h _ _ ?_
  rw [Shape.rowMajor_val_three, Shape.rowMajor_val_two]
  show (b.val * 8192 + s.val) * n + k.val = (8192 * b.val + s.val) * n + k.val
  rw [Nat.mul_comm b.val]
/-- A row per sequence, given a middle axis of one. -/
theorem unit_at {α : Type} {n : Nat} (x : (⟨2, ![4, n]⟩ : Shape).Idx → α) (h : (⟨2, ![4, n]⟩ : Shape).ShapeCasts ⟨3, ![4, 1, n]⟩)
    (b : Fin 4) (k : Fin n) : shapeCast ⟨3, ![4, 1, n]⟩ x h (ix3 b 0 k) = x (ix2 b k) := by
  refine shapeCast_apply x h _ _ ?_
  rw [Shape.rowMajor_val_three, Shape.rowMajor_val_two]
  show b.val * n + k.val = (b.val * 1 + 0) * n + k.val
  rw [Nat.mul_one, Nat.add_zero]

/-! ## A normed row and its product -/

/-- A row over the root of its mean square, by the gain, the scale and the shift. `n` is the word of the row's length. -/
def normed {K : Nat} (n : BitVec 32) (x g s h : Fin K → EReal) (k : Fin K) : EReal :=
  x k * Ideal.rsqrt (Ideal.div (∑ i : Fin K, x i * x i) (Ideal.ofBits .f32 n) + Ideal.ofBits .f32 897988541#32) * g k * (1 + s k) + h k

theorem normed_congr {K : Nat} {n : BitVec 32} {x x' g g' s s' h h' : Fin K → EReal} (hx : ∀ k, x k = x' k) (hg : ∀ k, g k = g' k)
    (hs : ∀ k, s k = s' k) (hh : ∀ k, h k = h' k) (k : Fin K) : normed n x g s h k = normed n x' g' s' h' k := by
  rw [funext hx, funext hg, funext hs, funext hh]

/-- A zero scale and a zero shift change nothing. -/
theorem normed_plain {K : Nat} (n : BitVec 32) (x g : Fin K → EReal) (k : Fin K) : normed n x g (fun _ => 0) (fun _ => 0) k =
    x k * Ideal.rsqrt (Ideal.div (∑ i : Fin K, x i * x i) (Ideal.ofBits .f32 n) + Ideal.ofBits .f32 897988541#32) * g k := by
  unfold normed
  rw [add_zero, add_zero, mul_one]

/-- The normed row of a token, from the arguments. -/
def tokenRow (x : (⟨3, ![4, 8192, 1024]⟩ : Shape).Idx → EReal) (g : (⟨1, ![1024]⟩ : Shape).Idx → EReal) (s h : (⟨2, ![4, 1024]⟩ : Shape).Idx → EReal) (b : Fin 4) (p : Fin 8192) (k : Fin 1024) : EReal :=
  normed 1149239296#32 (fun k => x (ix3 b p k)) (fun k => g (ix1 k)) (fun k => s (ix2 b k)) (fun k => h (ix2 b k)) k

/-- Rows by columns. -/
def product {K N : Nat} (h : (⟨2, ![512, K]⟩ : Shape).Idx → EReal) (W : (⟨2, ![K, N]⟩ : Shape).Idx → EReal) (y : (⟨2, ![512, N]⟩ : Shape).Idx) : EReal :=
  ∑ k : Fin K, h (ix2 (y 0) k) * W (ix2 k (y 1))

/-- 256 columns of the product are the product with 256 columns. -/
theorem product_columns {K N : Nat} (o : Nat) (h : (⟨2, ![512, K]⟩ : Shape).Idx → EReal) (W : (⟨2, ![K, N]⟩ : Shape).Idx → EReal)
    (p : (⟨2, ![512, 256]⟩ : Shape).Idx → EReal)
    (i1 : ∀ a, (![0, o] : Fin 2 → Nat) a + (![K, 256] : Fin 2 → Nat) a ≤ (![K, N] : Fin 2 → Nat) a)
    (i2 : ∀ a, (![0, o] : Fin 2 → Nat) a + (![512, 256] : Fin 2 → Nat) a ≤ (![512, N] : Fin 2 → Nat) a)
    (hp : ∀ r d, p (ix2 r d) = ∑ k : Fin K, h (ix2 r k) * (W ((Rect.unit (s := ⟨2, ![K, N]⟩) ![0, o] ![K, 256] i1).emb (ix2 k d) : (⟨2, ![K, N]⟩ : Shape).Idx)))
    (x : (⟨2, ![512, 256]⟩ : Shape).Idx) :
    p x = product h W ((Rect.unit (s := ⟨2, ![512, N]⟩) ![0, o] ![512, 256] i2).emb x) := by
  refine (congrArg p (eq_ix2 x)).trans ((hp (x 0) (x 1)).trans (Finset.sum_congr rfl fun k _ => ?_))
  refine congrArg₂ (fun a b => h a * W b) ?_ ?_
  · funext a
    match a with
    | ⟨0, _⟩ => exact Fin.ext (show (x 0).val = 0 + 1 * (x 0).val by omega)
    | ⟨1, _⟩ => rfl
  · funext a
    match a with
    | ⟨0, _⟩ => exact Fin.ext (show 0 + 1 * k.val = k.val by omega)
    | ⟨1, _⟩ => rfl

/-! ## Columns set and gathered -/

section
variable {A N n : Nat} (wf : ScatterDims.WF ⟨2, ![A, N]⟩ ⟨1, ![1]⟩ ⟨2, ![A, n]⟩ [0, 1] [] [1] 0) (idx : IVec ⟨1, ![1]⟩ 32) (v : Nat) (hv : (idx (ix1 0)).toInt = (v : Int))
include hv

/-- Where an entry of columns set from column `v` on lands. -/
theorem lands (u : (⟨2, ![A, n]⟩ : Shape).Idx) (k : Fin A) (j : Fin N) :
    (ScatterDims.mk (s := ⟨2, ![A, N]⟩) (si := ⟨1, ![1]⟩) (u := ⟨2, ![A, n]⟩) [0, 1] [] [1] 0 wf).resultIdx? u idx = some (ix2 k j)
      ↔ (u 0).val = k.val ∧ v + (u 1).val = j.val := by
  have s0 : (ScatterDims.mk (s := ⟨2, ![A, N]⟩) (si := ⟨1, ![1]⟩) (u := ⟨2, ![A, n]⟩) [0, 1] [] [1] 0 wf).start u idx 0 = 0 := rfl
  have s1 : (ScatterDims.mk (s := ⟨2, ![A, N]⟩) (si := ⟨1, ![1]⟩) (u := ⟨2, ![A, n]⟩) [0, 1] [] [1] 0 wf).start u idx 1 = (v : Int) := by
    refine Eq.trans ?_ hv
    show (idx _).toInt = _
    refine congrArg (fun i => (idx i).toInt) ?_
    funext b
    match b with
    | ⟨0, _⟩ => rfl
  have w0 : (ScatterDims.mk (s := ⟨2, ![A, N]⟩) (si := ⟨1, ![1]⟩) (u := ⟨2, ![A, n]⟩) [0, 1] [] [1] 0 wf).window u 0 = (u 0).val := rfl
  have w1 : (ScatterDims.mk (s := ⟨2, ![A, N]⟩) (si := ⟨1, ![1]⟩) (u := ⟨2, ![A, n]⟩) [0, 1] [] [1] 0 wf).window u 1 = (u 1).val := rfl
  refine (Routing.resultIdx?_ix2 _ _ _ k j).trans ?_
  rw [s0, s1, w0, w1]
  omega

theorem set_hit {α : Type} (X : (⟨2, ![A, N]⟩ : Shape).Idx → α) (U : (⟨2, ![A, n]⟩ : Shape).Idx → α) (k : Fin A) (j : Fin N) (i : Fin n) (h : v + i.val = j.val) :
    Host.scatter (ScatterDims.mk (s := ⟨2, ![A, N]⟩) (si := ⟨1, ![1]⟩) (u := ⟨2, ![A, n]⟩) [0, 1] [] [1] 0 wf) (fun _ b => b) X idx U (ix2 k j) = U (ix2 k i) := by
  refine Routing.scatter_set_hit _ X idx U _ _ (fun u hu => ?_) (ix2 k i) ((lands wf idx v hv _ k j).2 ⟨rfl, h⟩)
  obtain ⟨h0, h1⟩ := (lands wf idx v hv u k j).1 hu
  refine congrArg U (funext fun a => Fin.ext ?_)
  match a with
  | ⟨0, _⟩ => exact h0
  | ⟨1, _⟩ => exact Nat.add_left_cancel (h1.trans h.symm)

theorem set_miss {α : Type} (X : (⟨2, ![A, N]⟩ : Shape).Idx → α) (U : (⟨2, ![A, n]⟩ : Shape).Idx → α) (k : Fin A) (j : Fin N) (h : j.val < v ∨ v + n ≤ j.val) :
    Host.scatter (ScatterDims.mk (s := ⟨2, ![A, N]⟩) (si := ⟨1, ![1]⟩) (u := ⟨2, ![A, n]⟩) [0, 1] [] [1] 0 wf) (fun _ b => b) X idx U (ix2 k j) = X (ix2 k j) := by
  refine Routing.scatter_set_miss _ X idx U _ fun u hu => ?_
  obtain ⟨_, h1⟩ := (lands wf idx v hv u k j).1 hu
  have h2 : (u 1).val < n := (u 1).isLt
  omega

end

/-- Gathered columns are the columns the words name. -/
theorem gather_columns {α : Type} {A M C : Nat} (hM : 0 < M)
    (wf : GatherDims.WF ⟨2, ![A, M]⟩ ⟨2, ![C, 1]⟩ ⟨2, ![A, C]⟩ [0] [1] [] [1] [] 1 ![A, 1])
    (x : (⟨2, ![A, M]⟩ : Shape).Idx → α) (I : IVec ⟨2, ![C, 1]⟩ 32) (k : Fin A) (j : Fin C) :
    Host.gather (GatherDims.mk (s := ⟨2, ![A, M]⟩) (si := ⟨2, ![C, 1]⟩) (t := ⟨2, ![A, C]⟩) [0] [1] [] [] [1] 1 ![A, 1] wf) x I (ix2 k j)
      = x (ix2 k ⟨min (I (ix2 j 0)).toInt.toNat (M - 1), by omega⟩) := by
  unfold Host.gather
  congr 1
  funext a
  refine Fin.ext ?_
  match a with
  | ⟨0, _⟩ => exact Nat.zero_add _
  | ⟨1, _⟩ =>
    show min (I _).toInt.toNat (M - 1) + 0 + 0 = min (I (ix2 j 0)).toInt.toNat (M - 1)
    refine congrArg (fun i => min (I i).toInt.toNat (M - 1)) ?_
    funext b
    match b with
    | ⟨0, _⟩ => rfl
    | ⟨1, _⟩ => rfl

/-- Two ranges of columns side by side: the first 1536 and those from 1544 on. -/
def mainCol (j : Fin 3840) : Fin 3848 := ⟨if j.val < 1536 then j.val else j.val + 8, by split <;> omega⟩

theorem main_columns {A : Nat} {α : Type} (X : (⟨2, ![A, 3848]⟩ : Shape).Idx → α) (h1 : (⟨2, ![A, 3848]⟩ : Shape).Slices ![0, 0] ⟨2, ![A, 1536]⟩)
    (h2 : (⟨2, ![A, 3848]⟩ : Shape).Slices ![0, 1544] ⟨2, ![A, 2304]⟩) (h : Shape.Concatenates [⟨2, ![A, 1536]⟩, ⟨2, ![A, 2304]⟩] ⟨2, ![A, 3840]⟩ 1) (k : Fin A) (j : Fin 3840) :
    concatenate ⟨2, ![A, 3840]⟩ 1 [⟨⟨2, ![A, 1536]⟩, extractStridedSlice ⟨2, ![A, 1536]⟩ ![0, 0] X h1⟩, ⟨⟨2, ![A, 2304]⟩, extractStridedSlice ⟨2, ![A, 2304]⟩ ![0, 1544] X h2⟩] h (ix2 k j)
      = X (ix2 k (mainCol j)) := by
  pointwise
  split <;> rename_i hj
  · refine congrArg X (funext fun a => Fin.ext ?_)
    match a with
    | ⟨0, _⟩ => exact Nat.zero_add _
    | ⟨1, _⟩ => exact (Nat.zero_add _).trans (if_pos hj).symm
  · refine congrArg X (funext fun a => Fin.ext ?_)
    match a with
    | ⟨0, _⟩ => exact Nat.zero_add _
    | ⟨1, _⟩ => exact (show 1544 + (j.val - 1536) = j.val + 8 by omega).trans (if_neg hj).symm

/-- The column a repeated column repeats. -/
def gateCol (j : Fin 48) : Fin 3848 := ⟨1536 + j.val % 24 / 3, by omega⟩

/-- Eight columns, each three times. -/
theorem repeat_at {A : Nat} {α : Type} (X : (⟨3, ![A, 8, 3]⟩ : Shape).Idx → α) (h : (⟨3, ![A, 8, 3]⟩ : Shape).ShapeCasts ⟨2, ![A, 24]⟩) (k : Fin A) (j : Fin 24) :
    shapeCast ⟨2, ![A, 24]⟩ X h (ix2 k j) = X (ix3 k ⟨j.val / 3, by omega⟩ ⟨j.val % 3, by omega⟩) := by
  refine shapeCast_apply X h _ _ ?_
  rw [Shape.rowMajor_val_three, Shape.rowMajor_val_two]
  show (k.val * 8 + j.val / 3) * 3 + j.val % 3 = k.val * 24 + j.val
  omega

/-- Twice the same 24 columns, then 80 others. -/
theorem twice_hit {A : Nat} {α : Type} (X : (⟨2, ![A, 24]⟩ : Shape).Idx → α) (Z : (⟨2, ![A, 80]⟩ : Shape).Idx → α)
    (h : Shape.Concatenates [⟨2, ![A, 24]⟩, ⟨2, ![A, 24]⟩, ⟨2, ![A, 80]⟩] ⟨2, ![A, 128]⟩ 1) (k : Fin A) (j : Fin 128) (hj : j.val < 48) :
    concatenate ⟨2, ![A, 128]⟩ 1 [⟨⟨2, ![A, 24]⟩, X⟩, ⟨⟨2, ![A, 24]⟩, X⟩, ⟨⟨2, ![A, 80]⟩, Z⟩] h (ix2 k j) = X (ix2 k ⟨j.val % 24, by omega⟩) := by
  pointwise
  split <;> rename_i h1
  · refine congrArg X (funext fun a => Fin.ext ?_)
    match a with
    | ⟨0, _⟩ => rfl
    | ⟨1, _⟩ => exact (Nat.mod_eq_of_lt h1).symm
  · split <;> rename_i h2
    · refine congrArg X (funext fun a => Fin.ext ?_)
      match a with
      | ⟨0, _⟩ => rfl
      | ⟨1, _⟩ => exact (show j.val - 24 = j.val % 24 by omega)
    · exact absurd hj (by omega)
theorem twice_miss {A : Nat} {α : Type} (X : (⟨2, ![A, 24]⟩ : Shape).Idx → α) (Z : (⟨2, ![A, 80]⟩ : Shape).Idx → α)
    (h : Shape.Concatenates [⟨2, ![A, 24]⟩, ⟨2, ![A, 24]⟩, ⟨2, ![A, 80]⟩] ⟨2, ![A, 128]⟩ 1) (k : Fin A) (j : Fin 128) (hj : ¬j.val < 48) :
    concatenate ⟨2, ![A, 128]⟩ 1 [⟨⟨2, ![A, 24]⟩, X⟩, ⟨⟨2, ![A, 24]⟩, X⟩, ⟨⟨2, ![A, 80]⟩, Z⟩] h (ix2 k j) = Z (ix2 k ⟨j.val - 48, by omega⟩) := by
  pointwise
  split <;> rename_i h1
  · exact absurd h1 (by omega)
  · split <;> rename_i h2
    · exact absurd h2 (by omega)
    · refine congrArg Z (funext fun a => Fin.ext ?_)
      match a with
      | ⟨0, _⟩ => rfl
      | ⟨1, _⟩ => exact (show j.val - 24 - 24 = j.val - 48 by omega)

/-- A run of columns. -/
theorem sliced_at {A M n : Nat} (o : Nat) {α : Type} (X : (⟨2, ![A, M]⟩ : Shape).Idx → α) (h : (⟨2, ![A, M]⟩ : Shape).Slices ![0, o] ⟨2, ![A, n]⟩) (k : Fin A) (i : Fin n) (j : Fin M)
    (hj : o + i.val = j.val) : extractStridedSlice ⟨2, ![A, n]⟩ ![0, o] X h (ix2 k i) = X (ix2 k j) := by
  refine congrArg X (funext fun a => Fin.ext ?_)
  match a with
  | ⟨0, _⟩ => exact Nat.zero_add _
  | ⟨1, _⟩ => exact hj

/-- How the auxiliary columns lie. -/
def auxVal (f : Fin 1864 → EReal) (j : Fin 1024) : EReal :=
  if 512 ≤ j.val then f ⟨1280 + (j.val - 512), by omega⟩
  else if 448 ≤ j.val then f ⟨1792 + (j.val - 448) % 64, by omega⟩
  else if 384 ≤ j.val then f ⟨1792 + (j.val - 384) % 64, by omega⟩
  else if 264 ≤ j.val then 0
  else if 256 ≤ j.val then f ⟨1856 + (j.val - 256) % 8, by omega⟩
  else f ⟨1024 + j.val % 256, by omega⟩

/-- Rows by auxiliary columns are auxiliary columns of the product. -/
theorem aux_product {K : Nat} (v : Fin K → EReal) (w : Fin K → Fin 1864 → EReal) (j : Fin 1024) :
    ∑ k : Fin K, v k * auxVal (w k) j = auxVal (fun d => ∑ k : Fin K, v k * w k d) j := by
  unfold auxVal
  split_ifs
  · rfl
  · rfl
  · rfl
  · exact Finset.sum_eq_zero fun k _ => mul_zero (M₀ := EReal) _
  · rfl
  · rfl

/-- Six parts side by side as the auxiliary columns lie. -/
theorem aux_columns {A : Nat} (X : (⟨2, ![A, 1864]⟩ : Shape).Idx → EReal) (Z : (⟨2, ![A, 120]⟩ : Shape).Idx → EReal) (hZ : ∀ y, Z y = 0)
    (h1 : (⟨2, ![A, 1864]⟩ : Shape).Slices ![0, 1024] ⟨2, ![A, 256]⟩) (h2 : (⟨2, ![A, 1864]⟩ : Shape).Slices ![0, 1856] ⟨2, ![A, 8]⟩)
    (h3 : (⟨2, ![A, 1864]⟩ : Shape).Slices ![0, 1792] ⟨2, ![A, 64]⟩) (h4 : (⟨2, ![A, 1864]⟩ : Shape).Slices ![0, 1280] ⟨2, ![A, 512]⟩)
    (h : Shape.Concatenates [⟨2, ![A, 256]⟩, ⟨2, ![A, 8]⟩, ⟨2, ![A, 120]⟩, ⟨2, ![A, 64]⟩, ⟨2, ![A, 64]⟩, ⟨2, ![A, 512]⟩] ⟨2, ![A, 1024]⟩ 1) (k : Fin A) (j : Fin 1024) :
    concatenate ⟨2, ![A, 1024]⟩ 1 [⟨⟨2, ![A, 256]⟩, extractStridedSlice ⟨2, ![A, 256]⟩ ![0, 1024] X h1⟩, ⟨⟨2, ![A, 8]⟩, extractStridedSlice ⟨2, ![A, 8]⟩ ![0, 1856] X h2⟩, ⟨⟨2, ![A, 120]⟩, Z⟩,
      ⟨⟨2, ![A, 64]⟩, extractStridedSlice ⟨2, ![A, 64]⟩ ![0, 1792] X h3⟩, ⟨⟨2, ![A, 64]⟩, extractStridedSlice ⟨2, ![A, 64]⟩ ![0, 1792] X h3⟩, ⟨⟨2, ![A, 512]⟩, extractStridedSlice ⟨2, ![A, 512]⟩ ![0, 1280] X h4⟩] h (ix2 k j)
      = auxVal (fun d => X (ix2 k d)) j := by
  pointwise
  unfold auxVal
  split_ifs
  all_goals try (exfalso; omega)
  · refine congrArg X (funext fun a => Fin.ext ?_)
    match a with
    | ⟨0, _⟩ => exact Nat.zero_add _
    | ⟨1, _⟩ => exact (show 1024 + j.val = 1024 + j.val % 256 by omega)
  · refine congrArg X (funext fun a => Fin.ext ?_)
    match a with
    | ⟨0, _⟩ => exact Nat.zero_add _
    | ⟨1, _⟩ => exact (show 1856 + (j.val - 256) = 1856 + (j.val - 256) % 8 by omega)
  · exact hZ _
  · refine congrArg X (funext fun a => Fin.ext ?_)
    match a with
    | ⟨0, _⟩ => exact Nat.zero_add _
    | ⟨1, _⟩ => exact (show 1792 + (j.val - 256 - 8 - 120) = 1792 + (j.val - 384) % 64 by omega)
  · refine congrArg X (funext fun a => Fin.ext ?_)
    match a with
    | ⟨0, _⟩ => exact Nat.zero_add _
    | ⟨1, _⟩ => exact (show 1792 + (j.val - 256 - 8 - 120 - 64) = 1792 + (j.val - 448) % 64 by omega)
  · refine congrArg X (funext fun a => Fin.ext ?_)
    match a with
    | ⟨0, _⟩ => exact Nat.zero_add _
    | ⟨1, _⟩ => exact (show 1280 + (j.val - 256 - 8 - 120 - 64 - 64) = 1280 + (j.val - 512) by omega)

end Cert.Token

end
-- ==== Proof.EvenIn.lean ====
module

public import proofs.«01_k».proof.Defs
public import proofs.«01_k».proof.Proof.Token
public import proofs.«01_k».proof.Proof.Gen.EvenInIdeal.Value

@[expose] public section

set_option maxRecDepth 16384

noncomputable section

namespace Cert.EvenInIdeal.Whole

open Idealize.ShloMosaic Idealize.ShloMosaic.TcCoe Idealize.ShloMosaic.Tactic Idealize.SL.Sem
open Idealize.ShloMosaic.Pipeline (Dat Window)
open Cert.EvenInIdeal Cert.EvenInIdeal.Gen Cert.Token

/-! ## The body -/

section
variable (x : Vec Ideal S512x1024 .f32) (g : Vec Ideal S1x1024 .f32) (s h : Vec Ideal S1x1x1024 .f32) (W : Vec Ideal S1024x3840 .bf16) (A : Vec Ideal S1024x128 .f32)

/-- The normed rows the products take, in the wide format. -/
theorem wide_at (r : Fin 512) (k : Fin 1024) :
    (k0_pay5 x g s h (ix2 r k) : EReal) = normed 1149239296#32 (fun k => x (ix2 r k)) (fun k => g (ix2 0 k)) (fun k => s (ix3 0 0 k)) (fun k => h (ix3 0 0 k)) k := by
  pointwise [k0_pay5, normed]

theorem loads : k0_pay5 (View.ld x r0_0) (View.ld g r0_1) (View.ld s r0_2) (View.ld h r0_2) = k0_pay5 x g s h := by
  have h0 : ((![0, 0] : Fin 2 → Nat)) = fun _ => 0 := by funext a; fin_cases a <;> rfl
  have h1 : ((![0, 0, 0] : Fin 3 → Nat)) = fun _ => 0 := by funext a; fin_cases a <;> rfl
  rw [View.ld_unit_zero h0, View.ld_unit_zero h0, View.ld_unit_zero h1, View.ld_unit_zero h1]

/-- The product of rows with 256 columns. -/
def tile (v : FVec Ideal S512x1024 .f32) (w : Vec Ideal S1024x256 .bf16) : FVec Ideal S512x256 .bf16 := k0_pay2 (truncf .bf16 v bitsLt_bf16_f32) w
theorem tile_at (v : FVec Ideal S512x1024 .f32) (w : Vec Ideal S1024x256 .bf16) (r : Fin 512) (d : Fin 256) :
    (tile v w (ix2 r d) : EReal) = ∑ k : Fin 1024, v (ix2 r k) * w (ix2 k d) := by
  pointwise [tile, k0_pay2]

theorem main_eq : (out0_6 x g s h W A : S512x3840.Idx → EReal) = product (k0_pay5 x g s h) W := by
  funext y
  unfold out0_6
  refine View.canon_apply_of_pieces (Val := Elt Ideal) (e := .bf16) (product (k0_pay5 x g s h) W) _ ?_ y (cover0_6 _ _ _ _ _ _ _ _ _ _ _ _ _ _ _ y)
  have fits : ∀ (n o : Nat), o + 256 ≤ 3840 → ∀ a, (![0, o] : Fin 2 → Nat) a + (![n, 256] : Fin 2 → Nat) a ≤ (![n, 3840] : Fin 2 → Nat) a := fun n o ho a =>
    match a with
    | ⟨0, _⟩ => (Nat.zero_add n).le
    | ⟨1, _⟩ => ho
  have piece : ∀ (o : Nat) (ho : o + 256 ≤ 3840) (x' : S512x256.Idx),
      (tile (k0_pay5 (View.ld x r0_0) (View.ld g r0_1) (View.ld s r0_2) (View.ld h r0_2)) (View.ld W (Rect.unit (s := S1024x3840) ![0, o] S1024x256.size (fits 1024 o ho))) x' : EReal)
        = product (k0_pay5 x g s h) W ((Rect.unit (s := S512x3840) ![0, o] S512x256.size (fits 512 o ho)).emb x') := fun o ho x' => by
    rw [loads]
    exact product_columns o (k0_pay5 x g s h) W _ (fits 1024 o ho) (fits 512 o ho) (fun r d => tile_at _ _ r d) x'
  repeat' first
    | exact List.forall_mem_nil _
    | refine List.forall_mem_cons.2 ⟨piece _ (by decide), ?_⟩

theorem gates_at (r : Fin 512) (d : Fin 128) : (out0_7 x g s h W A (ix2 r d) : EReal) = ∑ k : Fin 1024, k0_pay5 x g s h (ix2 r k) * A (ix2 k d) := by
  have h0 : ((![0, 0] : Fin 2 → Nat)) = fun _ => 0 := by funext a; fin_cases a <;> rfl
  unfold out0_7
  rw [View.canon_unit_zero h0, View.ld_unit_zero (off := ![0, 0]) h0 _ A, loads]
  generalize k0_pay5 x g s h = v
  pointwise [k0_pay4]

end

/-! ## What the call finds -/

variable (m : (ℓ : Loc nD τ sig) → Buf (Elt Ideal) ℓ)

theorem stream_at (c : Dev nD) (b : Fin 4) (s : Fin 8192) (k : Fin 1024) : (V m c main_v0 (ix2 (token b s) k) : EReal) = m ((c : Thread nD τ).loc main_arg0) (ix3 b s k) := by
  have e : V m c main_v0 = shapeCast S32768x1024 (m ((c : Thread nD τ).loc main_arg0)) shapeCasts_S4x8192x1024_S32768x1024 := by
    after_reads_simp; rfl
  exact (congrFun e _).trans (list_at _ _ b s k)
theorem weight_at (c : Dev nD) (k : Fin 1024) (d : Fin 3840) : (V m c main_v4 (ix2 k d) : EReal) = m ((c : Thread nD τ).loc main_arg4) (ix2 k (mainCol d)) := by
  have e : V m c main_v4 = truncf (F := Ideal) .bf16 (concatenate S1024x3840 1 [⟨S1024x1536, extractStridedSlice S1024x1536 ![0, 0] (m ((c : Thread nD τ).loc main_arg4)) slices_S1024x3848_S1024x1536_0_0⟩,
      ⟨S1024x2304, extractStridedSlice S1024x2304 ![0, 1544] (m ((c : Thread nD τ).loc main_arg4)) slices_S1024x3848_S1024x2304_0_1544⟩] concatenates_S1024x1536_S1024x2304_S1024x3840_d1) bitsLt_bf16_f32 := by
    after_reads_simp; rfl
  exact (congrFun e _).trans (main_columns _ _ _ concatenates_S1024x1536_S1024x2304_S1024x3840_d1 k d)
theorem gain_at (c : Dev nD) (k : Fin 1024) : (V m c main_v13 (ix2 0 k) : EReal) = m ((c : Thread nD τ).loc main_arg1) (ix1 k) := by
  have e : V m c main_v13 = shapeCast S1x1024 (m ((c : Thread nD τ).loc main_arg1)) shapeCasts_S1024_S1x1024 := by
    after_reads_simp; rfl
  refine (congrFun e _).trans ?_
  generalize m ((c : Thread nD τ).loc main_arg1) = x
  pointwise
theorem scale_at (c : Dev nD) (b : Fin 4) (k : Fin 1024) : (V m c main_v14 (ix3 b 0 k) : EReal) = m ((c : Thread nD τ).loc main_arg2) (ix2 b k) := by
  have e : V m c main_v14 = shapeCast S4x1x1024 (m ((c : Thread nD τ).loc main_arg2)) shapeCasts_S4x1024_S4x1x1024 := by
    after_reads_simp; rfl
  exact (congrFun e _).trans (unit_at _ _ b k)
theorem shift_at (c : Dev nD) (b : Fin 4) (k : Fin 1024) : (V m c main_v15 (ix3 b 0 k) : EReal) = m ((c : Thread nD τ).loc main_arg3) (ix2 b k) := by
  have e : V m c main_v15 = shapeCast S4x1x1024 (m ((c : Thread nD τ).loc main_arg3)) shapeCasts_S4x1024_S4x1x1024 := by
    after_reads_simp; rfl
  exact (congrFun e _).trans (unit_at _ _ b k)

/-- The words that name the gate columns. -/
def words : IVec S48x1 32 := broadcastInDim S48x1 ![0] bcast_S48_S48x1_0 (select (constantI S48 1 0#1)
  (addi (fun i => lit0 (S48.rowMajor i)) (broadcastInDim S48 ![] bcast_S_S48 (constantI S_ 32 3848#32))) (fun i => lit0 (S48.rowMajor i)))
theorem words_at : ∀ j : Fin 48, min (words (ix2 j 0)).toInt.toNat (3848 - 1) = (gateCol j).val := by
  have e : ∀ j : Fin 48, words (ix2 j 0) = lit0 j := fun j => by
    have e1 : S48.rowMajor (ix1 j) = j := Fin.ext (Shape.rowMajor_val_one _)
    unfold words
    generalize hL : (fun i => lit0 (S48.rowMajor i)) = L
    have e2 : L (ix1 j) = lit0 j := (congrFun hL (ix1 j)).symm.trans (congrArg lit0 e1)
    rw [← e2]
    pointwise
  intro j
  rw [e]
  exact (by decide +kernel : ∀ j : Fin 48, min (lit0 j).toInt.toNat (3848 - 1) = (gateCol j).val) j

theorem gate_weights (c : Dev nD) : (V m c main_v12 : S1024x128.Idx → EReal) = Host.scatter scatter_S1024x128_S1_S1024x48_01_n_1_0 (fun _ b => b)
    (broadcastInDim S1024x128 ![] bcast_S_S1024x128 (constant (F := Ideal) S_ .f32 0x00000000#32)) (broadcastInDim S1 ![] bcast_S_S1 (constantI S_ 32 0#32))
    (Host.gather gather_S1024x3848_S48x1_S1024x48_0_1_n_n_1_1_10241 (m ((c : Thread nD τ).loc main_arg4)) words) := by
  after_reads_simp; rfl
theorem gate_weight_hit (c : Dev nD) (k : Fin 1024) (d : Fin 128) (h : d.val < 48) : (V m c main_v12 (ix2 k d) : EReal) = m ((c : Thread nD τ).loc main_arg4) (ix2 k (gateCol ⟨d.val, h⟩)) := by
  refine (congrFun (gate_weights m c) _).trans ((set_hit _ _ 0 (by decide) _ _ k d ⟨d.val, h⟩ (Nat.zero_add _)).trans ?_)
  refine (gather_columns (by decide) _ _ _ k _).trans ?_
  exact congrArg (fun n => m ((c : Thread nD τ).loc main_arg4) (ix2 k n)) (Fin.ext (words_at _))
theorem gate_weight_miss (c : Dev nD) (k : Fin 1024) (d : Fin 128) (h : ¬d.val < 48) : (V m c main_v12 (ix2 k d) : EReal) = (0 : EReal) := by
  refine (congrFun (gate_weights m c) _).trans ((set_miss _ _ 0 (by decide) _ _ k d (Or.inr (by omega))).trans ?_)
  pointwise

end Cert.EvenInIdeal.Whole

end
-- ==== Proof.EvenInRows.lean ====
module

public import proofs.«01_k».proof.Defs
public import proofs.«01_k».proof.Proof.Token
public import proofs.«01_k».proof.Proof.Gen.EvenInIdeal.Value
public import proofs.«01_k».proof.Proof.EvenIn

@[expose] public section

set_option maxRecDepth 16384

noncomputable section

namespace Cert.EvenInIdeal.Whole

open Idealize.ShloMosaic Idealize.ShloMosaic.TcCoe Idealize.ShloMosaic.Tactic Idealize.SL.Sem
open Idealize.ShloMosaic.Pipeline (Dat Window)
open Cert.EvenInIdeal Cert.EvenInIdeal.Gen Cert.Token

variable (m : (ℓ : Loc nD τ sig) → Buf (Elt Ideal) ℓ)

/-! ## Blocks -/

theorem idx_0 : ∀ t : Fin cfg0.N, (cfg0.win 0).index t = ![t.val, 0] := (by decide +kernel : ∀ t : Fin grid0.N, win0_0.index t = ![t.val, 0])
theorem idx_1 : ∀ t : Fin cfg0.N, (cfg0.win 1).index t = ![0, 0] := (by decide +kernel : ∀ t : Fin grid0.N, win0_1.index t = ![0, 0])
theorem idx_2 : ∀ t : Fin cfg0.N, (cfg0.win 2).index t = ![t.val / 16, 0, 0] := (by decide +kernel : ∀ t : Fin grid0.N, win0_2.index t = ![t.val / 16, 0, 0])
theorem idx_3 : ∀ t : Fin cfg0.N, (cfg0.win 3).index t = ![t.val / 16, 0, 0] := (by decide +kernel : ∀ t : Fin grid0.N, win0_3.index t = ![t.val / 16, 0, 0])
theorem idx_4 : ∀ t : Fin cfg0.N, (cfg0.win 4).index t = ![0, 0] := (by decide +kernel : ∀ t : Fin grid0.N, win0_4.index t = ![0, 0])
theorem idx_5 : ∀ t : Fin cfg0.N, (cfg0.win 5).index t = ![0, 0] := (by decide +kernel : ∀ t : Fin grid0.N, win0_5.index t = ![0, 0])
theorem idx_6 : ∀ t : Fin cfg0.N, (cfg0.win 6).index t = ![t.val, 0] := (by decide +kernel : ∀ t : Fin grid0.N, win0_6.index t = ![t.val, 0])
theorem idx_7 : ∀ t : Fin cfg0.N, (cfg0.win 7).index t = ![t.val, 0] := (by decide +kernel : ∀ t : Fin grid0.N, win0_7.index t = ![t.val, 0])

theorem emb_0 (t : Fin cfg0.N) (y : S512x1024.Idx) (G : Vec Ideal S32768x1024 .f32) : G (((cfg0.win 0).blk t).view.emb y) = G (ix2 (row t (y 0)) (y 1)) := by
  blk_ext [idx_0 t, row]
theorem emb_1 (t : Fin cfg0.N) (y : S1x1024.Idx) (G : Vec Ideal S1x1024 .f32) : G (((cfg0.win 1).blk t).view.emb y) = G (ix2 (y 0) (y 1)) := by
  blk_ext [idx_1 t]
theorem emb_2 (t : Fin cfg0.N) (k : Fin 1024) (G : Vec Ideal S4x1x1024 .f32) : G (((cfg0.win 2).blk t).view.emb (ix3 0 0 k : S1x1x1024.Idx)) = G (ix3 (batch t) 0 k) := by
  blk_ext [idx_2 t, batch]
theorem emb_3 (t : Fin cfg0.N) (k : Fin 1024) (G : Vec Ideal S4x1x1024 .f32) : G (((cfg0.win 3).blk t).view.emb (ix3 0 0 k : S1x1x1024.Idx)) = G (ix3 (batch t) 0 k) := by
  blk_ext [idx_3 t, batch]
theorem emb_4 (t : Fin cfg0.N) (y : S1024x3840.Idx) (G : Vec Ideal S1024x3840 .bf16) : G (((cfg0.win 4).blk t).view.emb y) = G (ix2 (y 0) (y 1)) := by
  blk_ext [idx_4 t]
theorem emb_5 (t : Fin cfg0.N) (y : S1024x128.Idx) (G : Vec Ideal S1024x128 .f32) : G (((cfg0.win 5).blk t).view.emb y) = G (ix2 (y 0) (y 1)) := by
  blk_ext [idx_5 t]

theorem blk_0 (c : Dev nD) (t : Fin cfg0.N) (r : Fin 512) (k : Fin 1024) : (iblk m c 0 t : Vec Ideal S512x1024 .f32) (ix2 r k) = V m c main_v0 (ix2 (row t r) k) :=
  emb_0 t (ix2 r k) (V m c main_v0)
theorem blk_1 (c : Dev nD) (t : Fin cfg0.N) (k : Fin 1024) : (iblk m c 1 t : Vec Ideal S1x1024 .f32) (ix2 0 k) = V m c main_v13 (ix2 0 k) :=
  emb_1 t (ix2 0 k) (V m c main_v13)
theorem blk_2 (c : Dev nD) (t : Fin cfg0.N) (k : Fin 1024) : (iblk m c 2 t : Vec Ideal S1x1x1024 .f32) (ix3 0 0 k) = V m c main_v14 (ix3 (batch t) 0 k) :=
  emb_2 t k (V m c main_v14)
theorem blk_3 (c : Dev nD) (t : Fin cfg0.N) (k : Fin 1024) : (iblk m c 3 t : Vec Ideal S1x1x1024 .f32) (ix3 0 0 k) = V m c main_v15 (ix3 (batch t) 0 k) :=
  emb_3 t k (V m c main_v15)
theorem blk_4 (c : Dev nD) (t : Fin cfg0.N) (k : Fin 1024) (d : Fin 3840) : (iblk m c 4 t : Vec Ideal S1024x3840 .bf16) (ix2 k d) = V m c main_v4 (ix2 k d) :=
  emb_4 t (ix2 k d) (V m c main_v4)
theorem blk_5 (c : Dev nD) (t : Fin cfg0.N) (k : Fin 1024) (d : Fin 128) : (iblk m c 5 t : Vec Ideal S1024x128 .f32) (ix2 k d) = V m c main_v12 (ix2 k d) :=
  emb_5 t (ix2 k d) (V m c main_v12)

theorem rows_at (c : Dev nD) (t : Fin cfg0.N) (r : Fin 512) (k : Fin 1024) :
    (k0_pay5 (iblk m c 0 t) (iblk m c 1 t) (iblk m c 2 t) (iblk m c 3 t) (ix2 r k) : EReal) =
      tokenRow (m ((c : Thread nD τ).loc main_arg0)) (m ((c : Thread nD τ).loc main_arg1)) (m ((c : Thread nD τ).loc main_arg2)) (m ((c : Thread nD τ).loc main_arg3)) (batch t) (place t r) k := by
  refine (wide_at _ _ _ _ r k).trans (normed_congr (fun k => ?_) (fun k => ?_) (fun k => ?_) (fun k => ?_) k)
  · exact (blk_0 m c t r k).trans ((congrArg (fun n => V m c main_v0 (ix2 n k)) (row_eq t r)).trans (stream_at m c _ _ k))
  · exact (blk_1 m c t k).trans (gain_at m c k)
  · exact (blk_2 m c t k).trans (scale_at m c _ k)
  · exact (blk_3 m c t k).trans (shift_at m c _ k)

/-- What the body leaves at a point, from the arguments. -/
theorem main_point (c : Dev nD) (t : Fin cfg0.N) (r : Fin 512) (d : Fin 3840) :
    (out0_6 (iblk m c 0 t) (iblk m c 1 t) (iblk m c 2 t) (iblk m c 3 t) (iblk m c 4 t) (iblk m c 5 t) (ix2 r d) : EReal) =
      ∑ k : Fin 1024, tokenRow (m ((c : Thread nD τ).loc main_arg0)) (m ((c : Thread nD τ).loc main_arg1)) (m ((c : Thread nD τ).loc main_arg2)) (m ((c : Thread nD τ).loc main_arg3)) (batch t) (place t r) k
        * m ((c : Thread nD τ).loc main_arg4) (ix2 k (mainCol d)) :=
  (congrFun (main_eq _ _ _ _ _ _) (ix2 r d)).trans (Finset.sum_congr rfl fun k _ =>
    congrArg₂ (fun a b : EReal => a * b) (rows_at m c t r k) ((blk_4 m c t k d).trans (weight_at m c k d)))
theorem gates_point_hit (c : Dev nD) (t : Fin cfg0.N) (r : Fin 512) (d : Fin 128) (h : d.val < 48) :
    (out0_7 (iblk m c 0 t) (iblk m c 1 t) (iblk m c 2 t) (iblk m c 3 t) (iblk m c 4 t) (iblk m c 5 t) (ix2 r d) : EReal) =
      ∑ k : Fin 1024, tokenRow (m ((c : Thread nD τ).loc main_arg0)) (m ((c : Thread nD τ).loc main_arg1)) (m ((c : Thread nD τ).loc main_arg2)) (m ((c : Thread nD τ).loc main_arg3)) (batch t) (place t r) k
        * m ((c : Thread nD τ).loc main_arg4) (ix2 k (gateCol ⟨d.val, h⟩)) :=
  (gates_at _ _ _ _ _ _ r d).trans (Finset.sum_congr rfl fun k _ =>
    congrArg₂ (fun a b : EReal => a * b) (rows_at m c t r k) ((blk_5 m c t k d).trans (gate_weight_hit m c k d h)))
theorem gates_point_miss (c : Dev nD) (t : Fin cfg0.N) (r : Fin 512) (d : Fin 128) (h : ¬d.val < 48) :
    (out0_7 (iblk m c 0 t) (iblk m c 1 t) (iblk m c 2 t) (iblk m c 3 t) (iblk m c 4 t) (iblk m c 5 t) (ix2 r d) : EReal) = (0 : EReal) :=
  (gates_at _ _ _ _ _ _ r d).trans (Finset.sum_eq_zero fun k _ =>
    (congrArg (fun b : EReal => k0_pay5 (iblk m c 0 t) (iblk m c 1 t) (iblk m c 2 t) (iblk m c 3 t) (ix2 r k) * b) ((blk_5 m c t k d).trans (gate_weight_miss m c k d h))).trans (mul_zero (M₀ := EReal) _))

/-! ## The arrays -/

theorem cover_6 : (cfg0.win 6).Covers :=
  (cfg0.win 6).covers_of_index_surj rfl (show ∀ a : Fin 2, 0 < S512x3840.size a by decide) fun β =>
    ⟨⟨(β (0 : Fin 2)).val, Nat.lt_of_lt_of_le (β (0 : Fin 2)).isLt (show (32768 + 512 - 1) / 512 ≤ 64 by decide)⟩, by
      rw [idx_6]
      have h1 : (β (1 : Fin 2)).val < 1 := Nat.lt_of_lt_of_le (β (1 : Fin 2)).isLt (show (3840 + 3840 - 1) / 3840 ≤ 1 by decide)
      exact Fin.forall_fin_two.mpr ⟨rfl, (Nat.lt_one_iff.mp h1).symm⟩⟩
theorem cover_7 : (cfg0.win 7).Covers :=
  (cfg0.win 7).covers_of_index_surj rfl (show ∀ a : Fin 2, 0 < S512x128.size a by decide) fun β =>
    ⟨⟨(β (0 : Fin 2)).val, Nat.lt_of_lt_of_le (β (0 : Fin 2)).isLt (show (32768 + 512 - 1) / 512 ≤ 64 by decide)⟩, by
      rw [idx_7]
      have h1 : (β (1 : Fin 2)).val < 1 := Nat.lt_of_lt_of_le (β (1 : Fin 2)).isLt (show (128 + 128 - 1) / 128 ≤ 1 by decide)
      exact Fin.forall_fin_two.mpr ⟨rfl, (Nat.lt_one_iff.mp h1).symm⟩⟩

theorem emb_6 (t : Fin cfg0.N) (y : S512x3840.Idx) (G : Vec Ideal S32768x3840 .bf16) : G (((cfg0.win 6).blk t).view.emb y) = G (ix2 (row t (y 0)) (y 1)) := by
  blk_ext [idx_6 t, row]
theorem emb_7 (t : Fin cfg0.N) (y : S512x128.Idx) (G : Vec Ideal S32768x128 .f32) : G (((cfg0.win 7).blk t).view.emb y) = G (ix2 (row t (y 0)) (y 1)) := by
  blk_ext [idx_7 t, row]

theorem point_6 (t : Fin cfg0.N) (y : ((cfg0.win 6).xblock (grid0.coords t)).Idx) (g : Vec Ideal S512x3840 .bf16) (G : Vec Ideal S32768x3840 .bf16)
    (h : ∀ (r : Fin 512) (d : Fin 3840), g (ix2 r d) = G (ix2 (row t r) d)) :
    _root_.cast (congrArg (Elt Ideal) ((cfg0.win 6).blk t).view.elt_eq.symm) (g ((cfg0.win 6).xinj (grid0.coords t) y)) = G (((cfg0.win 6).blk t).view.emb y) := by
  have key : ∀ y : S512x3840.Idx, g y = G (ix2 (row t (y 0)) (y 1)) := fun y => (congrArg g (eq_ix2 y)).trans (h (y 0) (y 1))
  have inj : ((cfg0.win 6).xinj (grid0.coords t) y : S512x3840.Idx) = y := by funext a; rfl
  exact (congrArg g inj).trans ((key y).trans (emb_6 t y G).symm)
theorem point_7 (t : Fin cfg0.N) (y : ((cfg0.win 7).xblock (grid0.coords t)).Idx) (g : Vec Ideal S512x128 .f32) (G : Vec Ideal S32768x128 .f32)
    (h : ∀ (r : Fin 512) (d : Fin 128), g (ix2 r d) = G (ix2 (row t r) d)) :
    _root_.cast (congrArg (Elt Ideal) ((cfg0.win 7).blk t).view.elt_eq.symm) (g ((cfg0.win 7).xinj (grid0.coords t) y)) = G (((cfg0.win 7).blk t).view.emb y) := by
  have key : ∀ y : S512x128.Idx, g y = G (ix2 (row t (y 0)) (y 1)) := fun y => (congrArg g (eq_ix2 y)).trans (h (y 0) (y 1))
  have inj : ((cfg0.win 7).xinj (grid0.coords t) y : S512x128.Idx) = y := by funext a; rfl
  exact (congrArg g inj).trans ((key y).trans (emb_7 t y G).symm)

/-- An array that at every row of every block is what the body leaves there is the array the call leaves. -/
theorem main_array (c : Dev nD) (G : Vec Ideal S32768x3840 .bf16)
    (h : ∀ (t : Fin cfg0.N) (r : Fin 512) (d : Fin 3840),
      out0_6 (iblk m c 0 t) (iblk m c 1 t) (iblk m c 2 t) (iblk m c 3 t) (iblk m c 4 t) (iblk m c 5 t) (ix2 r d) = G (ix2 (row t r) d)) :
    (dats m 0 c).arrAt 6 cfg0.N = G := by
  refine (dats m 0 c).arrAt_eq_of_covers 6 G cover_6 fun t hf y => ?_
  rw [after0_6]
  exact point_6 t y _ G (h t)
theorem gates_array (c : Dev nD) (G : Vec Ideal S32768x128 .f32)
    (h : ∀ (t : Fin cfg0.N) (r : Fin 512) (d : Fin 128),
      out0_7 (iblk m c 0 t) (iblk m c 1 t) (iblk m c 2 t) (iblk m c 3 t) (iblk m c 4 t) (iblk m c 5 t) (ix2 r d) = G (ix2 (row t r) d)) :
    (dats m 0 c).arrAt 7 cfg0.N = G := by
  refine (dats m 0 c).arrAt_eq_of_covers 7 G cover_7 fun t hf y => ?_
  rw [after0_7]
  exact point_7 t y _ G (h t)

end Cert.EvenInIdeal.Whole

end
-- ==== Proof.EvenInEqual.lean ====
module

public import proofs.«01_k».proof.Defs
public import proofs.«01_k».proof.Proof.Token
public import proofs.«01_k».proof.Proof.EvenInRows
public import proofs.«01_k».proof.Proof.Gen.EvenInRefIdeal.Run

@[expose] public section

set_option maxRecDepth 16384

noncomputable section

namespace Cert.EvenInRefIdeal.Whole

open Idealize.ShloMosaic Idealize.ShloMosaic.TcCoe Idealize.SL.Sem
open Cert.EvenInRefIdeal Cert.EvenInRefIdeal.Gen Cert.Token

variable (x : FVec Ideal S4x8192x1024 .f32) (g : FVec Ideal S1024 .f32) (s h : FVec Ideal S4x1024 .f32) (w : FVec Ideal S1024x3848 .f32)

/-- The reference's normed rows. -/
def rows : FVec Ideal S4x8192x1024 .f32 :=
  addf (mulf (mulf (mulf x (broadcastInDim S4x8192x1024 ![0, 1, 2] bcast_S4x8192x1_S4x8192x1024_0_1_2
    (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 s)))) (broadcastInDim S4x8192x1024 ![0, 1, 2] bcast_S4x1x1024_S4x8192x1024_0_1_2 (broadcastInDim S4x1x1024 ![0, 2] bcast_S4x1024_S4x1x1024_0_2 h))

theorem rows_at (b : Fin 4) (p : Fin 8192) (k : Fin 1024) : (rows x g s h (ix3 b p k) : EReal) = tokenRow x g s h b p k := by
  pointwise [rows, tokenRow, normed]

/-- The reference's product, as one list of tokens. -/
def columns : FVec Ideal S32768x3848 .f32 :=
  shapeCast _ (Host.dotGeneral dot_S4x8192x1024_S1024x3848_S4x8192x3848_2_0_01_1_n_n none (rows x g s h) w) shapeCasts_S4x8192x3848_S32768x3848

theorem columns_at (b : Fin 4) (p : Fin 8192) (d : Fin 3848) : (columns x g s h w (ix2 (token b p) d) : EReal) = ∑ k : Fin 1024, tokenRow x g s h b p k * w (ix2 k d) := by
  refine (list_at _ _ b p d).trans (Eq.trans ?_ (Finset.sum_congr rfl fun k _ => congrArg (fun a : EReal => a * w (ix2 k d)) (rows_at x g s h b p k)))
  pointwise

/-- The reference's two results. -/
def mains : FVec Ideal S32768x3840 .bf16 :=
  truncf .bf16 (concatenate S32768x3840 1 [⟨S32768x1536, (extractStridedSlice S32768x1536 ![0, 0] (columns x g s h w) slices_S32768x3848_S32768x1536_0_0)⟩, ⟨S32768x2304, (extractStridedSlice S32768x2304 ![0, 1544] (columns x g s h w) slices_S32768x3848_S32768x2304_0_1544)⟩] concatenates_S32768x1536_S32768x2304_S32768x3840_d1) bitsLt_bf16_f32
def repeated : FVec Ideal S32768x24 .f32 :=
  shapeCast _ (broadcastInDim S32768x8x3 ![0, 1] bcast_S32768x8_S32768x8x3_0_1 (extractStridedSlice S32768x8 ![0, 1536] (columns x g s h w) slices_S32768x3848_S32768x8_0_1536)) shapeCasts_S32768x8x3_S32768x24
def padding : FVec Ideal S32768x80 .f32 := broadcastInDim S32768x80 ![] bcast_S_S32768x80 (constant (F := Ideal) S_ .f32 0x00000000#32)
def gates : FVec Ideal S32768x128 .f32 :=
  concatenate S32768x128 1 [⟨S32768x24, repeated x g s h w⟩, ⟨S32768x24, repeated x g s h w⟩, ⟨S32768x80, padding⟩] concatenates_S32768x24_S32768x24_S32768x80_S32768x128_d1

theorem mains_at (b : Fin 4) (p : Fin 8192) (d : Fin 3840) : (mains x g s h w (ix2 (token b p) d) : EReal) = ∑ k : Fin 1024, tokenRow x g s h b p k * w (ix2 k (mainCol d)) :=
  (main_columns (α := EReal) (columns x g s h w) slices_S32768x3848_S32768x1536_0_0 slices_S32768x3848_S32768x2304_0_1544 concatenates_S32768x1536_S32768x2304_S32768x3840_d1 (token b p) d).trans (columns_at x g s h w b p (mainCol d))
theorem repeated_at (n : Fin 32768) (j : Fin 24) : (repeated x g s h w (ix2 n j) : EReal) = columns x g s h w (ix2 n ⟨1536 + j.val / 3, by omega⟩) := by
  refine (repeat_at _ _ n j).trans ?_
  generalize columns x g s h w = C
  pointwise
theorem gates_hit (b : Fin 4) (p : Fin 8192) (d : Fin 128) (hd : d.val < 48) : (gates x g s h w (ix2 (token b p) d) : EReal) = ∑ k : Fin 1024, tokenRow x g s h b p k * w (ix2 k (gateCol ⟨d.val, hd⟩)) :=
  (twice_hit (α := EReal) (repeated x g s h w) padding concatenates_S32768x24_S32768x24_S32768x80_S32768x128_d1 (token b p) d hd).trans
    ((repeated_at x g s h w _ _).trans (columns_at x g s h w b p (gateCol ⟨d.val, hd⟩)))
theorem gates_miss (n : Fin 32768) (d : Fin 128) (hd : ¬d.val < 48) : (gates x g s h w (ix2 n d) : EReal) = (0 : EReal) := by
  refine (twice_miss (α := EReal) (repeated x g s h w) padding concatenates_S32768x24_S32768x24_S32768x80_S32768x128_d1 n d hd).trans ?_
  pointwise [padding]

end Cert.EvenInRefIdeal.Whole

namespace Cert.Proof

open Idealize.ShloMosaic Idealize.ShloMosaic.TcCoe Idealize.SL.Sem
open Cert.Token

/-- Both programs leave the same two results. -/
theorem algebraic_even_in : Cert.algebraic_EvenInIdeal_EvenInRefIdeal := by
  intro m g m' g' _ hargs
  refine ⟨fun c => Cert.EvenInRefIdeal.Whole.mains (m' ((c.tc : Thread Cert.EvenInRefIdeal.nD Cert.EvenInRefIdeal.τ).loc Cert.EvenInRefIdeal.main_arg0)) (m' ((c.tc : Thread Cert.EvenInRefIdeal.nD Cert.EvenInRefIdeal.τ).loc Cert.EvenInRefIdeal.main_arg1)) (m' ((c.tc : Thread Cert.EvenInRefIdeal.nD Cert.EvenInRefIdeal.τ).loc Cert.EvenInRefIdeal.main_arg2)) (m' ((c.tc : Thread Cert.EvenInRefIdeal.nD Cert.EvenInRefIdeal.τ).loc Cert.EvenInRefIdeal.main_arg3)) (m' ((c.tc : Thread Cert.EvenInRefIdeal.nD Cert.EvenInRefIdeal.τ).loc Cert.EvenInRefIdeal.main_arg4)),
    fun c => Cert.EvenInRefIdeal.Whole.gates (m' ((c.tc : Thread Cert.EvenInRefIdeal.nD Cert.EvenInRefIdeal.τ).loc Cert.EvenInRefIdeal.main_arg0)) (m' ((c.tc : Thread Cert.EvenInRefIdeal.nD Cert.EvenInRefIdeal.τ).loc Cert.EvenInRefIdeal.main_arg1)) (m' ((c.tc : Thread Cert.EvenInRefIdeal.nD Cert.EvenInRefIdeal.τ).loc Cert.EvenInRefIdeal.main_arg2)) (m' ((c.tc : Thread Cert.EvenInRefIdeal.nD Cert.EvenInRefIdeal.τ).loc Cert.EvenInRefIdeal.main_arg3)) (m' ((c.tc : Thread Cert.EvenInRefIdeal.nD Cert.EvenInRefIdeal.τ).loc Cert.EvenInRefIdeal.main_arg4)),
    ?_, Cert.EvenInRefIdeal.Value.run (F := Ideal) m' g'⟩
  refine (θ_run Cert.EvenInIdeal.defs _ _).mono (fun _ r c => ⟨(r c).1.trans (Cert.EvenInIdeal.Whole.main_array m c _ fun t r d => ?_),
      (r c).2.1.trans (Cert.EvenInIdeal.Whole.gates_array m c _ fun t r d => ?_), (r c).2.2⟩)
    (Cert.EvenInIdeal.Value.run_blocks (F := Ideal) m g)
  · obtain ⟨h0, h1, h2, h3, h4⟩ := hargs c
    refine (Cert.EvenInIdeal.Whole.main_point m c t r d).trans (Eq.trans ?_ ((congrArg _ (congrArg (fun n => ix2 n d) (row_eq t r))).trans (Cert.EvenInRefIdeal.Whole.mains_at _ _ _ _ _ (batch t) (place t r) d)).symm)
    rw [h0, h1, h2, h3, h4]
  · obtain ⟨h0, h1, h2, h3, h4⟩ := hargs c
    by_cases hd : d.val < 48
    · refine (Cert.EvenInIdeal.Whole.gates_point_hit m c t r d hd).trans (Eq.trans ?_ ((congrArg _ (congrArg (fun n => ix2 n d) (row_eq t r))).trans (Cert.EvenInRefIdeal.Whole.gates_hit _ _ _ _ _ (batch t) (place t r) d hd)).symm)
      rw [h0, h1, h2, h3, h4]
    · exact (Cert.EvenInIdeal.Whole.gates_point_miss m c t r d hd).trans (Cert.EvenInRefIdeal.Whole.gates_miss _ _ _ _ _ _ d hd).symm

end Cert.Proof

end
-- ==== Proof.OddIn.lean ====
module

public import proofs.«01_k».proof.Defs
public import proofs.«01_k».proof.Proof.Token
public import proofs.«01_k».proof.Proof.Gen.OddInIdeal.Value

@[expose] public section

set_option maxRecDepth 16384

noncomputable section

namespace Cert.OddInIdeal.Whole

open Idealize.ShloMosaic Idealize.ShloMosaic.TcCoe Idealize.ShloMosaic.Tactic Idealize.SL.Sem
open Idealize.ShloMosaic.Pipeline (Dat Window)
open Cert.OddInIdeal Cert.OddInIdeal.Gen Cert.Token

/-! ## The body -/

section
variable (x : Vec Ideal S512x1024 .f32) (g : Vec Ideal S1x1024 .f32) (s h : Vec Ideal S1x1x1024 .f32) (W : Vec Ideal S1024x1024 .bf16) (A : Vec Ideal S1024x1024 .f32)

/-- The normed rows the products take, in the wide format. -/
theorem wide_at (r : Fin 512) (k : Fin 1024) :
    (k0_pay2 x g s h (ix2 r k) : EReal) = normed 1149239296#32 (fun k => x (ix2 r k)) (fun k => g (ix2 0 k)) (fun k => s (ix3 0 0 k)) (fun k => h (ix3 0 0 k)) k := by
  pointwise [k0_pay2, normed]

theorem loads : k0_pay2 (View.ld x r0_0) (View.ld g r0_1) (View.ld s r0_2) (View.ld h r0_2) = k0_pay2 x g s h := by
  have h0 : ((![0, 0] : Fin 2 → Nat)) = fun _ => 0 := by funext a; fin_cases a <;> rfl
  have h1 : ((![0, 0, 0] : Fin 3 → Nat)) = fun _ => 0 := by funext a; fin_cases a <;> rfl
  rw [View.ld_unit_zero h0, View.ld_unit_zero h0, View.ld_unit_zero h1, View.ld_unit_zero h1]

/-- The product of rows with 256 columns. -/
def tile (v : FVec Ideal S512x1024 .f32) (w : Vec Ideal S1024x256 .bf16) : FVec Ideal S512x256 .bf16 := k0_pay6 (truncf .bf16 v bitsLt_bf16_f32) w
theorem tile_at (v : FVec Ideal S512x1024 .f32) (w : Vec Ideal S1024x256 .bf16) (r : Fin 512) (d : Fin 256) :
    (tile v w (ix2 r d) : EReal) = ∑ k : Fin 1024, v (ix2 r k) * w (ix2 k d) := by
  pointwise [tile, k0_pay6]

theorem main_eq : (out0_6 x g s h W A : S512x1024.Idx → EReal) = product (k0_pay2 x g s h) W := by
  funext y
  unfold out0_6
  refine View.canon_apply_of_pieces (Val := Elt Ideal) (e := .bf16) (product (k0_pay2 x g s h) W) _ ?_ y (cover0_6 _ _ _ _ y)
  have fits : ∀ (n o : Nat), o + 256 ≤ 1024 → ∀ a, (![0, o] : Fin 2 → Nat) a + (![n, 256] : Fin 2 → Nat) a ≤ (![n, 1024] : Fin 2 → Nat) a := fun n o ho a =>
    match a with
    | ⟨0, _⟩ => (Nat.zero_add n).le
    | ⟨1, _⟩ => ho
  have piece : ∀ (o : Nat) (ho : o + 256 ≤ 1024) (x' : S512x256.Idx),
      (tile (k0_pay2 (View.ld x r0_0) (View.ld g r0_1) (View.ld s r0_2) (View.ld h r0_2)) (View.ld W (Rect.unit (s := S1024x1024) ![0, o] S1024x256.size (fits 1024 o ho))) x' : EReal)
        = product (k0_pay2 x g s h) W ((Rect.unit (s := S512x1024) ![0, o] S512x256.size (fits 512 o ho)).emb x') := fun o ho x' => by
    rw [loads]
    exact product_columns o (k0_pay2 x g s h) W _ (fits 1024 o ho) (fits 512 o ho) (fun r d => tile_at _ _ r d) x'
  repeat' first
    | exact List.forall_mem_nil _
    | refine List.forall_mem_cons.2 ⟨piece _ (by decide), ?_⟩

/-- The product of rows with 256 auxiliary columns. -/
def auxTile (v : FVec Ideal S512x1024 .f32) (w : Vec Ideal S1024x256 .f32) : FVec Ideal S512x256 .f32 := k0_pay8 v w
theorem auxTile_at (v : FVec Ideal S512x1024 .f32) (w : Vec Ideal S1024x256 .f32) (r : Fin 512) (d : Fin 256) :
    (auxTile v w (ix2 r d) : EReal) = ∑ k : Fin 1024, v (ix2 r k) * w (ix2 k d) := by
  pointwise [auxTile, k0_pay8]

theorem aux_eq : (out0_7 x g s h W A : S512x1024.Idx → EReal) = product (k0_pay2 x g s h) A := by
  funext y
  unfold out0_7
  refine View.canon_apply_of_pieces (Val := Elt Ideal) (e := .f32) (product (k0_pay2 x g s h) A) _ ?_ y (cover0_7 _ _ _ _ y)
  have fits : ∀ (n o : Nat), o + 256 ≤ 1024 → ∀ a, (![0, o] : Fin 2 → Nat) a + (![n, 256] : Fin 2 → Nat) a ≤ (![n, 1024] : Fin 2 → Nat) a := fun n o ho a =>
    match a with
    | ⟨0, _⟩ => (Nat.zero_add n).le
    | ⟨1, _⟩ => ho
  have piece : ∀ (o : Nat) (ho : o + 256 ≤ 1024) (x' : S512x256.Idx),
      (auxTile (k0_pay2 (View.ld x r0_0) (View.ld g r0_1) (View.ld s r0_2) (View.ld h r0_2)) (View.ld A (Rect.unit (s := S1024x1024) ![0, o] S1024x256.size (fits 1024 o ho))) x' : EReal)
        = product (k0_pay2 x g s h) A ((Rect.unit (s := S512x1024) ![0, o] S512x256.size (fits 512 o ho)).emb x') := fun o ho x' => by
    rw [loads]
    exact product_columns o (k0_pay2 x g s h) A _ (fits 1024 o ho) (fits 512 o ho) (fun r d => auxTile_at _ _ r d) x'
  repeat' first
    | exact List.forall_mem_nil _
    | refine List.forall_mem_cons.2 ⟨piece _ (by decide), ?_⟩

end

/-! ## What the call finds -/

variable (m : (ℓ : Loc nD τ sig) → Buf (Elt Ideal) ℓ)

theorem stream_at (c : Dev nD) (b : Fin 4) (s : Fin 8192) (k : Fin 1024) : (V m c main_v0 (ix2 (token b s) k) : EReal) = m ((c : Thread nD τ).loc main_arg0) (ix3 b s k) := by
  have e : V m c main_v0 = shapeCast S32768x1024 (m ((c : Thread nD τ).loc main_arg0)) shapeCasts_S4x8192x1024_S32768x1024 := by
    after_reads_simp; rfl
  exact (congrFun e _).trans (list_at _ _ b s k)
theorem weight_at (c : Dev nD) (k : Fin 1024) (d : Fin 1024) : (V m c main_v2 (ix2 k d) : EReal) = m ((c : Thread nD τ).loc main_arg4) (ix2 k ⟨d.val, by omega⟩) := by
  have e : V m c main_v2 = truncf (F := Ideal) .bf16 (extractStridedSlice S1024x1024 ![0, 0] (m ((c : Thread nD τ).loc main_arg4)) slices_S1024x1864_S1024x1024_0_0) bitsLt_bf16_f32 := by
    after_reads_simp
  exact (congrFun e _).trans (sliced_at 0 _ slices_S1024x1864_S1024x1024_0_0 k d _ (Nat.zero_add _))
theorem gain_at (c : Dev nD) (k : Fin 1024) : (V m c main_v19 (ix2 0 k) : EReal) = m ((c : Thread nD τ).loc main_arg1) (ix1 k) := by
  have e : V m c main_v19 = shapeCast S1x1024 (m ((c : Thread nD τ).loc main_arg1)) shapeCasts_S1024_S1x1024 := by
    after_reads_simp; rfl
  refine (congrFun e _).trans ?_
  generalize m ((c : Thread nD τ).loc main_arg1) = x
  pointwise
theorem scale_at (c : Dev nD) (b : Fin 4) (k : Fin 1024) : (V m c main_v20 (ix3 b 0 k) : EReal) = m ((c : Thread nD τ).loc main_arg2) (ix2 b k) := by
  have e : V m c main_v20 = shapeCast S4x1x1024 (m ((c : Thread nD τ).loc main_arg2)) shapeCasts_S4x1024_S4x1x1024 := by
    after_reads_simp; rfl
  exact (congrFun e _).trans (unit_at _ _ b k)
theorem shift_at (c : Dev nD) (b : Fin 4) (k : Fin 1024) : (V m c main_v21 (ix3 b 0 k) : EReal) = m ((c : Thread nD τ).loc main_arg3) (ix2 b k) := by
  have e : V m c main_v21 = shapeCast S4x1x1024 (m ((c : Thread nD τ).loc main_arg3)) shapeCasts_S4x1024_S4x1x1024 := by
    after_reads_simp; rfl
  exact (congrFun e _).trans (unit_at _ _ b k)

theorem aux_weights (c : Dev nD) : (V m c main_v18 : S1024x1024.Idx → EReal) =
    (Host.scatter scatter_S1024x1024_S1_S1024x512_01_n_1_0 (fun _ b => b) (Host.scatter scatter_S1024x1024_S1_S1024x64_01_n_1_0 (fun _ b => b) (Host.scatter scatter_S1024x1024_S1_S1024x64_01_n_1_0 (fun _ b => b) (Host.scatter scatter_S1024x1024_S1_S1024x8_01_n_1_0 (fun _ b => b) (Host.scatter scatter_S1024x1024_S1_S1024x256_01_n_1_0 (fun _ b => b) (broadcastInDim S1024x1024 ![] bcast_S_S1024x1024 (constant (F := Ideal) S_ .f32 0x00000000#32)) (broadcastInDim S1 ![] bcast_S_S1 (constantI S_ 32 0#32))
      (extractStridedSlice S1024x256 ![0, 1024] (m ((c : Thread nD τ).loc main_arg4)) slices_S1024x1864_S1024x256_0_1024)) (broadcastInDim S1 ![] bcast_S_S1 (constantI S_ 32 256#32))
      (extractStridedSlice S1024x8 ![0, 1856] (m ((c : Thread nD τ).loc main_arg4)) slices_S1024x1864_S1024x8_0_1856)) (broadcastInDim S1 ![] bcast_S_S1 (constantI S_ 32 384#32))
      (extractStridedSlice S1024x64 ![0, 1792] (m ((c : Thread nD τ).loc main_arg4)) slices_S1024x1864_S1024x64_0_1792)) (broadcastInDim S1 ![] bcast_S_S1 (constantI S_ 32 448#32))
      (extractStridedSlice S1024x64 ![0, 1792] (m ((c : Thread nD τ).loc main_arg4)) slices_S1024x1864_S1024x64_0_1792)) (broadcastInDim S1 ![] bcast_S_S1 (constantI S_ 32 512#32))
      (extractStridedSlice S1024x512 ![0, 1280] (m ((c : Thread nD τ).loc main_arg4)) slices_S1024x1864_S1024x512_0_1280)) := by
  after_reads_simp

/-- The auxiliary weights are columns of the weight, laid as the auxiliary columns. -/
theorem aux_weight_at (c : Dev nD) (k : Fin 1024) (j : Fin 1024) : (V m c main_v18 (ix2 k j) : EReal) = auxVal (fun d => m ((c : Thread nD τ).loc main_arg4) (ix2 k d)) j := by
  refine (congrFun (aux_weights m c) _).trans ?_
  generalize m ((c : Thread nD τ).loc main_arg4) = w
  unfold auxVal
  split
  · exact (set_hit _ _ 512 (by decide) _ _ k j ⟨j.val - 512, by omega⟩ (by show 512 + (j.val - 512) = j.val; omega)).trans (sliced_at 1280 _ _ k _ _ rfl)
  refine (set_miss _ _ 512 (by decide) _ _ k j (by omega)).trans ?_
  split
  · exact (set_hit _ _ 448 (by decide) _ _ k j ⟨(j.val - 448) % 64, by omega⟩ (by show 448 + (j.val - 448) % 64 = j.val; omega)).trans (sliced_at 1792 _ _ k _ _ rfl)
  refine (set_miss _ _ 448 (by decide) _ _ k j (by omega)).trans ?_
  split
  · exact (set_hit _ _ 384 (by decide) _ _ k j ⟨(j.val - 384) % 64, by omega⟩ (by show 384 + (j.val - 384) % 64 = j.val; omega)).trans (sliced_at 1792 _ _ k _ _ rfl)
  refine (set_miss _ _ 384 (by decide) _ _ k j (by omega)).trans ?_
  split
  · refine (set_miss _ _ 256 (by decide) _ _ k j (by omega)).trans ((set_miss _ _ 0 (by decide) _ _ k j (by omega)).trans ?_)
    pointwise
  split
  · exact (set_hit _ _ 256 (by decide) _ _ k j ⟨(j.val - 256) % 8, by omega⟩ (by show 256 + (j.val - 256) % 8 = j.val; omega)).trans (sliced_at 1856 _ _ k _ _ rfl)
  refine (set_miss _ _ 256 (by decide) _ _ k j (by omega)).trans ?_
  exact (set_hit _ _ 0 (by decide) _ _ k j ⟨j.val % 256, by omega⟩ (by show 0 + j.val % 256 = j.val; omega)).trans (sliced_at 1024 _ _ k _ _ rfl)

end Cert.OddInIdeal.Whole

end
-- ==== Proof.OddInRows.lean ====
module

public import proofs.«01_k».proof.Defs
public import proofs.«01_k».proof.Proof.Token
public import proofs.«01_k».proof.Proof.Gen.OddInIdeal.Value
public import proofs.«01_k».proof.Proof.OddIn

@[expose] public section

set_option maxRecDepth 16384

noncomputable section

namespace Cert.OddInIdeal.Whole

open Idealize.ShloMosaic Idealize.ShloMosaic.TcCoe Idealize.ShloMosaic.Tactic Idealize.SL.Sem
open Idealize.ShloMosaic.Pipeline (Dat Window)
open Cert.OddInIdeal Cert.OddInIdeal.Gen Cert.Token

variable (m : (ℓ : Loc nD τ sig) → Buf (Elt Ideal) ℓ)

/-! ## Blocks -/

theorem idx_0 : ∀ t : Fin cfg0.N, (cfg0.win 0).index t = ![t.val, 0] := (by decide +kernel : ∀ t : Fin grid0.N, win0_0.index t = ![t.val, 0])
theorem idx_1 : ∀ t : Fin cfg0.N, (cfg0.win 1).index t = ![0, 0] := (by decide +kernel : ∀ t : Fin grid0.N, win0_1.index t = ![0, 0])
theorem idx_2 : ∀ t : Fin cfg0.N, (cfg0.win 2).index t = ![t.val / 16, 0, 0] := (by decide +kernel : ∀ t : Fin grid0.N, win0_2.index t = ![t.val / 16, 0, 0])
theorem idx_3 : ∀ t : Fin cfg0.N, (cfg0.win 3).index t = ![t.val / 16, 0, 0] := (by decide +kernel : ∀ t : Fin grid0.N, win0_3.index t = ![t.val / 16, 0, 0])
theorem idx_4 : ∀ t : Fin cfg0.N, (cfg0.win 4).index t = ![0, 0] := (by decide +kernel : ∀ t : Fin grid0.N, win0_4.index t = ![0, 0])
theorem idx_5 : ∀ t : Fin cfg0.N, (cfg0.win 5).index t = ![0, 0] := (by decide +kernel : ∀ t : Fin grid0.N, win0_5.index t = ![0, 0])
theorem idx_6 : ∀ t : Fin cfg0.N, (cfg0.win 6).index t = ![t.val, 0] := (by decide +kernel : ∀ t : Fin grid0.N, win0_6.index t = ![t.val, 0])
theorem idx_7 : ∀ t : Fin cfg0.N, (cfg0.win 7).index t = ![t.val, 0] := (by decide +kernel : ∀ t : Fin grid0.N, win0_7.index t = ![t.val, 0])

theorem emb_0 (t : Fin cfg0.N) (y : S512x1024.Idx) (G : Vec Ideal S32768x1024 .f32) : G (((cfg0.win 0).blk t).view.emb y) = G (ix2 (row t (y 0)) (y 1)) := by
  blk_ext [idx_0 t, row]
theorem emb_1 (t : Fin cfg0.N) (y : S1x1024.Idx) (G : Vec Ideal S1x1024 .f32) : G (((cfg0.win 1).blk t).view.emb y) = G (ix2 (y 0) (y 1)) := by
  blk_ext [idx_1 t]
theorem emb_2 (t : Fin cfg0.N) (k : Fin 1024) (G : Vec Ideal S4x1x1024 .f32) : G (((cfg0.win 2).blk t).view.emb (ix3 0 0 k : S1x1x1024.Idx)) = G (ix3 (batch t) 0 k) := by
  blk_ext [idx_2 t, batch]
theorem emb_3 (t : Fin cfg0.N) (k : Fin 1024) (G : Vec Ideal S4x1x1024 .f32) : G (((cfg0.win 3).blk t).view.emb (ix3 0 0 k : S1x1x1024.Idx)) = G (ix3 (batch t) 0 k) := by
  blk_ext [idx_3 t, batch]
theorem emb_4 (t : Fin cfg0.N) (y : S1024x1024.Idx) (G : Vec Ideal S1024x1024 .bf16) : G (((cfg0.win 4).blk t).view.emb y) = G (ix2 (y 0) (y 1)) := by
  blk_ext [idx_4 t]
theorem emb_5 (t : Fin cfg0.N) (y : S1024x1024.Idx) (G : Vec Ideal S1024x1024 .f32) : G (((cfg0.win 5).blk t).view.emb y) = G (ix2 (y 0) (y 1)) := by
  blk_ext [idx_5 t]

theorem blk_0 (c : Dev nD) (t : Fin cfg0.N) (r : Fin 512) (k : Fin 1024) : (iblk m c 0 t : Vec Ideal S512x1024 .f32) (ix2 r k) = V m c main_v0 (ix2 (row t r) k) :=
  emb_0 t (ix2 r k) (V m c main_v0)
theorem blk_1 (c : Dev nD) (t : Fin cfg0.N) (k : Fin 1024) : (iblk m c 1 t : Vec Ideal S1x1024 .f32) (ix2 0 k) = V m c main_v19 (ix2 0 k) :=
  emb_1 t (ix2 0 k) (V m c main_v19)
theorem blk_2 (c : Dev nD) (t : Fin cfg0.N) (k : Fin 1024) : (iblk m c 2 t : Vec Ideal S1x1x1024 .f32) (ix3 0 0 k) = V m c main_v20 (ix3 (batch t) 0 k) :=
  emb_2 t k (V m c main_v20)
theorem blk_3 (c : Dev nD) (t : Fin cfg0.N) (k : Fin 1024) : (iblk m c 3 t : Vec Ideal S1x1x1024 .f32) (ix3 0 0 k) = V m c main_v21 (ix3 (batch t) 0 k) :=
  emb_3 t k (V m c main_v21)
theorem blk_4 (c : Dev nD) (t : Fin cfg0.N) (k : Fin 1024) (d : Fin 1024) : (iblk m c 4 t : Vec Ideal S1024x1024 .bf16) (ix2 k d) = V m c main_v2 (ix2 k d) :=
  emb_4 t (ix2 k d) (V m c main_v2)
theorem blk_5 (c : Dev nD) (t : Fin cfg0.N) (k : Fin 1024) (d : Fin 1024) : (iblk m c 5 t : Vec Ideal S1024x1024 .f32) (ix2 k d) = V m c main_v18 (ix2 k d) :=
  emb_5 t (ix2 k d) (V m c main_v18)

theorem rows_at (c : Dev nD) (t : Fin cfg0.N) (r : Fin 512) (k : Fin 1024) :
    (k0_pay2 (iblk m c 0 t) (iblk m c 1 t) (iblk m c 2 t) (iblk m c 3 t) (ix2 r k) : EReal) =
      tokenRow (m ((c : Thread nD τ).loc main_arg0)) (m ((c : Thread nD τ).loc main_arg1)) (m ((c : Thread nD τ).loc main_arg2)) (m ((c : Thread nD τ).loc main_arg3)) (batch t) (place t r) k := by
  refine (wide_at _ _ _ _ r k).trans (normed_congr (fun k => ?_) (fun k => ?_) (fun k => ?_) (fun k => ?_) k)
  · exact (blk_0 m c t r k).trans ((congrArg (fun n => V m c main_v0 (ix2 n k)) (row_eq t r)).trans (stream_at m c _ _ k))
  · exact (blk_1 m c t k).trans (gain_at m c k)
  · exact (blk_2 m c t k).trans (scale_at m c _ k)
  · exact (blk_3 m c t k).trans (shift_at m c _ k)

/-- What the body leaves at a point, from the arguments. -/
theorem main_point (c : Dev nD) (t : Fin cfg0.N) (r : Fin 512) (d : Fin 1024) :
    (out0_6 (iblk m c 0 t) (iblk m c 1 t) (iblk m c 2 t) (iblk m c 3 t) (iblk m c 4 t) (iblk m c 5 t) (ix2 r d) : EReal) =
      ∑ k : Fin 1024, tokenRow (m ((c : Thread nD τ).loc main_arg0)) (m ((c : Thread nD τ).loc main_arg1)) (m ((c : Thread nD τ).loc main_arg2)) (m ((c : Thread nD τ).loc main_arg3)) (batch t) (place t r) k
        * m ((c : Thread nD τ).loc main_arg4) (ix2 k ⟨d.val, by omega⟩) :=
  (congrFun (main_eq _ _ _ _ _ _) (ix2 r d)).trans (Finset.sum_congr rfl fun k _ =>
    congrArg₂ (fun a b : EReal => a * b) (rows_at m c t r k) ((blk_4 m c t k d).trans (weight_at m c k d)))
theorem aux_point (c : Dev nD) (t : Fin cfg0.N) (r : Fin 512) (d : Fin 1024) :
    (out0_7 (iblk m c 0 t) (iblk m c 1 t) (iblk m c 2 t) (iblk m c 3 t) (iblk m c 4 t) (iblk m c 5 t) (ix2 r d) : EReal) =
      auxVal (fun e => ∑ k : Fin 1024, tokenRow (m ((c : Thread nD τ).loc main_arg0)) (m ((c : Thread nD τ).loc main_arg1)) (m ((c : Thread nD τ).loc main_arg2)) (m ((c : Thread nD τ).loc main_arg3)) (batch t) (place t r) k
        * m ((c : Thread nD τ).loc main_arg4) (ix2 k e)) d :=
  ((congrFun (aux_eq _ _ _ _ _ _) (ix2 r d)).trans (Finset.sum_congr rfl fun k _ =>
    congrArg₂ (fun a b : EReal => a * b) (rows_at m c t r k) ((blk_5 m c t k d).trans (aux_weight_at m c k d)))).trans
    (aux_product _ (fun k e => m ((c : Thread nD τ).loc main_arg4) (ix2 k e)) d)

/-! ## The arrays -/

theorem cover_6 : (cfg0.win 6).Covers :=
  (cfg0.win 6).covers_of_index_surj rfl (show ∀ a : Fin 2, 0 < S512x1024.size a by decide) fun β =>
    ⟨⟨(β (0 : Fin 2)).val, Nat.lt_of_lt_of_le (β (0 : Fin 2)).isLt (show (32768 + 512 - 1) / 512 ≤ 64 by decide)⟩, by
      rw [idx_6]
      have h1 : (β (1 : Fin 2)).val < 1 := Nat.lt_of_lt_of_le (β (1 : Fin 2)).isLt (show (1024 + 1024 - 1) / 1024 ≤ 1 by decide)
      exact Fin.forall_fin_two.mpr ⟨rfl, (Nat.lt_one_iff.mp h1).symm⟩⟩
theorem cover_7 : (cfg0.win 7).Covers :=
  (cfg0.win 7).covers_of_index_surj rfl (show ∀ a : Fin 2, 0 < S512x1024.size a by decide) fun β =>
    ⟨⟨(β (0 : Fin 2)).val, Nat.lt_of_lt_of_le (β (0 : Fin 2)).isLt (show (32768 + 512 - 1) / 512 ≤ 64 by decide)⟩, by
      rw [idx_7]
      have h1 : (β (1 : Fin 2)).val < 1 := Nat.lt_of_lt_of_le (β (1 : Fin 2)).isLt (show (1024 + 1024 - 1) / 1024 ≤ 1 by decide)
      exact Fin.forall_fin_two.mpr ⟨rfl, (Nat.lt_one_iff.mp h1).symm⟩⟩

theorem emb_6 (t : Fin cfg0.N) (y : S512x1024.Idx) (G : Vec Ideal S32768x1024 .bf16) : G (((cfg0.win 6).blk t).view.emb y) = G (ix2 (row t (y 0)) (y 1)) := by
  blk_ext [idx_6 t, row]
theorem emb_7 (t : Fin cfg0.N) (y : S512x1024.Idx) (G : Vec Ideal S32768x1024 .f32) : G (((cfg0.win 7).blk t).view.emb y) = G (ix2 (row t (y 0)) (y 1)) := by
  blk_ext [idx_7 t, row]

theorem point_6 (t : Fin cfg0.N) (y : ((cfg0.win 6).xblock (grid0.coords t)).Idx) (g : Vec Ideal S512x1024 .bf16) (G : Vec Ideal S32768x1024 .bf16)
    (h : ∀ (r : Fin 512) (d : Fin 1024), g (ix2 r d) = G (ix2 (row t r) d)) :
    _root_.cast (congrArg (Elt Ideal) ((cfg0.win 6).blk t).view.elt_eq.symm) (g ((cfg0.win 6).xinj (grid0.coords t) y)) = G (((cfg0.win 6).blk t).view.emb y) := by
  have key : ∀ y : S512x1024.Idx, g y = G (ix2 (row t (y 0)) (y 1)) := fun y => (congrArg g (eq_ix2 y)).trans (h (y 0) (y 1))
  have inj : ((cfg0.win 6).xinj (grid0.coords t) y : S512x1024.Idx) = y := by funext a; rfl
  exact (congrArg g inj).trans ((key y).trans (emb_6 t y G).symm)
theorem point_7 (t : Fin cfg0.N) (y : ((cfg0.win 7).xblock (grid0.coords t)).Idx) (g : Vec Ideal S512x1024 .f32) (G : Vec Ideal S32768x1024 .f32)
    (h : ∀ (r : Fin 512) (d : Fin 1024), g (ix2 r d) = G (ix2 (row t r) d)) :
    _root_.cast (congrArg (Elt Ideal) ((cfg0.win 7).blk t).view.elt_eq.symm) (g ((cfg0.win 7).xinj (grid0.coords t) y)) = G (((cfg0.win 7).blk t).view.emb y) := by
  have key : ∀ y : S512x1024.Idx, g y = G (ix2 (row t (y 0)) (y 1)) := fun y => (congrArg g (eq_ix2 y)).trans (h (y 0) (y 1))
  have inj : ((cfg0.win 7).xinj (grid0.coords t) y : S512x1024.Idx) = y := by funext a; rfl
  exact (congrArg g inj).trans ((key y).trans (emb_7 t y G).symm)

/-- An array that at every row of every block is what the body leaves there is the array the call leaves. -/
theorem main_array (c : Dev nD) (G : Vec Ideal S32768x1024 .bf16)
    (h : ∀ (t : Fin cfg0.N) (r : Fin 512) (d : Fin 1024),
      out0_6 (iblk m c 0 t) (iblk m c 1 t) (iblk m c 2 t) (iblk m c 3 t) (iblk m c 4 t) (iblk m c 5 t) (ix2 r d) = G (ix2 (row t r) d)) :
    (dats m 0 c).arrAt 6 cfg0.N = G := by
  refine (dats m 0 c).arrAt_eq_of_covers 6 G cover_6 fun t hf y => ?_
  rw [after0_6]
  exact point_6 t y _ G (h t)
theorem aux_array (c : Dev nD) (G : Vec Ideal S32768x1024 .f32)
    (h : ∀ (t : Fin cfg0.N) (r : Fin 512) (d : Fin 1024),
      out0_7 (iblk m c 0 t) (iblk m c 1 t) (iblk m c 2 t) (iblk m c 3 t) (iblk m c 4 t) (iblk m c 5 t) (ix2 r d) = G (ix2 (row t r) d)) :
    (dats m 0 c).arrAt 7 cfg0.N = G := by
  refine (dats m 0 c).arrAt_eq_of_covers 7 G cover_7 fun t hf y => ?_
  rw [after0_7]
  exact point_7 t y _ G (h t)

end Cert.OddInIdeal.Whole

end
-- ==== Proof.OddInEqual.lean ====
module

public import proofs.«01_k».proof.Defs
public import proofs.«01_k».proof.Proof.Token
public import proofs.«01_k».proof.Proof.EvenInEqual
public import proofs.«01_k».proof.Proof.OddInRows
public import proofs.«01_k».proof.Proof.Gen.OddInRefIdeal.Run

@[expose] public section

set_option maxRecDepth 16384

noncomputable section

namespace Cert.OddInRefIdeal.Whole

open Idealize.ShloMosaic Idealize.ShloMosaic.TcCoe Idealize.SL.Sem
open Cert.OddInRefIdeal Cert.OddInRefIdeal.Gen Cert.Token

variable (x : FVec Ideal S4x8192x1024 .f32) (g : FVec Ideal S1024 .f32) (s h : FVec Ideal S4x1024 .f32) (w : FVec Ideal S1024x1864 .f32)

/-- The reference's product, as one list of tokens: the rows are the ones of the other input projection. -/
def columns : FVec Ideal S32768x1864 .f32 :=
  shapeCast _ (Host.dotGeneral dot_S4x8192x1024_S1024x1864_S4x8192x1864_2_0_01_1_n_n none (Cert.EvenInRefIdeal.Whole.rows x g s h) w) shapeCasts_S4x8192x1864_S32768x1864

theorem columns_at (b : Fin 4) (p : Fin 8192) (d : Fin 1864) : (columns x g s h w (ix2 (token b p) d) : EReal) = ∑ k : Fin 1024, tokenRow x g s h b p k * w (ix2 k d) := by
  refine (list_at _ _ b p d).trans (Eq.trans ?_ (Finset.sum_congr rfl fun k _ => congrArg (fun a : EReal => a * w (ix2 k d)) (Cert.EvenInRefIdeal.Whole.rows_at x g s h b p k)))
  generalize Cert.EvenInRefIdeal.Whole.rows x g s h = v
  pointwise

/-- The reference's two results. -/
def mains : FVec Ideal S32768x1024 .bf16 :=
  truncf .bf16 (extractStridedSlice S32768x1024 ![0, 0] (columns x g s h w) slices_S32768x1864_S32768x1024_0_0) bitsLt_bf16_f32
def padding : FVec Ideal S32768x120 .f32 := broadcastInDim S32768x120 ![] bcast_S_S32768x120 (constant (F := Ideal) S_ .f32 0x00000000#32)
def auxes : FVec Ideal S32768x1024 .f32 :=
  concatenate S32768x1024 1 [⟨S32768x256, extractStridedSlice S32768x256 ![0, 1024] (columns x g s h w) slices_S32768x1864_S32768x256_0_1024⟩, ⟨S32768x8, extractStridedSlice S32768x8 ![0, 1856] (columns x g s h w) slices_S32768x1864_S32768x8_0_1856⟩,
    ⟨S32768x120, padding⟩, ⟨S32768x64, extractStridedSlice S32768x64 ![0, 1792] (columns x g s h w) slices_S32768x1864_S32768x64_0_1792⟩, ⟨S32768x64, extractStridedSlice S32768x64 ![0, 1792] (columns x g s h w) slices_S32768x1864_S32768x64_0_1792⟩,
    ⟨S32768x512, extractStridedSlice S32768x512 ![0, 1280] (columns x g s h w) slices_S32768x1864_S32768x512_0_1280⟩] concatenates_S32768x256_S32768x8_S32768x120_S32768x64_S32768x64_S32768x512_S32768x1024_d1

theorem mains_at (b : Fin 4) (p : Fin 8192) (d : Fin 1024) : (mains x g s h w (ix2 (token b p) d) : EReal) = ∑ k : Fin 1024, tokenRow x g s h b p k * w (ix2 k ⟨d.val, by omega⟩) :=
  (sliced_at (α := EReal) 0 (columns x g s h w) slices_S32768x1864_S32768x1024_0_0 (token b p) d ⟨d.val, by omega⟩ (Nat.zero_add _)).trans (columns_at x g s h w b p _)
theorem padding_at (y : S32768x120.Idx) : (padding y : EReal) = (0 : EReal) := by
  rw [eq_ix2 y]
  pointwise [padding]
theorem auxes_at (b : Fin 4) (p : Fin 8192) (d : Fin 1024) : (auxes x g s h w (ix2 (token b p) d) : EReal) = auxVal (fun e => ∑ k : Fin 1024, tokenRow x g s h b p k * w (ix2 k e)) d :=
  (aux_columns (columns x g s h w) padding padding_at slices_S32768x1864_S32768x256_0_1024 slices_S32768x1864_S32768x8_0_1856 slices_S32768x1864_S32768x64_0_1792 slices_S32768x1864_S32768x512_0_1280
    concatenates_S32768x256_S32768x8_S32768x120_S32768x64_S32768x64_S32768x512_S32768x1024_d1 (token b p) d).trans (congrArg (fun f => auxVal f d) (funext fun e => columns_at x g s h w b p e))

end Cert.OddInRefIdeal.Whole

namespace Cert.Proof

open Idealize.ShloMosaic Idealize.ShloMosaic.TcCoe Idealize.SL.Sem
open Cert.Token

/-- Both programs leave the same two results. -/
theorem algebraic_odd_in : Cert.algebraic_OddInIdeal_OddInRefIdeal := by
  intro m g m' g' _ hargs
  refine ⟨fun c => Cert.OddInRefIdeal.Whole.mains (m' ((c.tc : Thread Cert.OddInRefIdeal.nD Cert.OddInRefIdeal.τ).loc Cert.OddInRefIdeal.main_arg0)) (m' ((c.tc : Thread Cert.OddInRefIdeal.nD Cert.OddInRefIdeal.τ).loc Cert.OddInRefIdeal.main_arg1)) (m' ((c.tc : Thread Cert.OddInRefIdeal.nD Cert.OddInRefIdeal.τ).loc Cert.OddInRefIdeal.main_arg2)) (m' ((c.tc : Thread Cert.OddInRefIdeal.nD Cert.OddInRefIdeal.τ).loc Cert.OddInRefIdeal.main_arg3)) (m' ((c.tc : Thread Cert.OddInRefIdeal.nD Cert.OddInRefIdeal.τ).loc Cert.OddInRefIdeal.main_arg4)),
    fun c => Cert.OddInRefIdeal.Whole.auxes (m' ((c.tc : Thread Cert.OddInRefIdeal.nD Cert.OddInRefIdeal.τ).loc Cert.OddInRefIdeal.main_arg0)) (m' ((c.tc : Thread Cert.OddInRefIdeal.nD Cert.OddInRefIdeal.τ).loc Cert.OddInRefIdeal.main_arg1)) (m' ((c.tc : Thread Cert.OddInRefIdeal.nD Cert.OddInRefIdeal.τ).loc Cert.OddInRefIdeal.main_arg2)) (m' ((c.tc : Thread Cert.OddInRefIdeal.nD Cert.OddInRefIdeal.τ).loc Cert.OddInRefIdeal.main_arg3)) (m' ((c.tc : Thread Cert.OddInRefIdeal.nD Cert.OddInRefIdeal.τ).loc Cert.OddInRefIdeal.main_arg4)),
    ?_, Cert.OddInRefIdeal.Value.run (F := Ideal) m' g'⟩
  refine (θ_run Cert.OddInIdeal.defs _ _).mono (fun _ r c => ⟨(r c).1.trans (Cert.OddInIdeal.Whole.main_array m c _ fun t r d => ?_),
      (r c).2.1.trans (Cert.OddInIdeal.Whole.aux_array m c _ fun t r d => ?_), (r c).2.2⟩)
    (Cert.OddInIdeal.Value.run_blocks (F := Ideal) m g)
  · obtain ⟨h0, h1, h2, h3, h4⟩ := hargs c
    refine (Cert.OddInIdeal.Whole.main_point m c t r d).trans (Eq.trans ?_ ((congrArg _ (congrArg (fun n => ix2 n d) (row_eq t r))).trans (Cert.OddInRefIdeal.Whole.mains_at _ _ _ _ _ (batch t) (place t r) d)).symm)
    rw [h0, h1, h2, h3, h4]
  · obtain ⟨h0, h1, h2, h3, h4⟩ := hargs c
    refine (Cert.OddInIdeal.Whole.aux_point m c t r d).trans (Eq.trans ?_ ((congrArg _ (congrArg (fun n => ix2 n d) (row_eq t r))).trans (Cert.OddInRefIdeal.Whole.auxes_at _ _ _ _ _ (batch t) (place t r) d)).symm)
    rw [h0, h1, h2, h3, h4]

end Cert.Proof

end
-- ==== Proof.KeyValue.lean ====
module

public import proofs.«01_k».proof.Defs
public import proofs.«01_k».proof.Proof.Token
public import proofs.«01_k».proof.Proof.Gen.KeyValueIdeal.Value
public import proofs.«01_k».proof.Proof.Gen.KeyValueRefIdeal.Run

@[expose] public section

set_option maxRecDepth 16384

noncomputable section

namespace Cert.KeyValueIdeal.Whole

open Idealize.ShloMosaic Idealize.ShloMosaic.TcCoe Idealize.ShloMosaic.Tactic Idealize.SL.Sem
open Idealize.ShloMosaic.Pipeline (Dat Window)
open Cert.KeyValueIdeal Cert.KeyValueIdeal.Gen Cert.Token

/-! ## The body -/

section
variable (x : Vec Ideal S512x256 .f32) (g : Vec Ideal S1x256 .f32) (s h : Vec Ideal S1x1x256 .f32) (W : Vec Ideal S256x2048 .bf16)

/-- The normed rows the products take. -/
theorem wide_at (r : Fin 512) (k : Fin 256) :
    (k0_pay2 x g s h (ix2 r k) : EReal) = normed 1132462080#32 (fun k => x (ix2 r k)) (fun k => g (ix2 0 k)) (fun k => s (ix3 0 0 k)) (fun k => h (ix3 0 0 k)) k := by
  pointwise [k0_pay2, normed]

theorem loads : k0_pay2 (View.ld x r0_0) (View.ld g r0_1) (View.ld s r0_2) (View.ld h r0_2) = k0_pay2 x g s h := by
  have h0 : ((![0, 0] : Fin 2 → Nat)) = fun _ => 0 := by funext a; fin_cases a <;> rfl
  have h1 : ((![0, 0, 0] : Fin 3 → Nat)) = fun _ => 0 := by funext a; fin_cases a <;> rfl
  rw [View.ld_unit_zero h0, View.ld_unit_zero h0, View.ld_unit_zero h1, View.ld_unit_zero h1]

/-- The product of rows with 256 columns. -/
def tile (v : FVec Ideal S512x256 .bf16) (w : Vec Ideal S256x256 .bf16) : FVec Ideal S512x256 .bf16 := k0_pay5 v w
theorem tile_at (v : FVec Ideal S512x256 .bf16) (w : Vec Ideal S256x256 .bf16) (r : Fin 512) (d : Fin 256) :
    (tile v w (ix2 r d) : EReal) = ∑ k : Fin 256, v (ix2 r k) * w (ix2 k d) := by
  pointwise [tile, k0_pay5]

theorem main_eq : (out0_5 x g s h W : S512x2048.Idx → EReal) = product (k0_pay2 x g s h) W := by
  funext y
  unfold out0_5
  refine View.canon_apply_of_pieces (Val := Elt Ideal) (e := .bf16) (product (k0_pay2 x g s h) W) _ ?_ y (cover0_5 _ _ _ _ _ _ _ _ y)
  have fits : ∀ (n o : Nat), o + 256 ≤ 2048 → ∀ a, (![0, o] : Fin 2 → Nat) a + (![n, 256] : Fin 2 → Nat) a ≤ (![n, 2048] : Fin 2 → Nat) a := fun n o ho a =>
    match a with
    | ⟨0, _⟩ => (Nat.zero_add n).le
    | ⟨1, _⟩ => ho
  have piece : ∀ (o : Nat) (ho : o + 256 ≤ 2048) (x' : S512x256.Idx),
      (tile (k0_pay2 (View.ld x r0_0) (View.ld g r0_1) (View.ld s r0_2) (View.ld h r0_2)) (View.ld W (Rect.unit (s := S256x2048) ![0, o] S256x256.size (fits 256 o ho))) x' : EReal)
        = product (k0_pay2 x g s h) W ((Rect.unit (s := S512x2048) ![0, o] S512x256.size (fits 512 o ho)).emb x') := fun o ho x' => by
    rw [loads]
    exact product_columns o (k0_pay2 x g s h) W _ (fits 256 o ho) (fits 512 o ho) (fun r d => tile_at _ _ r d) x'
  repeat' first
    | exact List.forall_mem_nil _
    | refine List.forall_mem_cons.2 ⟨piece _ (by decide), ?_⟩

end

/-! ## What the call finds -/

variable (m : (ℓ : Loc nD τ sig) → Buf (Elt Ideal) ℓ)

theorem stream_at (c : Dev nD) (n : Fin 32768) (k : Fin 256) : (V m c main_v1 (ix2 n k) : EReal) = m ((c : Thread nD τ).loc main_arg0) (ix2 n ⟨k.val, by omega⟩) := by
  have e : V m c main_v1 = extractStridedSlice S32768x256 ![0, 0] (m ((c : Thread nD τ).loc main_arg0)) slices_S32768x1024_S32768x256_0_0 := by
    after_reads_simp
  exact (congrFun e _).trans (sliced_at 0 _ slices_S32768x1024_S32768x256_0_0 n k _ (Nat.zero_add _))
theorem weight_at (c : Dev nD) (k : Fin 256) (d : Fin 2048) : (V m c main_v2 (ix2 k d) : EReal) = m ((c : Thread nD τ).loc main_arg2) (ix2 k d) := by
  have e : V m c main_v2 = truncf (F := Ideal) .bf16 (m ((c : Thread nD τ).loc main_arg2)) bitsLt_bf16_f32 := by
    after_reads_simp
  exact congrFun e _
theorem gain_at (c : Dev nD) (k : Fin 256) : (V m c main_v3 (ix2 0 k) : EReal) = m ((c : Thread nD τ).loc main_arg1) (ix1 k) := by
  have e : V m c main_v3 = shapeCast S1x256 (m ((c : Thread nD τ).loc main_arg1)) shapeCasts_S256_S1x256 := by
    after_reads_simp; rfl
  refine (congrFun e _).trans ?_
  generalize m ((c : Thread nD τ).loc main_arg1) = x
  pointwise
/-- The scale and the shift are zero. -/
theorem scale_at (c : Dev nD) (b : Fin 4) (k : Fin 256) : (V m c main_v4 (ix3 b 0 k) : EReal) = (0 : EReal) := by
  have e : V m c main_v4 = shapeCast S4x1x256 (broadcastInDim S4x256 ![] bcast_S_S4x256 (constant (F := Ideal) S_ .f32 0x00000000#32)) shapeCasts_S4x256_S4x1x256 := by
    after_reads_simp; rfl
  refine (congrFun e _).trans ((unit_at _ _ b k).trans ?_)
  pointwise
theorem shift_at (c : Dev nD) (b : Fin 4) (k : Fin 256) : (V m c main_v5 (ix3 b 0 k) : EReal) = (0 : EReal) := by
  have e : V m c main_v5 = shapeCast S4x1x256 (broadcastInDim S4x256 ![] bcast_S_S4x256 (constant (F := Ideal) S_ .f32 0x00000000#32)) shapeCasts_S4x256_S4x1x256 := by
    after_reads_simp; rfl
  refine (congrFun e _).trans ((unit_at _ _ b k).trans ?_)
  pointwise

/-! ## Blocks -/

theorem idx_0 : ∀ t : Fin cfg0.N, (cfg0.win 0).index t = ![t.val, 0] := (by decide +kernel : ∀ t : Fin grid0.N, win0_0.index t = ![t.val, 0])
theorem idx_1 : ∀ t : Fin cfg0.N, (cfg0.win 1).index t = ![0, 0] := (by decide +kernel : ∀ t : Fin grid0.N, win0_1.index t = ![0, 0])
theorem idx_2 : ∀ t : Fin cfg0.N, (cfg0.win 2).index t = ![t.val / 16, 0, 0] := (by decide +kernel : ∀ t : Fin grid0.N, win0_2.index t = ![t.val / 16, 0, 0])
theorem idx_3 : ∀ t : Fin cfg0.N, (cfg0.win 3).index t = ![t.val / 16, 0, 0] := (by decide +kernel : ∀ t : Fin grid0.N, win0_3.index t = ![t.val / 16, 0, 0])
theorem idx_4 : ∀ t : Fin cfg0.N, (cfg0.win 4).index t = ![0, 0] := (by decide +kernel : ∀ t : Fin grid0.N, win0_4.index t = ![0, 0])
theorem idx_5 : ∀ t : Fin cfg0.N, (cfg0.win 5).index t = ![t.val, 0] := (by decide +kernel : ∀ t : Fin grid0.N, win0_5.index t = ![t.val, 0])

theorem emb_0 (t : Fin cfg0.N) (y : S512x256.Idx) (G : Vec Ideal S32768x256 .f32) : G (((cfg0.win 0).blk t).view.emb y) = G (ix2 (row t (y 0)) (y 1)) := by
  blk_ext [idx_0 t, row]
theorem emb_1 (t : Fin cfg0.N) (y : S1x256.Idx) (G : Vec Ideal S1x256 .f32) : G (((cfg0.win 1).blk t).view.emb y) = G (ix2 (y 0) (y 1)) := by
  blk_ext [idx_1 t]
theorem emb_2 (t : Fin cfg0.N) (k : Fin 256) (G : Vec Ideal S4x1x256 .f32) : G (((cfg0.win 2).blk t).view.emb (ix3 0 0 k : S1x1x256.Idx)) = G (ix3 (batch t) 0 k) := by
  blk_ext [idx_2 t, batch]
theorem emb_3 (t : Fin cfg0.N) (k : Fin 256) (G : Vec Ideal S4x1x256 .f32) : G (((cfg0.win 3).blk t).view.emb (ix3 0 0 k : S1x1x256.Idx)) = G (ix3 (batch t) 0 k) := by
  blk_ext [idx_3 t, batch]
theorem emb_4 (t : Fin cfg0.N) (y : S256x2048.Idx) (G : Vec Ideal S256x2048 .bf16) : G (((cfg0.win 4).blk t).view.emb y) = G (ix2 (y 0) (y 1)) := by
  blk_ext [idx_4 t]

theorem blk_0 (c : Dev nD) (t : Fin cfg0.N) (r : Fin 512) (k : Fin 256) : (iblk m c 0 t : Vec Ideal S512x256 .f32) (ix2 r k) = V m c main_v1 (ix2 (row t r) k) :=
  emb_0 t (ix2 r k) (V m c main_v1)
theorem blk_1 (c : Dev nD) (t : Fin cfg0.N) (k : Fin 256) : (iblk m c 1 t : Vec Ideal S1x256 .f32) (ix2 0 k) = V m c main_v3 (ix2 0 k) :=
  emb_1 t (ix2 0 k) (V m c main_v3)
theorem blk_2 (c : Dev nD) (t : Fin cfg0.N) (k : Fin 256) : (iblk m c 2 t : Vec Ideal S1x1x256 .f32) (ix3 0 0 k) = V m c main_v4 (ix3 (batch t) 0 k) :=
  emb_2 t k (V m c main_v4)
theorem blk_3 (c : Dev nD) (t : Fin cfg0.N) (k : Fin 256) : (iblk m c 3 t : Vec Ideal S1x1x256 .f32) (ix3 0 0 k) = V m c main_v5 (ix3 (batch t) 0 k) :=
  emb_3 t k (V m c main_v5)
theorem blk_4 (c : Dev nD) (t : Fin cfg0.N) (k : Fin 256) (d : Fin 2048) : (iblk m c 4 t : Vec Ideal S256x2048 .bf16) (ix2 k d) = V m c main_v2 (ix2 k d) :=
  emb_4 t (ix2 k d) (V m c main_v2)

/-- The normed row of a token, from the arguments. -/
def keyRow (x : (⟨2, ![32768, 1024]⟩ : Shape).Idx → EReal) (g : (⟨1, ![256]⟩ : Shape).Idx → EReal) (n : Fin 32768) (k : Fin 256) : EReal :=
  normed 1132462080#32 (fun k : Fin 256 => x (ix2 n ⟨k.val, by omega⟩)) (fun k => g (ix1 k)) (fun _ => 0) (fun _ => 0) k

theorem rows_at (c : Dev nD) (t : Fin cfg0.N) (r : Fin 512) (k : Fin 256) :
    (k0_pay2 (iblk m c 0 t) (iblk m c 1 t) (iblk m c 2 t) (iblk m c 3 t) (ix2 r k) : EReal) =
      keyRow (m ((c : Thread nD τ).loc main_arg0)) (m ((c : Thread nD τ).loc main_arg1)) (row t r) k := by
  refine (wide_at _ _ _ _ r k).trans (normed_congr (fun k => ?_) (fun k => ?_) (fun k => ?_) (fun k => ?_) k)
  · exact (blk_0 m c t r k).trans (stream_at m c _ k)
  · exact (blk_1 m c t k).trans (gain_at m c k)
  · exact (blk_2 m c t k).trans (scale_at m c _ k)
  · exact (blk_3 m c t k).trans (shift_at m c _ k)

/-- What the body leaves at a point, from the arguments. -/
theorem point_at (c : Dev nD) (t : Fin cfg0.N) (r : Fin 512) (d : Fin 2048) :
    (out0_5 (iblk m c 0 t) (iblk m c 1 t) (iblk m c 2 t) (iblk m c 3 t) (iblk m c 4 t) (ix2 r d) : EReal) =
      ∑ k : Fin 256, keyRow (m ((c : Thread nD τ).loc main_arg0)) (m ((c : Thread nD τ).loc main_arg1)) (row t r) k * m ((c : Thread nD τ).loc main_arg2) (ix2 k d) :=
  (congrFun (main_eq _ _ _ _ _) (ix2 r d)).trans (Finset.sum_congr rfl fun k _ =>
    congrArg₂ (fun a b : EReal => a * b) (rows_at m c t r k) ((blk_4 m c t k d).trans (weight_at m c k d)))

/-! ## The arrays -/

theorem cover_5 : (cfg0.win 5).Covers :=
  (cfg0.win 5).covers_of_index_surj rfl (show ∀ a : Fin 2, 0 < S512x2048.size a by decide) fun β =>
    ⟨⟨(β (0 : Fin 2)).val, Nat.lt_of_lt_of_le (β (0 : Fin 2)).isLt (show (32768 + 512 - 1) / 512 ≤ 64 by decide)⟩, by
      rw [idx_5]
      have h1 : (β (1 : Fin 2)).val < 1 := Nat.lt_of_lt_of_le (β (1 : Fin 2)).isLt (show (2048 + 2048 - 1) / 2048 ≤ 1 by decide)
      exact Fin.forall_fin_two.mpr ⟨rfl, (Nat.lt_one_iff.mp h1).symm⟩⟩

theorem emb_5 (t : Fin cfg0.N) (y : S512x2048.Idx) (G : Vec Ideal S32768x2048 .bf16) : G (((cfg0.win 5).blk t).view.emb y) = G (ix2 (row t (y 0)) (y 1)) := by
  blk_ext [idx_5 t, row]

theorem point_5 (t : Fin cfg0.N) (y : ((cfg0.win 5).xblock (grid0.coords t)).Idx) (g : Vec Ideal S512x2048 .bf16) (G : Vec Ideal S32768x2048 .bf16)
    (h : ∀ (r : Fin 512) (d : Fin 2048), g (ix2 r d) = G (ix2 (row t r) d)) :
    _root_.cast (congrArg (Elt Ideal) ((cfg0.win 5).blk t).view.elt_eq.symm) (g ((cfg0.win 5).xinj (grid0.coords t) y)) = G (((cfg0.win 5).blk t).view.emb y) := by
  have key : ∀ y : S512x2048.Idx, g y = G (ix2 (row t (y 0)) (y 1)) := fun y => (congrArg g (eq_ix2 y)).trans (h (y 0) (y 1))
  have inj : ((cfg0.win 5).xinj (grid0.coords t) y : S512x2048.Idx) = y := by funext a; rfl
  exact (congrArg g inj).trans ((key y).trans (emb_5 t y G).symm)

/-- An array that at every row of every block is what the body leaves there is the array the call leaves. -/
theorem main_array (c : Dev nD) (G : Vec Ideal S32768x2048 .bf16)
    (h : ∀ (t : Fin cfg0.N) (r : Fin 512) (d : Fin 2048),
      out0_5 (iblk m c 0 t) (iblk m c 1 t) (iblk m c 2 t) (iblk m c 3 t) (iblk m c 4 t) (ix2 r d) = G (ix2 (row t r) d)) :
    (dats m 0 c).arrAt 5 cfg0.N = G := by
  refine (dats m 0 c).arrAt_eq_of_covers 5 G cover_5 fun t hf y => ?_
  rw [after0_5]
  exact point_5 t y _ G (h t)

end Cert.KeyValueIdeal.Whole

namespace Cert.KeyValueRefIdeal.Whole

open Idealize.ShloMosaic Idealize.ShloMosaic.TcCoe Idealize.SL.Sem
open Cert.KeyValueRefIdeal Cert.KeyValueRefIdeal.Gen Cert.Token
open Cert.KeyValueIdeal.Whole (keyRow)

variable (x : FVec Ideal S32768x1024 .f32) (g : FVec Ideal S256 .f32) (w : FVec Ideal S256x2048 .f32)

/-- The columns the reference norms. -/
def keys : FVec Ideal S32768x256 .f32 := extractStridedSlice S32768x256 ![0, 0] x slices_S32768x1024_S32768x256_0_0
theorem keys_at (n : Fin 32768) (k : Fin 256) : (keys x (ix2 n k) : EReal) = x (ix2 n ⟨k.val, by omega⟩) := sliced_at 0 x slices_S32768x1024_S32768x256_0_0 n k _ (Nat.zero_add _)

/-- The reference's normed rows. -/
def rows (z : FVec Ideal S32768x256 .f32) : FVec Ideal S32768x256 .f32 :=
  mulf (mulf z (broadcastInDim S32768x256 ![0, 1] bcast_S32768x1_S32768x256_0_1
    (Host.rsqrt (addf (Host.divf (broadcastInDim S32768x1 ![0] bcast_S32768_S32768x1_0 (Host.reduceAdd (mulf z z) (constant S_ .f32 0x00000000#32) reducesTo_S32768x256_S32768_d1 h_S_))
      (broadcastInDim S32768x1 ![] bcast_S_S32768x1 (constant S_ .f32 0x43800000#32))) (broadcastInDim S32768x1 ![] bcast_S_S32768x1 (constant S_ .f32 0x358637BD#32))))))
    (broadcastInDim S32768x256 ![0, 1] bcast_S1x256_S32768x256_0_1 (broadcastInDim S1x256 ![1] bcast_S256_S1x256_1 g))

theorem rows_at (z : FVec Ideal S32768x256 .f32) (n : Fin 32768) (k : Fin 256) :
    (rows g z (ix2 n k) : EReal) = normed 1132462080#32 (fun k : Fin 256 => z (ix2 n k)) (fun k => g (ix1 k)) (fun _ => 0) (fun _ => 0) k := by
  refine Eq.trans ?_ (normed_plain _ _ _ k).symm
  pointwise [rows]

/-- The reference's result. -/
def value : FVec Ideal S32768x2048 .bf16 :=
  truncf .bf16 (Host.dotGeneral dot_S32768x256_S256x2048_S32768x2048_1_0_0_1_n_n none (rows g (keys x)) w) bitsLt_bf16_f32

theorem value_at (n : Fin 32768) (d : Fin 2048) : (value x g w (ix2 n d) : EReal) = ∑ k : Fin 256, keyRow x g n k * w (ix2 k d) := by
  refine Eq.trans ?_ (Finset.sum_congr rfl fun k _ => congrArg (fun a : EReal => a * w (ix2 k d))
    ((rows_at g (keys x) n k).trans (normed_congr (fun k => keys_at x n k) (fun _ => rfl) (fun _ => rfl) (fun _ => rfl) k)))
  unfold value
  generalize rows g (keys x) = v
  pointwise

end Cert.KeyValueRefIdeal.Whole

namespace Cert.Proof

open Idealize.ShloMosaic Idealize.ShloMosaic.TcCoe Idealize.SL.Sem
open Cert.Token

/-- Both programs leave the same result. -/
theorem algebraic_key_value : Cert.algebraic_KeyValueIdeal_KeyValueRefIdeal := by
  intro m g m' g' _ hargs
  refine ⟨fun c => Cert.KeyValueRefIdeal.Whole.value (m' ((c.tc : Thread Cert.KeyValueRefIdeal.nD Cert.KeyValueRefIdeal.τ).loc Cert.KeyValueRefIdeal.main_arg0)) (m' ((c.tc : Thread Cert.KeyValueRefIdeal.nD Cert.KeyValueRefIdeal.τ).loc Cert.KeyValueRefIdeal.main_arg1)) (m' ((c.tc : Thread Cert.KeyValueRefIdeal.nD Cert.KeyValueRefIdeal.τ).loc Cert.KeyValueRefIdeal.main_arg2)), ?_, Cert.KeyValueRefIdeal.Value.run (F := Ideal) m' g'⟩
  refine (θ_run Cert.KeyValueIdeal.defs _ _).mono (fun _ r c => ⟨(r c).1.trans (Cert.KeyValueIdeal.Whole.main_array m c _ fun t r d => ?_), (r c).2⟩)
    (Cert.KeyValueIdeal.Value.run_blocks (F := Ideal) m g)
  obtain ⟨h0, h1, h2⟩ := hargs c
  refine (Cert.KeyValueIdeal.Whole.point_at m c t r d).trans (Eq.trans ?_ (Cert.KeyValueRefIdeal.Whole.value_at _ _ _ (row t r) d).symm)
  rw [h0, h1, h2]

end Cert.Proof

end
-- ==== Proof.OutOdd.lean ====
module

public import proofs.«01_k».proof.Defs
public import proofs.«01_k».proof.Proof.Gen.OutOddIdeal.Value
public import proofs.«01_k».proof.Proof.Gen.OutOddRefIdeal.Run
public import proofs.«01_k».proof.Proof.Token

@[expose] public section

set_option maxRecDepth 16384

noncomputable section

namespace Cert.OutOddIdeal.Whole

open Idealize.ShloMosaic Idealize.ShloMosaic.TcCoe Idealize.ShloMosaic.Tactic Idealize.SL.Sem
open Idealize.ShloMosaic.Pipeline (Dat Window)
open Cert.OutOddIdeal Cert.OutOddIdeal.Gen Cert.Token

/-- Entry `d` of a token's row after the projection: the stream plus the gate times the product. -/
def projected (x : EReal) (gate : EReal) (a : Fin 1024 → EReal) (W : Fin 1024 → EReal) : EReal :=
  x + gate * ∑ k : Fin 1024, a k * W k

theorem projected_congr {x x' g g' : EReal} {a a' W W' : Fin 1024 → EReal} (hx : x = x') (hg : g = g') (ha : ∀ k, a k = a' k) (hW : ∀ k, W k = W' k) :
    projected x g a W = projected x' g' a' W' := by
  rw [hx, hg, funext ha, funext hW]

/-! ## The body -/

theorem body_at (a : Vec Ideal S512x1024 .bf16) (W : Vec Ideal S1024x1024 .bf16) (x : Vec Ideal S512x1024 .f32) (g : Vec Ideal S1x1x1024 .f32)
    (r : Fin 512) (d : Fin 1024) :
    out0_4 a W x g (ix2 r d) = projected (x (ix2 r d)) (g (ix3 0 0 d)) (fun k => a (ix2 r k)) (fun k => W (ix2 k d)) := by
  have h0 : ((![0, 0] : Fin 2 → Nat)) = fun _ => 0 := by funext a; fin_cases a <;> rfl
  have h1 : ((![0, 0, 0] : Fin 3 → Nat)) = fun _ => 0 := by funext a; fin_cases a <;> rfl
  unfold out0_4
  rw [View.canon_unit_zero h0, View.ld_unit_zero h0, View.ld_unit_zero h1, View.ld_unit_zero h0, View.ld_unit_zero h0]
  pointwise [k0_pay1, projected]

/-! ## What the call finds -/

variable (m : (ℓ : Loc nD τ sig) → Buf (Elt Ideal) ℓ)

theorem att_at (c : Dev nD) (b : Fin 4) (s : Fin 8192) (k : Fin 1024) : (V m c main_v0 (ix2 (token b s) k) : EReal) = m ((c : Thread nD τ).loc main_arg0) (ix3 b s k) := by
  have e : V m c main_v0 = shapeCast S32768x1024 (m ((c : Thread nD τ).loc main_arg0)) shapeCasts_S4x8192x1024_S32768x1024 := by
    after_reads_simp; rfl
  exact (congrFun e _).trans (list_at _ _ b s k)
theorem weight_at (c : Dev nD) (k d : Fin 1024) : (V m c main_v1 (ix2 k d) : EReal) = m ((c : Thread nD τ).loc main_arg1) (ix2 k d) := by
  after_reads_simp; rfl
theorem stream_at (c : Dev nD) (b : Fin 4) (s : Fin 8192) (k : Fin 1024) : (V m c main_v2 (ix2 (token b s) k) : EReal) = m ((c : Thread nD τ).loc main_arg2) (ix3 b s k) := by
  have e : V m c main_v2 = shapeCast S32768x1024 (m ((c : Thread nD τ).loc main_arg2)) shapeCasts_S4x8192x1024_S32768x1024 := by
    after_reads_simp; rfl
  exact (congrFun e _).trans (list_at _ _ b s k)
theorem gate_at (c : Dev nD) (b : Fin 4) (d : Fin 1024) : (V m c main_v3 (ix3 b 0 d) : EReal) = m ((c : Thread nD τ).loc main_arg3) (ix2 b d) := by
  have e : V m c main_v3 = shapeCast S4x1x1024 (m ((c : Thread nD τ).loc main_arg3)) shapeCasts_S4x1024_S4x1x1024 := by
    after_reads_simp; rfl
  exact (congrFun e _).trans (unit_at _ _ b d)

/-! ## Blocks -/

theorem idx_0 : ∀ t : Fin cfg0.N, (cfg0.win 0).index t = ![t.val, 0] := (by decide +kernel : ∀ t : Fin grid0.N, win0_0.index t = ![t.val, 0])
theorem idx_1 : ∀ t : Fin cfg0.N, (cfg0.win 1).index t = ![0, 0] := (by decide +kernel : ∀ t : Fin grid0.N, win0_1.index t = ![0, 0])
theorem idx_2 : ∀ t : Fin cfg0.N, (cfg0.win 2).index t = ![t.val, 0] := (by decide +kernel : ∀ t : Fin grid0.N, win0_2.index t = ![t.val, 0])
theorem idx_3 : ∀ t : Fin cfg0.N, (cfg0.win 3).index t = ![t.val / 16, 0, 0] := (by decide +kernel : ∀ t : Fin grid0.N, win0_3.index t = ![t.val / 16, 0, 0])
theorem idx_4 : ∀ t : Fin cfg0.N, (cfg0.win 4).index t = ![t.val, 0] := (by decide +kernel : ∀ t : Fin grid0.N, win0_4.index t = ![t.val, 0])

theorem blk_0 (c : Dev nD) (t : Fin cfg0.N) (r : Fin 512) (k : Fin 1024) : (iblk m c 0 t : Vec Ideal S512x1024 .bf16) (ix2 r k) = V m c main_v0 (ix2 (row t r) k) := by
  blk_ext [iblk, idx_0 t, row]
theorem blk_1 (c : Dev nD) (t : Fin cfg0.N) (k d : Fin 1024) : (iblk m c 1 t : Vec Ideal S1024x1024 .bf16) (ix2 k d) = V m c main_v1 (ix2 k d) := by
  blk_ext [iblk, idx_1 t]
theorem blk_2 (c : Dev nD) (t : Fin cfg0.N) (r : Fin 512) (k : Fin 1024) : (iblk m c 2 t : Vec Ideal S512x1024 .f32) (ix2 r k) = V m c main_v2 (ix2 (row t r) k) := by
  blk_ext [iblk, idx_2 t, row]
theorem blk_3 (c : Dev nD) (t : Fin cfg0.N) (d : Fin 1024) : (iblk m c 3 t : Vec Ideal S1x1x1024 .f32) (ix3 0 0 d) = V m c main_v3 (ix3 (batch t) 0 d) := by
  blk_ext [iblk, idx_3 t, batch]

/-- What the body leaves at a point, from the arguments. -/
theorem point_at (c : Dev nD) (t : Fin cfg0.N) (r : Fin 512) (d : Fin 1024) :
    (out0_4 (iblk m c 0 t) (iblk m c 1 t) (iblk m c 2 t) (iblk m c 3 t) (ix2 r d) : EReal) =
      projected (m ((c : Thread nD τ).loc main_arg2) (ix3 (batch t) (place t r) d)) (m ((c : Thread nD τ).loc main_arg3) (ix2 (batch t) d))
        (fun k => m ((c : Thread nD τ).loc main_arg0) (ix3 (batch t) (place t r) k)) (fun k => m ((c : Thread nD τ).loc main_arg1) (ix2 k d)) := by
  have h0 : ∀ k, ((iblk m c 0 t : Vec Ideal S512x1024 .bf16) (ix2 r k) : EReal) = m ((c : Thread nD τ).loc main_arg0) (ix3 (batch t) (place t r) k) := fun k =>
    (blk_0 m c t r k).trans ((congrArg (fun n => V m c main_v0 (ix2 n k)) (row_eq t r)).trans (att_at m c _ _ k))
  have h1 : ∀ k, ((iblk m c 1 t : Vec Ideal S1024x1024 .bf16) (ix2 k d) : EReal) = m ((c : Thread nD τ).loc main_arg1) (ix2 k d) := fun k =>
    (blk_1 m c t k d).trans (weight_at m c k d)
  have h2 : ((iblk m c 2 t : Vec Ideal S512x1024 .f32) (ix2 r d) : EReal) = m ((c : Thread nD τ).loc main_arg2) (ix3 (batch t) (place t r) d) :=
    (blk_2 m c t r d).trans ((congrArg (fun n => V m c main_v2 (ix2 n d)) (row_eq t r)).trans (stream_at m c _ _ d))
  have h3 : ((iblk m c 3 t : Vec Ideal S1x1x1024 .f32) (ix3 0 0 d) : EReal) = m ((c : Thread nD τ).loc main_arg3) (ix2 (batch t) d) :=
    (blk_3 m c t d).trans (gate_at m c _ d)
  exact (body_at _ _ _ _ r d).trans (projected_congr h2 h3 h0 h1)

/-! ## The array -/

theorem cover : (cfg0.win 4).Covers :=
  (cfg0.win 4).covers_of_index_surj rfl (show ∀ a : Fin 2, 0 < S512x1024.size a by decide) fun β =>
    ⟨⟨(β (0 : Fin 2)).val, Nat.lt_of_lt_of_le (β (0 : Fin 2)).isLt (show (32768 + 512 - 1) / 512 ≤ 64 by decide)⟩, by
      rw [idx_4]
      have h1 : (β (1 : Fin 2)).val < 1 := Nat.lt_of_lt_of_le (β (1 : Fin 2)).isLt (show (1024 + 1024 - 1) / 1024 ≤ 1 by decide)
      exact Fin.forall_fin_two.mpr ⟨rfl, (Nat.lt_one_iff.mp h1).symm⟩⟩

theorem emb_4 (t : Fin cfg0.N) (y : S512x1024.Idx) (G : Vec Ideal S32768x1024 .f32) :
    G (((cfg0.win 4).blk t).view.emb y) = G (ix2 (row t (y 0)) (y 1)) := by
  blk_ext [idx_4 t, row]

theorem point_4 (t : Fin cfg0.N) (y : ((cfg0.win 4).xblock (grid0.coords t)).Idx) (g : Vec Ideal S512x1024 .f32) (G : Vec Ideal S32768x1024 .f32)
    (h : ∀ (r : Fin 512) (d : Fin 1024), g (ix2 r d) = G (ix2 (row t r) d)) :
    _root_.cast (congrArg (Elt Ideal) ((cfg0.win 4).blk t).view.elt_eq.symm) (g ((cfg0.win 4).xinj (grid0.coords t) y))
      = G (((cfg0.win 4).blk t).view.emb y) := by
  have key : ∀ y : S512x1024.Idx, g y = G (ix2 (row t (y 0)) (y 1)) := fun y => (congrArg g (eq_ix2 y)).trans (h (y 0) (y 1))
  have inj : ((cfg0.win 4).xinj (grid0.coords t) y : S512x1024.Idx) = y := by funext a; rfl
  refine Eq.trans ?_ ((key y).trans (emb_4 t y G).symm)
  exact congrArg g inj

/-- An array that at every row of every block is what the body leaves there is the array the call leaves. -/
theorem array_eq (c : Dev nD) (G : Vec Ideal S32768x1024 .f32)
    (h : ∀ (t : Fin cfg0.N) (r : Fin 512) (d : Fin 1024),
      out0_4 (iblk m c 0 t) (iblk m c 1 t) (iblk m c 2 t) (iblk m c 3 t) (ix2 r d) = G (ix2 (row t r) d)) :
    (dats m 0 c).arrAt 4 cfg0.N = G := by
  refine (dats m 0 c).arrAt_eq_of_covers 4 G cover fun t hf y => ?_
  rw [after0_4]
  exact point_4 t y _ G (h t)

end Cert.OutOddIdeal.Whole

namespace Cert.OutOddRefIdeal.Whole

open Idealize.ShloMosaic Idealize.ShloMosaic.TcCoe Idealize.SL.Sem
open Cert.OutOddRefIdeal Cert.OutOddRefIdeal.Gen Cert.Token Cert.OutOddIdeal.Whole

/-- The reference's result, read at a token. -/
theorem value_at (a : FVec Ideal S4x8192x1024 .bf16) (W : FVec Ideal S1024x1024 .f32) (x : FVec Ideal S4x8192x1024 .f32) (g : FVec Ideal S4x1024 .f32)
    (b : Fin 4) (s : Fin 8192) (d : Fin 1024) :
    (shapeCast S32768x1024 (addf x (mulf (broadcastInDim S4x8192x1024 ![0, 1, 2] bcast_S4x1x1024_S4x8192x1024_0_1_2 (broadcastInDim S4x1x1024 ![0, 2] bcast_S4x1024_S4x1x1024_0_2 g))
      (Host.dotGeneral dot_S4x8192x1024_S1024x1024_S4x8192x1024_2_0_01_1_n_n none (extf .f32 a bitsLt_bf16_f32) W)))
      shapeCasts_S4x8192x1024_S32768x1024 (ix2 (token b s) d) : EReal) =
      projected (x (ix3 b s d)) (g (ix2 b d)) (fun k => a (ix3 b s k)) (fun k => W (ix2 k d)) := by
  refine (list_at _ _ b s d).trans ?_
  pointwise [projected]

end Cert.OutOddRefIdeal.Whole

namespace Cert.Proof

open Idealize.ShloMosaic Idealize.ShloMosaic.TcCoe Idealize.SL.Sem

/-- Both programs leave the same result. -/
theorem algebraic_out_odd : Cert.algebraic_OutOddIdeal_OutOddRefIdeal := by
  intro m g m' g' _ hargs
  refine ⟨_, ?_, Cert.OutOddRefIdeal.Value.run (F := Ideal) m' g'⟩
  refine (θ_run Cert.OutOddIdeal.defs _ _).mono (fun _ h c => ⟨(h c).1.trans (Cert.OutOddIdeal.Whole.array_eq m c _ fun t r d => ?_), (h c).2⟩)
    (Cert.OutOddIdeal.Value.run_blocks (F := Ideal) m g)
  obtain ⟨h0, h1, h2, h3⟩ := hargs c
  refine (Cert.OutOddIdeal.Whole.point_at m c t r d).trans (Eq.trans ?_ ((congrArg _ (congrArg (fun n => ix2 n d) (Cert.Token.row_eq t r))).trans (Cert.OutOddRefIdeal.Whole.value_at _ _ _ _ _ _ d)).symm)
  rw [h0, h1, h2, h3]

end Cert.Proof

end
-- ==== Proof.Mixed.lean ====
module

public import proofs.«01_k».proof.Proof.Token

@[expose] public section

noncomputable section

/-! The dilated attention's three outputs as one, and the projection of a token's joined columns. -/

namespace Cert.Mixed

open Idealize.ShloMosaic

/-! ## Three outputs mixed by their log-sum-exps -/

/-- The weight of a log-sum-exp beside the largest of the three. -/
def weight (a b c l : EReal) : EReal := Ideal.exp (l - max (max a b) c)
def total (a b c : EReal) : EReal := weight a b c a + weight a b c b + weight a b c c
/-- The outputs weighted, then divided once. -/
def mixed (a b c x y z : EReal) : EReal := Ideal.div (weight a b c a * x + weight a b c b * y + weight a b c c * z) (total a b c)

theorem mixed_congr {a a' b b' c c' x x' y y' z z' : EReal} (ha : a = a') (hb : b = b') (hc : c = c') (hx : x = x') (hy : y = y') (hz : z = z') :
    mixed a b c x y z = mixed a' b' c' x' y' z' := by
  rw [ha, hb, hc, hx, hy, hz]

/-- A weight below a finite largest log-sum-exp is a real number, not negative, and positive at the largest. -/
theorem weight_real (p : ℝ) {l : EReal} (h : l ≤ p) : ∃ r : ℝ, Ideal.exp (l - p) = r ∧ 0 ≤ r ∧ (l = p → 0 < r) := by
  induction l using EReal.rec with
  | bot => exact ⟨0, by rw [EReal.bot_sub]; rfl, le_refl _, fun e => absurd e (EReal.bot_ne_coe p)⟩
  | coe r => exact ⟨Real.exp (r - p), by rw [← EReal.coe_sub]; rfl, (Real.exp_pos _).le, fun _ => Real.exp_pos _⟩
  | top => exact absurd (top_le_iff.mp h) (EReal.coe_ne_top p)

/-- Where the largest log-sum-exp is finite, dividing the weights first leaves the same. -/
theorem mixed_eq {a b c : EReal} (x y z : EReal) (h : ∃ p : ℝ, max (max a b) c = p) :
    Ideal.div (weight a b c a) (total a b c) * x + Ideal.div (weight a b c b) (total a b c) * y + Ideal.div (weight a b c c) (total a b c) * z
      = mixed a b c x y z := by
  obtain ⟨p, hp⟩ := h
  obtain ⟨u, hu, u0, up⟩ := weight_real p (hp ▸ (le_max_left a b).trans (le_max_left _ c) : a ≤ p)
  obtain ⟨v, hv, v0, vp⟩ := weight_real p (hp ▸ (le_max_right a b).trans (le_max_left _ c) : b ≤ p)
  obtain ⟨w, hw, w0, wp⟩ := weight_real p (hp ▸ le_max_right _ c : c ≤ p)
  have pos : 0 < u + v + w := by
    rcases max_choice (max a b) c with e | e
    · rcases max_choice a b with f | f
      · linarith [up (f.symm.trans (e.symm.trans hp))]
      · linarith [vp (f.symm.trans (e.symm.trans hp))]
    · linarith [wp (e.symm.trans hp)]
  have ht : total a b c = ((u + v + w : ℝ) : EReal) := by
    unfold total weight
    rw [hp, hu, hv, hw, EReal.coe_add, EReal.coe_add]
  have h0 : total a b c ≠ 0 := by
    rw [ht]
    exact EReal.coe_ne_zero.mpr pos.ne'
  have hi : (total a b c)⁻¹ = (((u + v + w)⁻¹ : ℝ) : EReal) := by
    rw [ht, EReal.coe_inv]
  have n0 : 0 ≤ (total a b c)⁻¹ := by
    rw [hi]
    exact EReal.coe_nonneg.mpr (inv_nonneg.mpr pos.le)
  have n1 : (total a b c)⁻¹ ≠ ⊤ := by
    rw [hi]
    exact EReal.coe_ne_top _
  unfold mixed Ideal.div
  rw [if_neg h0, if_neg h0, if_neg h0, if_neg h0, EReal.right_distrib_of_nonneg_of_ne_top n0 n1, EReal.right_distrib_of_nonneg_of_ne_top n0 n1]
  simp only [mul_right_comm]

/-- Entry `d` of a token's row after the projection: the stream plus the gate times the products of both parts. -/
def projected (x gate : EReal) (f : Fin 512 → EReal) (g : Fin 256 → EReal) (W : Fin 768 → EReal) : EReal :=
  x + gate * (∑ k : Fin 512, f k * W ⟨k.val, by omega⟩ + ∑ k : Fin 256, g k * W ⟨512 + k.val, by omega⟩)

theorem projected_congr {x x' s s' : EReal} {f f' : Fin 512 → EReal} {g g' : Fin 256 → EReal} {W W' : Fin 768 → EReal} (hx : x = x') (hs : s = s')
    (hf : ∀ k, f k = f' k) (hg : ∀ k, g k = g' k) (hW : ∀ k, W k = W' k) : projected x s f g W = projected x' s' f' g' W' := by
  rw [hx, hs, funext hf, funext hg, funext hW]

/-! ## Three arrays one after another -/

theorem constant_at {s : Shape} {φ : FTy} (b : BitVec φ.bits) (i : s.Idx) : (constant (F := Ideal) s φ b i : EReal) = Ideal.ofBits φ b := rfl
theorem minus_infinity : Ideal.ofBits FTy.f32 0xFF800000#32 = ⊥ := by simp [Ideal.ofBits, Ideal.ieee]
theorem infinity : Ideal.ofBits FTy.f32 0x7F800000#32 = ⊤ := by simp [Ideal.ofBits, Ideal.ieee]
/-- A scalar broadcast is the scalar everywhere. -/
theorem everywhere {s : Shape} {φ : FTy} (b : BitVec φ.bits) (h : (⟨0, ![]⟩ : Shape).BroadcastsInDim s ![]) (i : s.Idx) :
    (broadcastInDim s ![] h (constant (F := Ideal) ⟨0, ![]⟩ φ b) i : EReal) = Ideal.ofBits φ b := rfl

theorem maximum_at {s : Shape} {φ : FTy} (A B : FVec Ideal s φ) (i : s.Idx) : (maximumf A B i : EReal) = max (A i : EReal) (B i) := rfl
theorem lowest_max {s : Shape} (h : (⟨0, ![]⟩ : Shape).BroadcastsInDim s ![]) (B : FVec Ideal s .f32) (i : s.Idx) :
    (maximumf (broadcastInDim s ![] h (constant (F := Ideal) ⟨0, ![]⟩ .f32 0xFF800000#32)) B i : EReal) = B i := by
  rw [maximum_at, everywhere, minus_infinity, max_bot_left]

theorem quotient_at {s : Shape} {φ : FTy} (A B : FVec Ideal s φ) (i : s.Idx) : (Host.divf A B i : EReal) = Ideal.div (A i) (B i) := rfl

/-- What is less than infinity in size is a real number. -/
theorem finite_of {s : Shape} (l : FVec Ideal s .f32) (h : (⟨0, ![]⟩ : Shape).BroadcastsInDim s ![]) (i : s.Idx)
    (e : cmpf .olt (Host.absf l) (broadcastInDim s ![] h (constant (F := Ideal) ⟨0, ![]⟩ .f32 0x7F800000#32)) i = 1#1) : ∃ r : ℝ, (l i : EReal) = r := by
  have c : cmpf .olt (Host.absf l) (broadcastInDim s ![] h (constant (F := Ideal) ⟨0, ![]⟩ .f32 0x7F800000#32)) i
      = Ideal.cmp .olt (max (l i : EReal) (-(l i : EReal))) (broadcastInDim s ![] h (constant (F := Ideal) ⟨0, ![]⟩ .f32 0x7F800000#32) i : EReal) := rfl
  rw [c, everywhere, infinity] at e
  generalize (l i : EReal) = x at e
  induction x using EReal.rec with
  | bot => simp [Ideal.cmp] at e
  | coe r => exact ⟨r, rfl⟩
  | top => simp [Ideal.cmp] at e

/-- The largest of three. -/
theorem largest (f : Fin 3 → EReal) : Finset.fold max ⊥ f Finset.univ = max (max (f 0) (f 1)) (f 2) := by
  have hu : (Finset.univ : Finset (Fin 3)) = insert 0 (insert 1 {2}) := by decide
  rw [hu, Finset.fold_insert (by decide), Finset.fold_insert (by decide), Finset.fold_singleton, max_bot_right, max_assoc]

theorem largest_at {N K : Nat} (L : (⟨3, ![3, N, K]⟩ : Shape).Idx → EReal) (init : (⟨0, ![]⟩ : Shape).Idx → EReal) (h : (⟨3, ![3, N, K]⟩ : Shape).ReducesTo [0] ⟨2, ![N, K]⟩)
    (hu : 0 < (⟨0, ![]⟩ : Shape).numel) (b : EReal) (hb : ∀ i, init i = b) (n : Fin N) (k : Fin K) :
    Host.reduce (FloatOps.maximumf (F := Ideal) (φ := .f32)) L init h hu (ix2 n k) = Finset.fold max b (fun i : Fin 3 => L (ix3 i n k)) Finset.univ := by
  pointwise
  rw [hb]

theorem sum_at {N K : Nat} (L : (⟨3, ![3, N, K]⟩ : Shape).Idx → EReal) (init : (⟨0, ![]⟩ : Shape).Idx → EReal) (h : (⟨3, ![3, N, K]⟩ : Shape).ReducesTo [0] ⟨2, ![N, K]⟩)
    (hu : 0 < (⟨0, ![]⟩ : Shape).numel) (hb : ∀ i, init i = 0) (n : Fin N) (k : Fin K) :
    Host.reduceAdd (F := Ideal) (φ := .f32) L init h hu (ix2 n k) = L (ix3 0 n k) + L (ix3 1 n k) + L (ix3 2 n k) := by
  pointwise
  rw [hb, Fin.sum_univ_three]
  exact zero_add _

theorem stack_at (l0 l1 l2 : (⟨2, ![32768, 256]⟩ : Shape).Idx → EReal) (hb : (⟨2, ![32768, 256]⟩ : Shape).BroadcastsInDim ⟨3, ![1, 32768, 256]⟩ ![1, 2])
    (h : Shape.Concatenates [⟨3, ![1, 32768, 256]⟩, ⟨3, ![1, 32768, 256]⟩, ⟨3, ![1, 32768, 256]⟩] ⟨3, ![3, 32768, 256]⟩ 0) (i : Fin 3) (n : Fin 32768) (k : Fin 256) :
    concatenate ⟨3, ![3, 32768, 256]⟩ 0 [⟨⟨3, ![1, 32768, 256]⟩, broadcastInDim ⟨3, ![1, 32768, 256]⟩ ![1, 2] hb l0⟩, ⟨⟨3, ![1, 32768, 256]⟩, broadcastInDim ⟨3, ![1, 32768, 256]⟩ ![1, 2] hb l1⟩,
      ⟨⟨3, ![1, 32768, 256]⟩, broadcastInDim ⟨3, ![1, 32768, 256]⟩ ![1, 2] hb l2⟩] h (ix3 i n k) = (![l0 (ix2 n k), l1 (ix2 n k), l2 (ix2 n k)] : Fin 3 → EReal) i := by
  pointwise
  fin_cases i <;> rfl

end Cert.Mixed

end
-- ==== Proof.OutEven.lean ====
module

public import proofs.«01_k».proof.Defs
public import proofs.«01_k».proof.Proof.Gen.OutEvenIdeal.Value
public import proofs.«01_k».proof.Proof.Mixed

@[expose] public section

set_option maxRecDepth 16384

noncomputable section

namespace Cert.OutEvenIdeal.Whole

open Idealize.ShloMosaic Idealize.ShloMosaic.TcCoe Idealize.ShloMosaic.Tactic Idealize.SL.Sem
open Idealize.ShloMosaic.Pipeline (Dat Window)
open Cert.OutEvenIdeal Cert.OutEvenIdeal.Gen Cert.Token Cert.Mixed

/-! ## The body -/

theorem body_at (f : Vec Ideal S512x512 .bf16) (o0 o1 o2 l0 l1 l2 : Vec Ideal S512x256 .f32) (W : Vec Ideal S768x1024 .bf16) (x : Vec Ideal S512x1024 .f32)
    (g : Vec Ideal S1x1x1024 .f32) (r : Fin 512) (d : Fin 1024) :
    out0_10 f o0 o1 o2 l0 l1 l2 W x g (ix2 r d) = projected (x (ix2 r d)) (g (ix3 0 0 d)) (fun k => f (ix2 r k))
      (fun k => mixed (l0 (ix2 r k)) (l1 (ix2 r k)) (l2 (ix2 r k)) (o0 (ix2 r k)) (o1 (ix2 r k)) (o2 (ix2 r k))) (fun k => W (ix2 k d)) := by
  have h0 : ((![0, 0] : Fin 2 → Nat)) = fun _ => 0 := by funext a; fin_cases a <;> rfl
  have h1 : ((![0, 0, 0] : Fin 3 → Nat)) = fun _ => 0 := by funext a; fin_cases a <;> rfl
  unfold out0_10
  rw [View.canon_unit_zero h0]
  rw [View.ld_unit_zero h0, View.ld_unit_zero h0, View.ld_unit_zero h0, View.ld_unit_zero h0, View.ld_unit_zero h0, View.ld_unit_zero h0, View.ld_unit_zero h0, View.ld_unit_zero h0, View.ld_unit_zero h1]
  pointwise [k0_pay1, k0_pay2, k0_pay3, projected, mixed, weight, total]

/-! ## What the call finds -/

variable (m : (ℓ : Loc nD τ sig) → Buf (Elt Ideal) ℓ)

theorem fox_at (c : Dev nD) (b : Fin 4) (s : Fin 8192) (k : Fin 512) : (V m c main_v0 (ix2 (token b s) k) : EReal) = m ((c : Thread nD τ).loc main_arg0) (ix3 b s k) := by
  have e : V m c main_v0 = shapeCast S32768x512 (m ((c : Thread nD τ).loc main_arg0)) shapeCasts_S4x8192x512_S32768x512 := by
    after_reads_simp; rfl
  exact (congrFun e _).trans (list_at _ _ b s k)
theorem weight_at (c : Dev nD) (k : Fin 768) (d : Fin 1024) : (V m c main_v1 (ix2 k d) : EReal) = m ((c : Thread nD τ).loc main_arg7) (ix2 k d) := by
  after_reads_simp; rfl
theorem stream_at (c : Dev nD) (b : Fin 4) (s : Fin 8192) (k : Fin 1024) : (V m c main_v2 (ix2 (token b s) k) : EReal) = m ((c : Thread nD τ).loc main_arg8) (ix3 b s k) := by
  have e : V m c main_v2 = shapeCast S32768x1024 (m ((c : Thread nD τ).loc main_arg8)) shapeCasts_S4x8192x1024_S32768x1024 := by
    after_reads_simp; rfl
  exact (congrFun e _).trans (list_at _ _ b s k)
theorem gate_at (c : Dev nD) (b : Fin 4) (d : Fin 1024) : (V m c main_v3 (ix3 b 0 d) : EReal) = m ((c : Thread nD τ).loc main_arg9) (ix2 b d) := by
  have e : V m c main_v3 = shapeCast S4x1x1024 (m ((c : Thread nD τ).loc main_arg9)) shapeCasts_S4x1024_S4x1x1024 := by
    after_reads_simp; rfl
  exact (congrFun e _).trans (unit_at _ _ b d)

/-! ## Blocks -/

theorem idx_0 : ∀ t : Fin cfg0.N, (cfg0.win 0).index t = ![t.val, 0] := (by decide +kernel : ∀ t : Fin grid0.N, win0_0.index t = ![t.val, 0])
theorem idx_1 : ∀ t : Fin cfg0.N, (cfg0.win 1).index t = ![t.val, 0] := (by decide +kernel : ∀ t : Fin grid0.N, win0_1.index t = ![t.val, 0])
theorem idx_2 : ∀ t : Fin cfg0.N, (cfg0.win 2).index t = ![t.val, 0] := (by decide +kernel : ∀ t : Fin grid0.N, win0_2.index t = ![t.val, 0])
theorem idx_3 : ∀ t : Fin cfg0.N, (cfg0.win 3).index t = ![t.val, 0] := (by decide +kernel : ∀ t : Fin grid0.N, win0_3.index t = ![t.val, 0])
theorem idx_4 : ∀ t : Fin cfg0.N, (cfg0.win 4).index t = ![t.val, 0] := (by decide +kernel : ∀ t : Fin grid0.N, win0_4.index t = ![t.val, 0])
theorem idx_5 : ∀ t : Fin cfg0.N, (cfg0.win 5).index t = ![t.val, 0] := (by decide +kernel : ∀ t : Fin grid0.N, win0_5.index t = ![t.val, 0])
theorem idx_6 : ∀ t : Fin cfg0.N, (cfg0.win 6).index t = ![t.val, 0] := (by decide +kernel : ∀ t : Fin grid0.N, win0_6.index t = ![t.val, 0])
theorem idx_7 : ∀ t : Fin cfg0.N, (cfg0.win 7).index t = ![0, 0] := (by decide +kernel : ∀ t : Fin grid0.N, win0_7.index t = ![0, 0])
theorem idx_8 : ∀ t : Fin cfg0.N, (cfg0.win 8).index t = ![t.val, 0] := (by decide +kernel : ∀ t : Fin grid0.N, win0_8.index t = ![t.val, 0])
theorem idx_9 : ∀ t : Fin cfg0.N, (cfg0.win 9).index t = ![t.val / 16, 0, 0] := (by decide +kernel : ∀ t : Fin grid0.N, win0_9.index t = ![t.val / 16, 0, 0])
theorem idx_10 : ∀ t : Fin cfg0.N, (cfg0.win 10).index t = ![t.val, 0] := (by decide +kernel : ∀ t : Fin grid0.N, win0_10.index t = ![t.val, 0])

theorem blk_0 (c : Dev nD) (t : Fin cfg0.N) (r : Fin 512) (k : Fin 512) : (iblk m c 0 t : Vec Ideal S512x512 .bf16) (ix2 r k) = V m c main_v0 (ix2 (row t r) k) := by
  blk_ext [iblk, idx_0 t, row]
theorem blk_1 (c : Dev nD) (t : Fin cfg0.N) (r : Fin 512) (k : Fin 256) : (iblk m c 1 t : Vec Ideal S512x256 .f32) (ix2 r k) = V m c main_arg1 (ix2 (row t r) k) := by
  blk_ext [iblk, idx_1 t, row]
theorem blk_2 (c : Dev nD) (t : Fin cfg0.N) (r : Fin 512) (k : Fin 256) : (iblk m c 2 t : Vec Ideal S512x256 .f32) (ix2 r k) = V m c main_arg2 (ix2 (row t r) k) := by
  blk_ext [iblk, idx_2 t, row]
theorem blk_3 (c : Dev nD) (t : Fin cfg0.N) (r : Fin 512) (k : Fin 256) : (iblk m c 3 t : Vec Ideal S512x256 .f32) (ix2 r k) = V m c main_arg3 (ix2 (row t r) k) := by
  blk_ext [iblk, idx_3 t, row]
theorem blk_4 (c : Dev nD) (t : Fin cfg0.N) (r : Fin 512) (k : Fin 256) : (iblk m c 4 t : Vec Ideal S512x256 .f32) (ix2 r k) = V m c main_arg4 (ix2 (row t r) k) := by
  blk_ext [iblk, idx_4 t, row]
theorem blk_5 (c : Dev nD) (t : Fin cfg0.N) (r : Fin 512) (k : Fin 256) : (iblk m c 5 t : Vec Ideal S512x256 .f32) (ix2 r k) = V m c main_arg5 (ix2 (row t r) k) := by
  blk_ext [iblk, idx_5 t, row]
theorem blk_6 (c : Dev nD) (t : Fin cfg0.N) (r : Fin 512) (k : Fin 256) : (iblk m c 6 t : Vec Ideal S512x256 .f32) (ix2 r k) = V m c main_arg6 (ix2 (row t r) k) := by
  blk_ext [iblk, idx_6 t, row]
theorem blk_7 (c : Dev nD) (t : Fin cfg0.N) (k : Fin 768) (d : Fin 1024) : (iblk m c 7 t : Vec Ideal S768x1024 .bf16) (ix2 k d) = V m c main_v1 (ix2 k d) := by
  blk_ext [iblk, idx_7 t]
theorem blk_8 (c : Dev nD) (t : Fin cfg0.N) (r : Fin 512) (k : Fin 1024) : (iblk m c 8 t : Vec Ideal S512x1024 .f32) (ix2 r k) = V m c main_v2 (ix2 (row t r) k) := by
  blk_ext [iblk, idx_8 t, row]
theorem blk_9 (c : Dev nD) (t : Fin cfg0.N) (d : Fin 1024) : (iblk m c 9 t : Vec Ideal S1x1x1024 .f32) (ix3 0 0 d) = V m c main_v3 (ix3 (batch t) 0 d) := by
  blk_ext [iblk, idx_9 t, batch]

/-- Entry `k` of the mixed outputs of a token, from the arguments. -/
def mixedAt (c : Dev nD) (n : Fin 32768) (k : Fin 256) : EReal :=
  mixed (m ((c : Thread nD τ).loc main_arg4) (ix2 n k)) (m ((c : Thread nD τ).loc main_arg5) (ix2 n k)) (m ((c : Thread nD τ).loc main_arg6) (ix2 n k))
    (m ((c : Thread nD τ).loc main_arg1) (ix2 n k)) (m ((c : Thread nD τ).loc main_arg2) (ix2 n k)) (m ((c : Thread nD τ).loc main_arg3) (ix2 n k))

/-- What the body leaves at a point, from the arguments. -/
theorem point_at (c : Dev nD) (t : Fin cfg0.N) (r : Fin 512) (d : Fin 1024) :
    (out0_10 (iblk m c 0 t) (iblk m c 1 t) (iblk m c 2 t) (iblk m c 3 t) (iblk m c 4 t) (iblk m c 5 t) (iblk m c 6 t) (iblk m c 7 t) (iblk m c 8 t) (iblk m c 9 t) (ix2 r d) : EReal) =
      projected (m ((c : Thread nD τ).loc main_arg8) (ix3 (batch t) (place t r) d)) (m ((c : Thread nD τ).loc main_arg9) (ix2 (batch t) d))
        (fun k => m ((c : Thread nD τ).loc main_arg0) (ix3 (batch t) (place t r) k)) (mixedAt m c (row t r)) (fun k => m ((c : Thread nD τ).loc main_arg7) (ix2 k d)) := by
  have h0 : ∀ k, ((iblk m c 0 t : Vec Ideal S512x512 .bf16) (ix2 r k) : EReal) = m ((c : Thread nD τ).loc main_arg0) (ix3 (batch t) (place t r) k) := fun k =>
    (blk_0 m c t r k).trans ((congrArg (fun n => V m c main_v0 (ix2 n k)) (row_eq t r)).trans (fox_at m c _ _ k))
  have h1 : ∀ k, ((iblk m c 1 t : Vec Ideal S512x256 .f32) (ix2 r k) : EReal) = m ((c : Thread nD τ).loc main_arg1) (ix2 (row t r) k) := fun k =>
    (blk_1 m c t r k).trans (congrFun (V_main_arg1 m c) _)
  have h2 : ∀ k, ((iblk m c 2 t : Vec Ideal S512x256 .f32) (ix2 r k) : EReal) = m ((c : Thread nD τ).loc main_arg2) (ix2 (row t r) k) := fun k =>
    (blk_2 m c t r k).trans (congrFun (V_main_arg2 m c) _)
  have h3 : ∀ k, ((iblk m c 3 t : Vec Ideal S512x256 .f32) (ix2 r k) : EReal) = m ((c : Thread nD τ).loc main_arg3) (ix2 (row t r) k) := fun k =>
    (blk_3 m c t r k).trans (congrFun (V_main_arg3 m c) _)
  have h4 : ∀ k, ((iblk m c 4 t : Vec Ideal S512x256 .f32) (ix2 r k) : EReal) = m ((c : Thread nD τ).loc main_arg4) (ix2 (row t r) k) := fun k =>
    (blk_4 m c t r k).trans (congrFun (V_main_arg4 m c) _)
  have h5 : ∀ k, ((iblk m c 5 t : Vec Ideal S512x256 .f32) (ix2 r k) : EReal) = m ((c : Thread nD τ).loc main_arg5) (ix2 (row t r) k) := fun k =>
    (blk_5 m c t r k).trans (congrFun (V_main_arg5 m c) _)
  have h6 : ∀ k, ((iblk m c 6 t : Vec Ideal S512x256 .f32) (ix2 r k) : EReal) = m ((c : Thread nD τ).loc main_arg6) (ix2 (row t r) k) := fun k =>
    (blk_6 m c t r k).trans (congrFun (V_main_arg6 m c) _)
  have h7 : ∀ k, ((iblk m c 7 t : Vec Ideal S768x1024 .bf16) (ix2 k d) : EReal) = m ((c : Thread nD τ).loc main_arg7) (ix2 k d) := fun k =>
    (blk_7 m c t k d).trans (weight_at m c k d)
  have h8 : ((iblk m c 8 t : Vec Ideal S512x1024 .f32) (ix2 r d) : EReal) = m ((c : Thread nD τ).loc main_arg8) (ix3 (batch t) (place t r) d) :=
    (blk_8 m c t r d).trans ((congrArg (fun n => V m c main_v2 (ix2 n d)) (row_eq t r)).trans (stream_at m c _ _ d))
  have h9 : ((iblk m c 9 t : Vec Ideal S1x1x1024 .f32) (ix3 0 0 d) : EReal) = m ((c : Thread nD τ).loc main_arg9) (ix2 (batch t) d) :=
    (blk_9 m c t d).trans (gate_at m c _ d)
  refine (body_at _ _ _ _ _ _ _ _ _ _ r d).trans (projected_congr h8 h9 h0 (fun k => ?_) h7)
  exact mixed_congr (h4 k) (h5 k) (h6 k) (h1 k) (h2 k) (h3 k)

/-! ## The array -/

theorem cover : (cfg0.win 10).Covers :=
  (cfg0.win 10).covers_of_index_surj rfl (show ∀ a : Fin 2, 0 < S512x1024.size a by decide) fun β =>
    ⟨⟨(β (0 : Fin 2)).val, Nat.lt_of_lt_of_le (β (0 : Fin 2)).isLt (show (32768 + 512 - 1) / 512 ≤ 64 by decide)⟩, by
      rw [idx_10]
      have h1 : (β (1 : Fin 2)).val < 1 := Nat.lt_of_lt_of_le (β (1 : Fin 2)).isLt (show (1024 + 1024 - 1) / 1024 ≤ 1 by decide)
      exact Fin.forall_fin_two.mpr ⟨rfl, (Nat.lt_one_iff.mp h1).symm⟩⟩

theorem emb_10 (t : Fin cfg0.N) (y : S512x1024.Idx) (G : Vec Ideal S32768x1024 .f32) :
    G (((cfg0.win 10).blk t).view.emb y) = G (ix2 (row t (y 0)) (y 1)) := by
  blk_ext [idx_10 t, row]

theorem point_10 (t : Fin cfg0.N) (y : ((cfg0.win 10).xblock (grid0.coords t)).Idx) (g : Vec Ideal S512x1024 .f32) (G : Vec Ideal S32768x1024 .f32)
    (h : ∀ (r : Fin 512) (d : Fin 1024), g (ix2 r d) = G (ix2 (row t r) d)) :
    _root_.cast (congrArg (Elt Ideal) ((cfg0.win 10).blk t).view.elt_eq.symm) (g ((cfg0.win 10).xinj (grid0.coords t) y))
      = G (((cfg0.win 10).blk t).view.emb y) := by
  have key : ∀ y : S512x1024.Idx, g y = G (ix2 (row t (y 0)) (y 1)) := fun y => (congrArg g (eq_ix2 y)).trans (h (y 0) (y 1))
  have inj : ((cfg0.win 10).xinj (grid0.coords t) y : S512x1024.Idx) = y := by funext a; rfl
  refine Eq.trans ?_ ((key y).trans (emb_10 t y G).symm)
  exact congrArg g inj

/-- An array that at every row of every block is what the body leaves there is the array the call leaves. -/
theorem array_eq (c : Dev nD) (G : Vec Ideal S32768x1024 .f32)
    (h : ∀ (t : Fin cfg0.N) (r : Fin 512) (d : Fin 1024),
      out0_10 (iblk m c 0 t) (iblk m c 1 t) (iblk m c 2 t) (iblk m c 3 t) (iblk m c 4 t) (iblk m c 5 t) (iblk m c 6 t) (iblk m c 7 t) (iblk m c 8 t) (iblk m c 9 t) (ix2 r d) = G (ix2 (row t r) d)) :
    (dats m 0 c).arrAt 10 cfg0.N = G := by
  refine (dats m 0 c).arrAt_eq_of_covers 10 G cover fun t hf y => ?_
  rw [after0_10]
  exact point_10 t y _ G (h t)

end Cert.OutEvenIdeal.Whole

end
-- ==== Proof.OutEvenEqual.lean ====
module

public import proofs.«01_k».proof.Proof.OutEven
public import proofs.«01_k».proof.Proof.Gen.OutEvenRefIdeal.Run
public import proofs.«01_k».proof.Proof.Gen.Pre_largest_finite

@[expose] public section

set_option maxRecDepth 16384

noncomputable section

namespace Cert.OutEvenRefIdeal.Whole

open Idealize.ShloMosaic Idealize.ShloMosaic.TcCoe Idealize.SL.Sem
open Cert.OutEvenRefIdeal Cert.OutEvenRefIdeal.Gen Cert.Token Cert.Mixed

/-! ## The reference, one array after another -/

/-- The three log-sum-exps, one after another. -/
def stack (l0 l1 l2 : FVec Ideal S32768x256 .f32) : FVec Ideal S3x32768x256 .f32 :=
  concatenate S3x32768x256 0 [⟨S1x32768x256, ((broadcastInDim S1x32768x256 ![1, 2] bcast_S32768x256_S1x32768x256_1_2 l0) : (⟨S1x32768x256, .f32⟩ : BufTy).Contents (Elt Ideal))⟩,
    ⟨S1x32768x256, ((broadcastInDim S1x32768x256 ![1, 2] bcast_S32768x256_S1x32768x256_1_2 l1) : (⟨S1x32768x256, .f32⟩ : BufTy).Contents (Elt Ideal))⟩,
    ⟨S1x32768x256, ((broadcastInDim S1x32768x256 ![1, 2] bcast_S32768x256_S1x32768x256_1_2 l2) : (⟨S1x32768x256, .f32⟩ : BufTy).Contents (Elt Ideal))⟩] concatenates_S1x32768x256_S1x32768x256_S1x32768x256_S3x32768x256_d0

/-- An array for each of the three. -/
def thrice (x : FVec Ideal S32768x256 .f32) : FVec Ideal S3x32768x256 .f32 :=
  broadcastInDim S3x32768x256 ![0, 1, 2] bcast_S1x32768x256_S3x32768x256_0_1_2 (broadcastInDim S1x32768x256 ![1, 2] bcast_S32768x256_S1x32768x256_1_2 x)
theorem thrice_at (x : FVec Ideal S32768x256 .f32) (i : Fin 3) (n : Fin 32768) (k : Fin 256) : thrice x (ix3 i n k) = x (ix2 n k) := by
  unfold thrice
  pointwise

def largests (L : FVec Ideal S3x32768x256 .f32) : FVec Ideal S32768x256 .f32 :=
  Host.reduce FloatOps.maximumf L (constant S_ .f32 0xFF800000#32) reducesTo_S3x32768x256_S32768x256_d0 h_S_
theorem largests_at (L : FVec Ideal S3x32768x256 .f32) (n : Fin 32768) (k : Fin 256) :
    largests L (ix2 n k) = max (max (L (ix3 0 n k)) (L (ix3 1 n k))) (L (ix3 2 n k)) :=
  (largest_at L _ _ _ ⊥ (fun i => (constant_at _ i).trans minus_infinity) n k).trans (largest _)
def peaks (L : FVec Ideal S3x32768x256 .f32) : FVec Ideal S32768x256 .f32 :=
  maximumf (broadcastInDim S32768x256 ![] bcast_S_S32768x256 (constant S_ .f32 0xFF800000#32)) (largests L)
theorem peaks_at (L : FVec Ideal S3x32768x256 .f32) (n : Fin 32768) (k : Fin 256) :
    peaks L (ix2 n k) = max (max (L (ix3 0 n k)) (L (ix3 1 n k))) (L (ix3 2 n k)) := by
  unfold peaks
  exact (lowest_max _ _ _).trans (largests_at L n k)

/-- The weights: the exponentials of the log-sum-exps less the largest. -/
def weights (L : FVec Ideal S3x32768x256 .f32) : FVec Ideal S3x32768x256 .f32 := Host.exp (subf L (thrice (peaks L)))
theorem weights_at (L : FVec Ideal S3x32768x256 .f32) (i : Fin 3) (n : Fin 32768) (k : Fin 256) :
    weights L (ix3 i n k) = weight (L (ix3 0 n k)) (L (ix3 1 n k)) (L (ix3 2 n k)) (L (ix3 i n k)) := by
  have e : weights L (ix3 i n k) = Ideal.exp (L (ix3 i n k) - thrice (peaks L) (ix3 i n k)) := rfl
  rw [e, thrice_at, peaks_at]
  unfold weight
  rfl

def totals (E : FVec Ideal S3x32768x256 .f32) : FVec Ideal S32768x256 .f32 :=
  Host.reduceAdd E (constant S_ .f32 0x00000000#32) reducesTo_S3x32768x256_S32768x256_d0 h_S_
theorem totals_at (E : FVec Ideal S3x32768x256 .f32) (n : Fin 32768) (k : Fin 256) :
    totals E (ix2 n k) = E (ix3 0 n k) + E (ix3 1 n k) + E (ix3 2 n k) :=
  sum_at E _ _ _ (fun _ => Ideal.ofBits_zero_f32) n k

/-- The softmax of the three. -/
def alphas (L : FVec Ideal S3x32768x256 .f32) : FVec Ideal S3x32768x256 .f32 := Host.divf (weights L) (thrice (totals (weights L)))
theorem alphas_at (L : FVec Ideal S3x32768x256 .f32) (i : Fin 3) (n : Fin 32768) (k : Fin 256) :
    alphas L (ix3 i n k) = Ideal.div (weight (L (ix3 0 n k)) (L (ix3 1 n k)) (L (ix3 2 n k)) (L (ix3 i n k))) (total (L (ix3 0 n k)) (L (ix3 1 n k)) (L (ix3 2 n k))) := by
  unfold alphas total
  rw [quotient_at, thrice_at, totals_at, weights_at, weights_at, weights_at, weights_at]

/-- The outputs by their parts of the softmax `A`. -/
def mixes (A : FVec Ideal S3x32768x256 .f32) (o0 o1 o2 : FVec Ideal S32768x256 .f32) : FVec Ideal S32768x256 .f32 :=
  addf (addf (mulf (shapeCast _ (extractStridedSlice S1x32768x256 ![0, 0, 0] A slices_S3x32768x256_S1x32768x256_0_0_0) shapeCasts_S1x32768x256_S32768x256) o0)
    (mulf (shapeCast _ (extractStridedSlice S1x32768x256 ![1, 0, 0] A slices_S3x32768x256_S1x32768x256_1_0_0) shapeCasts_S1x32768x256_S32768x256) o1))
    (mulf (shapeCast _ (extractStridedSlice S1x32768x256 ![2, 0, 0] A slices_S3x32768x256_S1x32768x256_2_0_0) shapeCasts_S1x32768x256_S32768x256) o2)
theorem mixes_at (A : FVec Ideal S3x32768x256 .f32) (o0 o1 o2 : FVec Ideal S32768x256 .f32) (n : Fin 32768) (k : Fin 256) :
    (mixes A o0 o1 o2 (ix2 n k) : EReal) = A (ix3 0 n k) * o0 (ix2 n k) + A (ix3 1 n k) * o1 (ix2 n k) + A (ix3 2 n k) * o2 (ix2 n k) := by
  unfold mixes
  pointwise

/-- The reference's result, read at a token. -/
theorem value_at (f : FVec Ideal S4x8192x512 .bf16) (M : FVec Ideal S32768x256 .f32) (W : FVec Ideal S768x1024 .f32) (x : FVec Ideal S4x8192x1024 .f32) (g : FVec Ideal S4x1024 .f32)
    (b : Fin 4) (s : Fin 8192) (d : Fin 1024) :
    (shapeCast S32768x1024 (addf x (mulf (broadcastInDim S4x8192x1024 ![0, 1, 2] bcast_S4x1x1024_S4x8192x1024_0_1_2 (broadcastInDim S4x1x1024 ![0, 2] bcast_S4x1024_S4x1x1024_0_2 g))
      (shapeCast S4x8192x1024 (Host.dotGeneral dot_S32768x768_S768x1024_S32768x1024_1_0_0_1_n_n none
        (concatenate S32768x768 1 [⟨S32768x512, (extf .f32 (shapeCast S32768x512 f shapeCasts_S4x8192x512_S32768x512) bitsLt_bf16_f32)⟩, ⟨S32768x256, M⟩] concatenates_S32768x512_S32768x256_S32768x768_d1) W)
        shapeCasts_S32768x1024_S4x8192x1024)))
      shapeCasts_S4x8192x1024_S32768x1024 (ix2 (token b s) d) : EReal) =
      projected (x (ix3 b s d)) (g (ix2 b d)) (fun k => f (ix3 b s k)) (fun k => M (ix2 (token b s) k)) (fun k => W (ix2 k d)) := by
  refine (list_at _ _ b s d).trans ?_
  have ht : token b s = ⟨b.val * 8192 + s.val, by omega⟩ := Fin.ext (congrArg (· + s.val) (Nat.mul_comm 8192 b.val))
  rw [ht]
  pointwise [projected]

/-- The reference's result by the named arrays. -/
theorem result_eq (m : (ℓ : Loc nD τ sig) → Buf (Elt Ideal) ℓ) (c : Dev nD) : Value.res_out0 m c =
    shapeCast S32768x1024 (addf (m ((c.tc : Thread nD τ).loc main_arg8)) (mulf (broadcastInDim S4x8192x1024 ![0, 1, 2] bcast_S4x1x1024_S4x8192x1024_0_1_2 (broadcastInDim S4x1x1024 ![0, 2] bcast_S4x1024_S4x1x1024_0_2 (m ((c.tc : Thread nD τ).loc main_arg9))))
      (shapeCast S4x8192x1024 (Host.dotGeneral (φ₁ := .f32) (φ₂ := .f32) dot_S32768x768_S768x1024_S32768x1024_1_0_0_1_n_n none
        (concatenate S32768x768 1 [⟨S32768x512, (extf .f32 (shapeCast S32768x512 (m ((c.tc : Thread nD τ).loc main_arg0)) shapeCasts_S4x8192x512_S32768x512) bitsLt_bf16_f32)⟩,
          ⟨S32768x256, mixes (alphas (stack (m ((c.tc : Thread nD τ).loc main_arg4)) (m ((c.tc : Thread nD τ).loc main_arg5)) (m ((c.tc : Thread nD τ).loc main_arg6))))
            (m ((c.tc : Thread nD τ).loc main_arg1)) (m ((c.tc : Thread nD τ).loc main_arg2)) (m ((c.tc : Thread nD τ).loc main_arg3))⟩] concatenates_S32768x512_S32768x256_S32768x768_d1)
        (m ((c.tc : Thread nD τ).loc main_arg7)))
        shapeCasts_S32768x1024_S4x8192x1024)))
      shapeCasts_S4x8192x1024_S32768x1024 := by
  unfold Value.res_out0 Value.res_main_v35 mixes alphas weights totals peaks largests thrice stack
  rfl

/-- The reference mixes as the kernel does where the largest log-sum-exp is finite. -/
theorem mixes_mixed (l0 l1 l2 o0 o1 o2 : FVec Ideal S32768x256 .f32) (n : Fin 32768) (k : Fin 256)
    (h : ∃ r : ℝ, max (max (l0 (ix2 n k) : EReal) (l1 (ix2 n k))) (l2 (ix2 n k)) = r) :
    (mixes (alphas (stack l0 l1 l2)) o0 o1 o2 (ix2 n k) : EReal) = mixed (l0 (ix2 n k)) (l1 (ix2 n k)) (l2 (ix2 n k)) (o0 (ix2 n k)) (o1 (ix2 n k)) (o2 (ix2 n k)) := by
  have e0 : stack l0 l1 l2 (ix3 0 n k) = l0 (ix2 n k) := stack_at l0 l1 l2 _ _ 0 n k
  have e1 : stack l0 l1 l2 (ix3 1 n k) = l1 (ix2 n k) := stack_at l0 l1 l2 _ _ 1 n k
  have e2 : stack l0 l1 l2 (ix3 2 n k) = l2 (ix2 n k) := stack_at l0 l1 l2 _ _ 2 n k
  refine (mixes_at _ o0 o1 o2 n k).trans ?_
  rw [alphas_at, alphas_at, alphas_at, e0, e1, e2]
  exact mixed_eq _ _ _ h

end Cert.OutEvenRefIdeal.Whole

namespace Cert.Proof

open Idealize.ShloMosaic Idealize.ShloMosaic.TcCoe Idealize.SL.Sem
open Cert.Mixed

/-- The precondition, read at an entry. -/
theorem finite_at (m : (ℓ : Loc Cert.OutEvenIdeal.nD Cert.OutEvenIdeal.τ Cert.OutEvenIdeal.sig) → Buf (Elt Ideal) ℓ)
    (h : Cert.Pre_OutEvenIdeal_largest_finite (hPre_largest_finite := Cert.Pre_largest_finite.Gen.facts) m) (c : Dev Cert.OutEvenIdeal.nD) (n : Fin 32768) (k : Fin 256) :
    ∃ r : ℝ, max (α := EReal) (max (α := EReal) ((m ((c.tc : Thread Cert.OutEvenIdeal.nD Cert.OutEvenIdeal.τ).loc Cert.OutEvenIdeal.main_arg4) : FVec Ideal ⟨2, ![32768, 256]⟩ .f32) (ix2 n k) : EReal)
        ((m ((c.tc : Thread Cert.OutEvenIdeal.nD Cert.OutEvenIdeal.τ).loc Cert.OutEvenIdeal.main_arg5) : FVec Ideal ⟨2, ![32768, 256]⟩ .f32) (ix2 n k) : EReal))
        ((m ((c.tc : Thread Cert.OutEvenIdeal.nD Cert.OutEvenIdeal.τ).loc Cert.OutEvenIdeal.main_arg6) : FVec Ideal ⟨2, ![32768, 256]⟩ .f32) (ix2 n k) : EReal) = r := by
  have e := congrFun (h c) (ix2 n k)
  unfold Cert.Pre_largest_finite.fn at e
  obtain ⟨r, hr⟩ := finite_of _ _ _ e
  rw [maximum_at, maximum_at] at hr
  exact ⟨r, hr⟩

/-- Both programs leave the same result where the largest log-sum-exp is finite. -/
theorem algebraic_out_even : Cert.algebraic_OutEvenIdeal_OutEvenRefIdeal_pre_largest_finite (hPre_largest_finite := Cert.Pre_largest_finite.Gen.facts) := by
  intro m g m' g' hp hargs
  refine ⟨_, ?_, Cert.OutEvenRefIdeal.Value.run (F := Ideal) m' g'⟩
  refine (θ_run Cert.OutEvenIdeal.defs _ _).mono (fun _ h c => ⟨(h c).1.trans (Cert.OutEvenIdeal.Whole.array_eq m c _ fun t r d => ?_), (h c).2⟩)
    (Cert.OutEvenIdeal.Value.run_blocks (F := Ideal) m g)
  obtain ⟨h0, h1, h2, h3, h4, h5, h6, h7, h8, h9⟩ := hargs c
  refine (Cert.OutEvenIdeal.Whole.point_at m c t r d).trans (Eq.trans ?_ ((congrFun (Cert.OutEvenRefIdeal.Whole.result_eq m' c) _).trans
    ((congrArg _ (congrArg (fun n => ix2 n d) (Cert.Token.row_eq t r))).trans (Cert.OutEvenRefIdeal.Whole.value_at _ _ _ _ _ _ _ d))).symm)
  rw [h0, h1, h2, h3, h4, h5, h6, h7, h8, h9]
  refine projected_congr rfl rfl (fun _ => rfl) (fun k => ?_) fun _ => rfl
  rw [← Cert.Token.row_eq t r]
  exact (Cert.OutEvenRefIdeal.Whole.mixes_mixed _ _ _ _ _ _ _ k (finite_at m hp c (Cert.Token.row t r) k)).symm

end Cert.Proof

end
-- ==== Proof.lean ====
module

public import proofs.«01_k».proof.Defs
public import proofs.«01_k».proof.Proof.Gen.EvenIn.Frame
public import proofs.«01_k».proof.Proof.Gen.OddIn.Frame
public import proofs.«01_k».proof.Proof.Gen.KeyValue.Frame
public import proofs.«01_k».proof.Proof.Gen.OutOdd.Frame
public import proofs.«01_k».proof.Proof.Gen.OutEven.Frame
public import proofs.«01_k».proof.Proof.Frames
public import proofs.«01_k».proof.Proof.Equal
public import proofs.«01_k».proof.Proof.EvenInEqual
public import proofs.«01_k».proof.Proof.OddInEqual
public import proofs.«01_k».proof.Proof.KeyValue
public import proofs.«01_k».proof.Proof.OutOdd
public import proofs.«01_k».proof.Proof.OutEvenEqual

@[expose] public section

noncomputable section

namespace Cert.Proof

open Idealize.ShloMosaic Idealize.SL.Sem

/-- The claims of this problem, one after another: the runs of each call's three programs, then what each call's programs leave. -/
theorem claim : Cert.Claim := ⟨Cert.Moe.Gen.facts, Cert.MoeIdeal.Gen.facts, Cert.MoeRefIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, Cert.KeyValue.Gen.facts, Cert.KeyValueIdeal.Gen.facts, Cert.KeyValueRefIdeal.Gen.facts, Cert.OutOdd.Gen.facts, Cert.OutOddIdeal.Gen.facts, Cert.OutOddRefIdeal.Gen.facts, Cert.OutEven.Gen.facts, Cert.OutEvenIdeal.Gen.facts, Cert.OutEvenRefIdeal.Gen.facts, Cert.Pre_largest_finite.Gen.facts,
  frame_kernel, frame_ideal, frame_reference,
  fun m ρ _ => Cert.EvenIn.Gen.frame m ρ, fun m ρ _ => Cert.EvenInIdeal.Gen.frame m ρ,
  fun m ρ _ => (θ_run Cert.EvenInRefIdeal.defs _ _).mono (fun _ h => ⟨fun c => (h c).2.2, sem_eq_zero_of_no_sems (by decide) _⟩) (Cert.EvenInRefIdeal.Value.run (F := Ideal) m ρ),
  fun m ρ _ => Cert.OddIn.Gen.frame m ρ, fun m ρ _ => Cert.OddInIdeal.Gen.frame m ρ,
  fun m ρ _ => (θ_run Cert.OddInRefIdeal.defs _ _).mono (fun _ h => ⟨fun c => (h c).2.2, sem_eq_zero_of_no_sems (by decide) _⟩) (Cert.OddInRefIdeal.Value.run (F := Ideal) m ρ),
  fun m ρ _ => Cert.KeyValue.Gen.frame m ρ, fun m ρ _ => Cert.KeyValueIdeal.Gen.frame m ρ,
  fun m ρ _ => (θ_run Cert.KeyValueRefIdeal.defs _ _).mono (fun _ h => ⟨fun c => (h c).2, sem_eq_zero_of_no_sems (by decide) _⟩) (Cert.KeyValueRefIdeal.Value.run (F := Ideal) m ρ),
  fun m ρ _ => Cert.OutOdd.Gen.frame m ρ, fun m ρ _ => Cert.OutOddIdeal.Gen.frame m ρ,
  fun m ρ _ => (θ_run Cert.OutOddRefIdeal.defs _ _).mono (fun _ h => ⟨fun c => (h c).2, sem_eq_zero_of_no_sems (by decide) _⟩) (Cert.OutOddRefIdeal.Value.run (F := Ideal) m ρ),
  fun m ρ _ => Cert.OutEven.Gen.frame m ρ, fun m ρ _ => Cert.OutEvenIdeal.Gen.frame m ρ, fun m ρ _ => Cert.OutEvenIdeal.Gen.frame m ρ,
  fun m ρ _ => (θ_run Cert.OutEvenRefIdeal.defs _ _).mono (fun _ h => ⟨fun c => (h c).2, sem_eq_zero_of_no_sems (by decide) _⟩) (Cert.OutEvenRefIdeal.Value.run (F := Ideal) m ρ),
  fun m ρ _ => (θ_run Cert.OutEvenRefIdeal.defs _ _).mono (fun _ h => ⟨fun c => (h c).2, sem_eq_zero_of_no_sems (by decide) _⟩) (Cert.OutEvenRefIdeal.Value.run (F := Ideal) m ρ),
  trivial, algebraic, trivial, algebraic_even_in, trivial, algebraic_odd_in, trivial, algebraic_key_value, trivial, algebraic_out_odd, trivial, algebraic_out_even⟩

end Cert.Proof

end
